-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_FoxPrep (m : (ℓ : Loc Cert.FoxPrep.nD Cert.FoxPrep.τ Cert.FoxPrep.sig) → Buf (Elt Bits) ℓ) : Prop :=
  True

def Pre_FoxPrepIdeal (m : (ℓ : Loc Cert.FoxPrepIdeal.nD Cert.FoxPrepIdeal.τ Cert.FoxPrepIdeal.sig) → Buf (Elt Ideal) ℓ) : Prop :=
  True

def Pre_FoxPrepRefIdeal (m : (ℓ : Loc Cert.FoxPrepRefIdeal.nD Cert.FoxPrepRefIdeal.τ Cert.FoxPrepRefIdeal.sig) → Buf (Elt Ideal) ℓ) : Prop :=
  True

def Pre_EvenProj (m : (ℓ : Loc Cert.EvenProj.nD Cert.EvenProj.τ Cert.EvenProj.sig) → Buf (Elt Bits) ℓ) : Prop :=
  True

def Pre_EvenProjIdeal (m : (ℓ : Loc Cert.EvenProjIdeal.nD Cert.EvenProjIdeal.τ Cert.EvenProjIdeal.sig) → Buf (Elt Ideal) ℓ) : Prop :=
  True

def Pre_EvenProjRefIdeal (m : (ℓ : Loc Cert.EvenProjRefIdeal.nD Cert.EvenProjRefIdeal.τ Cert.EvenProjRefIdeal.sig) → Buf (Elt Ideal) ℓ) : Prop :=
  True

def Pre_OddProj (m : (ℓ : Loc Cert.OddProj.nD Cert.OddProj.τ Cert.OddProj.sig) → Buf (Elt Bits) ℓ) : Prop :=
  True

def Pre_OddProjIdeal (m : (ℓ : Loc Cert.OddProjIdeal.nD Cert.OddProjIdeal.τ Cert.OddProjIdeal.sig) → Buf (Elt Ideal) ℓ) : Prop :=
  True

def Pre_OddProjRefIdeal (m : (ℓ : Loc Cert.OddProjRefIdeal.nD Cert.OddProjRefIdeal.τ Cert.OddProjRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_FoxPrepS (m : (ℓ : Loc Cert.FoxPrepS.nD Cert.FoxPrepS.τ Cert.FoxPrepS.sig) → Buf (Elt Bits) ℓ) : Prop :=
  True

def Pre_FoxPrepSIdeal (m : (ℓ : Loc Cert.FoxPrepSIdeal.nD Cert.FoxPrepSIdeal.τ Cert.FoxPrepSIdeal.sig) → Buf (Elt Ideal) ℓ) : Prop :=
  True

def Pre_FoxPrepSRefIdeal (m : (ℓ : Loc Cert.FoxPrepSRefIdeal.nD Cert.FoxPrepSRefIdeal.τ Cert.FoxPrepSRefIdeal.sig) → Buf (Elt Ideal) ℓ) : Prop :=
  True

def Pre_FfnDownS (m : (ℓ : Loc Cert.FfnDownS.nD Cert.FfnDownS.τ Cert.FfnDownS.sig) → Buf (Elt Bits) ℓ) : Prop :=
  True

def Pre_FfnDownSIdeal (m : (ℓ : Loc Cert.FfnDownSIdeal.nD Cert.FfnDownSIdeal.τ Cert.FfnDownSIdeal.sig) → Buf (Elt Ideal) ℓ) : Prop :=
  True

def Pre_FfnDownSRefIdeal (m : (ℓ : Loc Cert.FfnDownSRefIdeal.nD Cert.FfnDownSRefIdeal.τ Cert.FfnDownSRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_FoxPrep [hFoxPrep : Cert.FoxPrep.Facts] : Prop :=
  ∀ (m : (ℓ : Loc Cert.FoxPrep.nD Cert.FoxPrep.τ Cert.FoxPrep.sig) → Buf (Elt Bits) ℓ) (g : Dev Cert.FoxPrep.nD → PrngReg), Pre_FoxPrep m →
    θ_run (Cert.FoxPrep.defs (F := Bits)) (onTc (τ := Cert.FoxPrep.τ) (Cert.FoxPrep.main (F := Bits))) ⟨m, fun _ => 0, g⟩ (fun r => (∀ c : Dev Cert.FoxPrep.nD,
      r.2.mem ((c.tc : Thread Cert.FoxPrep.nD Cert.FoxPrep.τ).loc Cert.FoxPrep.main_arg0) = m ((c.tc : Thread Cert.FoxPrep.nD Cert.FoxPrep.τ).loc Cert.FoxPrep.main_arg0)
      ∧ r.2.mem ((c.tc : Thread Cert.FoxPrep.nD Cert.FoxPrep.τ).loc Cert.FoxPrep.main_arg1) = m ((c.tc : Thread Cert.FoxPrep.nD Cert.FoxPrep.τ).loc Cert.FoxPrep.main_arg1))
      ∧ r.2.sem = fun _ => 0)

def quiescent_FoxPrepIdeal [hFoxPrepIdeal : Cert.FoxPrepIdeal.Facts] : Prop :=
  ∀ (m : (ℓ : Loc Cert.FoxPrepIdeal.nD Cert.FoxPrepIdeal.τ Cert.FoxPrepIdeal.sig) → Buf (Elt Ideal) ℓ) (g : Dev Cert.FoxPrepIdeal.nD → PrngReg), Pre_FoxPrepIdeal m →
    θ_run (Cert.FoxPrepIdeal.defs (F := Ideal)) (onTc (τ := Cert.FoxPrepIdeal.τ) (Cert.FoxPrepIdeal.main (F := Ideal))) ⟨m, fun _ => 0, g⟩ (fun r => (∀ c : Dev Cert.FoxPrepIdeal.nD,
      r.2.mem ((c.tc : Thread Cert.FoxPrepIdeal.nD Cert.FoxPrepIdeal.τ).loc Cert.FoxPrepIdeal.main_arg0) = m ((c.tc : Thread Cert.FoxPrepIdeal.nD Cert.FoxPrepIdeal.τ).loc Cert.FoxPrepIdeal.main_arg0)
      ∧ r.2.mem ((c.tc : Thread Cert.FoxPrepIdeal.nD Cert.FoxPrepIdeal.τ).loc Cert.FoxPrepIdeal.main_arg1) = m ((c.tc : Thread Cert.FoxPrepIdeal.nD Cert.FoxPrepIdeal.τ).loc Cert.FoxPrepIdeal.main_arg1))
      ∧ r.2.sem = fun _ => 0)

def quiescent_FoxPrepRefIdeal [hFoxPrepRefIdeal : Cert.FoxPrepRefIdeal.Facts] : Prop :=
  ∀ (m : (ℓ : Loc Cert.FoxPrepRefIdeal.nD Cert.FoxPrepRefIdeal.τ Cert.FoxPrepRefIdeal.sig) → Buf (Elt Ideal) ℓ) (g : Dev Cert.FoxPrepRefIdeal.nD → PrngReg), Pre_FoxPrepRefIdeal m →
    θ_run (Cert.FoxPrepRefIdeal.defs (F := Ideal)) (onTc (τ := Cert.FoxPrepRefIdeal.τ) (Cert.FoxPrepRefIdeal.main (F := Ideal))) ⟨m, fun _ => 0, g⟩ (fun r => (∀ c : Dev Cert.FoxPrepRefIdeal.nD,
      r.2.mem ((c.tc : Thread Cert.FoxPrepRefIdeal.nD Cert.FoxPrepRefIdeal.τ).loc Cert.FoxPrepRefIdeal.main_arg0) = m ((c.tc : Thread Cert.FoxPrepRefIdeal.nD Cert.FoxPrepRefIdeal.τ).loc Cert.FoxPrepRefIdeal.main_arg0)
      ∧ r.2.mem ((c.tc : Thread Cert.FoxPrepRefIdeal.nD Cert.FoxPrepRefIdeal.τ).loc Cert.FoxPrepRefIdeal.main_arg1) = m ((c.tc : Thread Cert.FoxPrepRefIdeal.nD Cert.FoxPrepRefIdeal.τ).loc Cert.FoxPrepRefIdeal.main_arg1))
      ∧ r.2.sem = fun _ => 0)

def quiescent_EvenProj [hEvenProj : Cert.EvenProj.Facts] : Prop :=
  ∀ (m : (ℓ : Loc Cert.EvenProj.nD Cert.EvenProj.τ Cert.EvenProj.sig) → Buf (Elt Bits) ℓ) (g : Dev Cert.EvenProj.nD → PrngReg), Pre_EvenProj m →
    θ_run (Cert.EvenProj.defs (F := Bits)) (onTc (τ := Cert.EvenProj.τ) (Cert.EvenProj.main (F := Bits))) ⟨m, fun _ => 0, g⟩ (fun r => (∀ c : Dev Cert.EvenProj.nD,
      r.2.mem ((c.tc : Thread Cert.EvenProj.nD Cert.EvenProj.τ).loc Cert.EvenProj.main_arg0) = m ((c.tc : Thread Cert.EvenProj.nD Cert.EvenProj.τ).loc Cert.EvenProj.main_arg0)
      ∧ r.2.mem ((c.tc : Thread Cert.EvenProj.nD Cert.EvenProj.τ).loc Cert.EvenProj.main_arg1) = m ((c.tc : Thread Cert.EvenProj.nD Cert.EvenProj.τ).loc Cert.EvenProj.main_arg1)
      ∧ r.2.mem ((c.tc : Thread Cert.EvenProj.nD Cert.EvenProj.τ).loc Cert.EvenProj.main_arg2) = m ((c.tc : Thread Cert.EvenProj.nD Cert.EvenProj.τ).loc Cert.EvenProj.main_arg2)
      ∧ r.2.mem ((c.tc : Thread Cert.EvenProj.nD Cert.EvenProj.τ).loc Cert.EvenProj.main_arg3) = m ((c.tc : Thread Cert.EvenProj.nD Cert.EvenProj.τ).loc Cert.EvenProj.main_arg3)
      ∧ r.2.mem ((c.tc : Thread Cert.EvenProj.nD Cert.EvenProj.τ).loc Cert.EvenProj.main_arg4) = m ((c.tc : Thread Cert.EvenProj.nD Cert.EvenProj.τ).loc Cert.EvenProj.main_arg4)
      ∧ r.2.mem ((c.tc : Thread Cert.EvenProj.nD Cert.EvenProj.τ).loc Cert.EvenProj.main_arg5) = m ((c.tc : Thread Cert.EvenProj.nD Cert.EvenProj.τ).loc Cert.EvenProj.main_arg5)
      ∧ r.2.mem ((c.tc : Thread Cert.EvenProj.nD Cert.EvenProj.τ).loc Cert.EvenProj.main_arg6) = m ((c.tc : Thread Cert.EvenProj.nD Cert.EvenProj.τ).loc Cert.EvenProj.main_arg6))
      ∧ r.2.sem = fun _ => 0)

def quiescent_EvenProjIdeal [hEvenProjIdeal : Cert.EvenProjIdeal.Facts] : Prop :=
  ∀ (m : (ℓ : Loc Cert.EvenProjIdeal.nD Cert.EvenProjIdeal.τ Cert.EvenProjIdeal.sig) → Buf (Elt Ideal) ℓ) (g : Dev Cert.EvenProjIdeal.nD → PrngReg), Pre_EvenProjIdeal m →
    θ_run (Cert.EvenProjIdeal.defs (F := Ideal)) (onTc (τ := Cert.EvenProjIdeal.τ) (Cert.EvenProjIdeal.main (F := Ideal))) ⟨m, fun _ => 0, g⟩ (fun r => (∀ c : Dev Cert.EvenProjIdeal.nD,
      r.2.mem ((c.tc : Thread Cert.EvenProjIdeal.nD Cert.EvenProjIdeal.τ).loc Cert.EvenProjIdeal.main_arg0) = m ((c.tc : Thread Cert.EvenProjIdeal.nD Cert.EvenProjIdeal.τ).loc Cert.EvenProjIdeal.main_arg0)
      ∧ r.2.mem ((c.tc : Thread Cert.EvenProjIdeal.nD Cert.EvenProjIdeal.τ).loc Cert.EvenProjIdeal.main_arg1) = m ((c.tc : Thread Cert.EvenProjIdeal.nD Cert.EvenProjIdeal.τ).loc Cert.EvenProjIdeal.main_arg1)
      ∧ r.2.mem ((c.tc : Thread Cert.EvenProjIdeal.nD Cert.EvenProjIdeal.τ).loc Cert.EvenProjIdeal.main_arg2) = m ((c.tc : Thread Cert.EvenProjIdeal.nD Cert.EvenProjIdeal.τ).loc Cert.EvenProjIdeal.main_arg2)
      ∧ r.2.mem ((c.tc : Thread Cert.EvenProjIdeal.nD Cert.EvenProjIdeal.τ).loc Cert.EvenProjIdeal.main_arg3) = m ((c.tc : Thread Cert.EvenProjIdeal.nD Cert.EvenProjIdeal.τ).loc Cert.EvenProjIdeal.main_arg3)
      ∧ r.2.mem ((c.tc : Thread Cert.EvenProjIdeal.nD Cert.EvenProjIdeal.τ).loc Cert.EvenProjIdeal.main_arg4) = m ((c.tc : Thread Cert.EvenProjIdeal.nD Cert.EvenProjIdeal.τ).loc Cert.EvenProjIdeal.main_arg4)
      ∧ r.2.mem ((c.tc : Thread Cert.EvenProjIdeal.nD Cert.EvenProjIdeal.τ).loc Cert.EvenProjIdeal.main_arg5) = m ((c.tc : Thread Cert.EvenProjIdeal.nD Cert.EvenProjIdeal.τ).loc Cert.EvenProjIdeal.main_arg5)
      ∧ r.2.mem ((c.tc : Thread Cert.EvenProjIdeal.nD Cert.EvenProjIdeal.τ).loc Cert.EvenProjIdeal.main_arg6) = m ((c.tc : Thread Cert.EvenProjIdeal.nD Cert.EvenProjIdeal.τ).loc Cert.EvenProjIdeal.main_arg6))
      ∧ r.2.sem = fun _ => 0)

def quiescent_EvenProjRefIdeal [hEvenProjRefIdeal : Cert.EvenProjRefIdeal.Facts] : Prop :=
  ∀ (m : (ℓ : Loc Cert.EvenProjRefIdeal.nD Cert.EvenProjRefIdeal.τ Cert.EvenProjRefIdeal.sig) → Buf (Elt Ideal) ℓ) (g : Dev Cert.EvenProjRefIdeal.nD → PrngReg), Pre_EvenProjRefIdeal m →
    θ_run (Cert.EvenProjRefIdeal.defs (F := Ideal)) (onTc (τ := Cert.EvenProjRefIdeal.τ) (Cert.EvenProjRefIdeal.main (F := Ideal))) ⟨m, fun _ => 0, g⟩ (fun r => (∀ c : Dev Cert.EvenProjRefIdeal.nD,
      r.2.mem ((c.tc : Thread Cert.EvenProjRefIdeal.nD Cert.EvenProjRefIdeal.τ).loc Cert.EvenProjRefIdeal.main_arg0) = m ((c.tc : Thread Cert.EvenProjRefIdeal.nD Cert.EvenProjRefIdeal.τ).loc Cert.EvenProjRefIdeal.main_arg0)
      ∧ r.2.mem ((c.tc : Thread Cert.EvenProjRefIdeal.nD Cert.EvenProjRefIdeal.τ).loc Cert.EvenProjRefIdeal.main_arg1) = m ((c.tc : Thread Cert.EvenProjRefIdeal.nD Cert.EvenProjRefIdeal.τ).loc Cert.EvenProjRefIdeal.main_arg1)
      ∧ r.2.mem ((c.tc : Thread Cert.EvenProjRefIdeal.nD Cert.EvenProjRefIdeal.τ).loc Cert.EvenProjRefIdeal.main_arg2) = m ((c.tc : Thread Cert.EvenProjRefIdeal.nD Cert.EvenProjRefIdeal.τ).loc Cert.EvenProjRefIdeal.main_arg2)
      ∧ r.2.mem ((c.tc : Thread Cert.EvenProjRefIdeal.nD Cert.EvenProjRefIdeal.τ).loc Cert.EvenProjRefIdeal.main_arg3) = m ((c.tc : Thread Cert.EvenProjRefIdeal.nD Cert.EvenProjRefIdeal.τ).loc Cert.EvenProjRefIdeal.main_arg3)
      ∧ r.2.mem ((c.tc : Thread Cert.EvenProjRefIdeal.nD Cert.EvenProjRefIdeal.τ).loc Cert.EvenProjRefIdeal.main_arg4) = m ((c.tc : Thread Cert.EvenProjRefIdeal.nD Cert.EvenProjRefIdeal.τ).loc Cert.EvenProjRefIdeal.main_arg4)
      ∧ r.2.mem ((c.tc : Thread Cert.EvenProjRefIdeal.nD Cert.EvenProjRefIdeal.τ).loc Cert.EvenProjRefIdeal.main_arg5) = m ((c.tc : Thread Cert.EvenProjRefIdeal.nD Cert.EvenProjRefIdeal.τ).loc Cert.EvenProjRefIdeal.main_arg5)
      ∧ r.2.mem ((c.tc : Thread Cert.EvenProjRefIdeal.nD Cert.EvenProjRefIdeal.τ).loc Cert.EvenProjRefIdeal.main_arg6) = m ((c.tc : Thread Cert.EvenProjRefIdeal.nD Cert.EvenProjRefIdeal.τ).loc Cert.EvenProjRefIdeal.main_arg6))
      ∧ r.2.sem = fun _ => 0)

def quiescent_OddProj [hOddProj : Cert.OddProj.Facts] : Prop :=
  ∀ (m : (ℓ : Loc Cert.OddProj.nD Cert.OddProj.τ Cert.OddProj.sig) → Buf (Elt Bits) ℓ) (g : Dev Cert.OddProj.nD → PrngReg), Pre_OddProj m →
    θ_run (Cert.OddProj.defs (F := Bits)) (onTc (τ := Cert.OddProj.τ) (Cert.OddProj.main (F := Bits))) ⟨m, fun _ => 0, g⟩ (fun r => (∀ c : Dev Cert.OddProj.nD,
      r.2.mem ((c.tc : Thread Cert.OddProj.nD Cert.OddProj.τ).loc Cert.OddProj.main_arg0) = m ((c.tc : Thread Cert.OddProj.nD Cert.OddProj.τ).loc Cert.OddProj.main_arg0)
      ∧ r.2.mem ((c.tc : Thread Cert.OddProj.nD Cert.OddProj.τ).loc Cert.OddProj.main_arg1) = m ((c.tc : Thread Cert.OddProj.nD Cert.OddProj.τ).loc Cert.OddProj.main_arg1)
      ∧ r.2.mem ((c.tc : Thread Cert.OddProj.nD Cert.OddProj.τ).loc Cert.OddProj.main_arg2) = m ((c.tc : Thread Cert.OddProj.nD Cert.OddProj.τ).loc Cert.OddProj.main_arg2))
      ∧ r.2.sem = fun _ => 0)

def quiescent_OddProjIdeal [hOddProjIdeal : Cert.OddProjIdeal.Facts] : Prop :=
  ∀ (m : (ℓ : Loc Cert.OddProjIdeal.nD Cert.OddProjIdeal.τ Cert.OddProjIdeal.sig) → Buf (Elt Ideal) ℓ) (g : Dev Cert.OddProjIdeal.nD → PrngReg), Pre_OddProjIdeal m →
    θ_run (Cert.OddProjIdeal.defs (F := Ideal)) (onTc (τ := Cert.OddProjIdeal.τ) (Cert.OddProjIdeal.main (F := Ideal))) ⟨m, fun _ => 0, g⟩ (fun r => (∀ c : Dev Cert.OddProjIdeal.nD,
      r.2.mem ((c.tc : Thread Cert.OddProjIdeal.nD Cert.OddProjIdeal.τ).loc Cert.OddProjIdeal.main_arg0) = m ((c.tc : Thread Cert.OddProjIdeal.nD Cert.OddProjIdeal.τ).loc Cert.OddProjIdeal.main_arg0)
      ∧ r.2.mem ((c.tc : Thread Cert.OddProjIdeal.nD Cert.OddProjIdeal.τ).loc Cert.OddProjIdeal.main_arg1) = m ((c.tc : Thread Cert.OddProjIdeal.nD Cert.OddProjIdeal.τ).loc Cert.OddProjIdeal.main_arg1)
      ∧ r.2.mem ((c.tc : Thread Cert.OddProjIdeal.nD Cert.OddProjIdeal.τ).loc Cert.OddProjIdeal.main_arg2) = m ((c.tc : Thread Cert.OddProjIdeal.nD Cert.OddProjIdeal.τ).loc Cert.OddProjIdeal.main_arg2))
      ∧ r.2.sem = fun _ => 0)

def quiescent_OddProjRefIdeal [hOddProjRefIdeal : Cert.OddProjRefIdeal.Facts] : Prop :=
  ∀ (m : (ℓ : Loc Cert.OddProjRefIdeal.nD Cert.OddProjRefIdeal.τ Cert.OddProjRefIdeal.sig) → Buf (Elt Ideal) ℓ) (g : Dev Cert.OddProjRefIdeal.nD → PrngReg), Pre_OddProjRefIdeal m →
    θ_run (Cert.OddProjRefIdeal.defs (F := Ideal)) (onTc (τ := Cert.OddProjRefIdeal.τ) (Cert.OddProjRefIdeal.main (F := Ideal))) ⟨m, fun _ => 0, g⟩ (fun r => (∀ c : Dev Cert.OddProjRefIdeal.nD,
      r.2.mem ((c.tc : Thread Cert.OddProjRefIdeal.nD Cert.OddProjRefIdeal.τ).loc Cert.OddProjRefIdeal.main_arg0) = m ((c.tc : Thread Cert.OddProjRefIdeal.nD Cert.OddProjRefIdeal.τ).loc Cert.OddProjRefIdeal.main_arg0)
      ∧ r.2.mem ((c.tc : Thread Cert.OddProjRefIdeal.nD Cert.OddProjRefIdeal.τ).loc Cert.OddProjRefIdeal.main_arg1) = m ((c.tc : Thread Cert.OddProjRefIdeal.nD Cert.OddProjRefIdeal.τ).loc Cert.OddProjRefIdeal.main_arg1)
      ∧ r.2.mem ((c.tc : Thread Cert.OddProjRefIdeal.nD Cert.OddProjRefIdeal.τ).loc Cert.OddProjRefIdeal.main_arg2) = m ((c.tc : Thread Cert.OddProjRefIdeal.nD Cert.OddProjRefIdeal.τ).loc Cert.OddProjRefIdeal.main_arg2))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_FoxPrepS [hFoxPrepS : Cert.FoxPrepS.Facts] : Prop :=
  ∀ (m : (ℓ : Loc Cert.FoxPrepS.nD Cert.FoxPrepS.τ Cert.FoxPrepS.sig) → Buf (Elt Bits) ℓ) (g : Dev Cert.FoxPrepS.nD → PrngReg), Pre_FoxPrepS m →
    θ_run (Cert.FoxPrepS.defs (F := Bits)) (onTc (τ := Cert.FoxPrepS.τ) (Cert.FoxPrepS.main (F := Bits))) ⟨m, fun _ => 0, g⟩ (fun r => (∀ c : Dev Cert.FoxPrepS.nD,
      r.2.mem ((c.tc : Thread Cert.FoxPrepS.nD Cert.FoxPrepS.τ).loc Cert.FoxPrepS.main_arg0) = m ((c.tc : Thread Cert.FoxPrepS.nD Cert.FoxPrepS.τ).loc Cert.FoxPrepS.main_arg0)
      ∧ r.2.mem ((c.tc : Thread Cert.FoxPrepS.nD Cert.FoxPrepS.τ).loc Cert.FoxPrepS.main_arg1) = m ((c.tc : Thread Cert.FoxPrepS.nD Cert.FoxPrepS.τ).loc Cert.FoxPrepS.main_arg1))
      ∧ r.2.sem = fun _ => 0)

def quiescent_FoxPrepSIdeal [hFoxPrepSIdeal : Cert.FoxPrepSIdeal.Facts] : Prop :=
  ∀ (m : (ℓ : Loc Cert.FoxPrepSIdeal.nD Cert.FoxPrepSIdeal.τ Cert.FoxPrepSIdeal.sig) → Buf (Elt Ideal) ℓ) (g : Dev Cert.FoxPrepSIdeal.nD → PrngReg), Pre_FoxPrepSIdeal m →
    θ_run (Cert.FoxPrepSIdeal.defs (F := Ideal)) (onTc (τ := Cert.FoxPrepSIdeal.τ) (Cert.FoxPrepSIdeal.main (F := Ideal))) ⟨m, fun _ => 0, g⟩ (fun r => (∀ c : Dev Cert.FoxPrepSIdeal.nD,
      r.2.mem ((c.tc : Thread Cert.FoxPrepSIdeal.nD Cert.FoxPrepSIdeal.τ).loc Cert.FoxPrepSIdeal.main_arg0) = m ((c.tc : Thread Cert.FoxPrepSIdeal.nD Cert.FoxPrepSIdeal.τ).loc Cert.FoxPrepSIdeal.main_arg0)
      ∧ r.2.mem ((c.tc : Thread Cert.FoxPrepSIdeal.nD Cert.FoxPrepSIdeal.τ).loc Cert.FoxPrepSIdeal.main_arg1) = m ((c.tc : Thread Cert.FoxPrepSIdeal.nD Cert.FoxPrepSIdeal.τ).loc Cert.FoxPrepSIdeal.main_arg1))
      ∧ r.2.sem = fun _ => 0)

def quiescent_FoxPrepSRefIdeal [hFoxPrepSRefIdeal : Cert.FoxPrepSRefIdeal.Facts] : Prop :=
  ∀ (m : (ℓ : Loc Cert.FoxPrepSRefIdeal.nD Cert.FoxPrepSRefIdeal.τ Cert.FoxPrepSRefIdeal.sig) → Buf (Elt Ideal) ℓ) (g : Dev Cert.FoxPrepSRefIdeal.nD → PrngReg), Pre_FoxPrepSRefIdeal m →
    θ_run (Cert.FoxPrepSRefIdeal.defs (F := Ideal)) (onTc (τ := Cert.FoxPrepSRefIdeal.τ) (Cert.FoxPrepSRefIdeal.main (F := Ideal))) ⟨m, fun _ => 0, g⟩ (fun r => (∀ c : Dev Cert.FoxPrepSRefIdeal.nD,
      r.2.mem ((c.tc : Thread Cert.FoxPrepSRefIdeal.nD Cert.FoxPrepSRefIdeal.τ).loc Cert.FoxPrepSRefIdeal.main_arg0) = m ((c.tc : Thread Cert.FoxPrepSRefIdeal.nD Cert.FoxPrepSRefIdeal.τ).loc Cert.FoxPrepSRefIdeal.main_arg0)
      ∧ r.2.mem ((c.tc : Thread Cert.FoxPrepSRefIdeal.nD Cert.FoxPrepSRefIdeal.τ).loc Cert.FoxPrepSRefIdeal.main_arg1) = m ((c.tc : Thread Cert.FoxPrepSRefIdeal.nD Cert.FoxPrepSRefIdeal.τ).loc Cert.FoxPrepSRefIdeal.main_arg1))
      ∧ r.2.sem = fun _ => 0)

def quiescent_FfnDownS [hFfnDownS : Cert.FfnDownS.Facts] : Prop :=
  ∀ (m : (ℓ : Loc Cert.FfnDownS.nD Cert.FfnDownS.τ Cert.FfnDownS.sig) → Buf (Elt Bits) ℓ) (g : Dev Cert.FfnDownS.nD → PrngReg), Pre_FfnDownS m →
    θ_run (Cert.FfnDownS.defs (F := Bits)) (onTc (τ := Cert.FfnDownS.τ) (Cert.FfnDownS.main (F := Bits))) ⟨m, fun _ => 0, g⟩ (fun r => (∀ c : Dev Cert.FfnDownS.nD,
      r.2.mem ((c.tc : Thread Cert.FfnDownS.nD Cert.FfnDownS.τ).loc Cert.FfnDownS.main_arg0) = m ((c.tc : Thread Cert.FfnDownS.nD Cert.FfnDownS.τ).loc Cert.FfnDownS.main_arg0)
      ∧ r.2.mem ((c.tc : Thread Cert.FfnDownS.nD Cert.FfnDownS.τ).loc Cert.FfnDownS.main_arg1) = m ((c.tc : Thread Cert.FfnDownS.nD Cert.FfnDownS.τ).loc Cert.FfnDownS.main_arg1)
      ∧ r.2.mem ((c.tc : Thread Cert.FfnDownS.nD Cert.FfnDownS.τ).loc Cert.FfnDownS.main_arg2) = m ((c.tc : Thread Cert.FfnDownS.nD Cert.FfnDownS.τ).loc Cert.FfnDownS.main_arg2))
      ∧ r.2.sem = fun _ => 0)

def quiescent_FfnDownSIdeal [hFfnDownSIdeal : Cert.FfnDownSIdeal.Facts] : Prop :=
  ∀ (m : (ℓ : Loc Cert.FfnDownSIdeal.nD Cert.FfnDownSIdeal.τ Cert.FfnDownSIdeal.sig) → Buf (Elt Ideal) ℓ) (g : Dev Cert.FfnDownSIdeal.nD → PrngReg), Pre_FfnDownSIdeal m →
    θ_run (Cert.FfnDownSIdeal.defs (F := Ideal)) (onTc (τ := Cert.FfnDownSIdeal.τ) (Cert.FfnDownSIdeal.main (F := Ideal))) ⟨m, fun _ => 0, g⟩ (fun r => (∀ c : Dev Cert.FfnDownSIdeal.nD,
      r.2.mem ((c.tc : Thread Cert.FfnDownSIdeal.nD Cert.FfnDownSIdeal.τ).loc Cert.FfnDownSIdeal.main_arg0) = m ((c.tc : Thread Cert.FfnDownSIdeal.nD Cert.FfnDownSIdeal.τ).loc Cert.FfnDownSIdeal.main_arg0)
      ∧ r.2.mem ((c.tc : Thread Cert.FfnDownSIdeal.nD Cert.FfnDownSIdeal.τ).loc Cert.FfnDownSIdeal.main_arg1) = m ((c.tc : Thread Cert.FfnDownSIdeal.nD Cert.FfnDownSIdeal.τ).loc Cert.FfnDownSIdeal.main_arg1)
      ∧ r.2.mem ((c.tc : Thread Cert.FfnDownSIdeal.nD Cert.FfnDownSIdeal.τ).loc Cert.FfnDownSIdeal.main_arg2) = m ((c.tc : Thread Cert.FfnDownSIdeal.nD Cert.FfnDownSIdeal.τ).loc Cert.FfnDownSIdeal.main_arg2))
      ∧ r.2.sem = fun _ => 0)

def quiescent_FfnDownSRefIdeal [hFfnDownSRefIdeal : Cert.FfnDownSRefIdeal.Facts] : Prop :=
  ∀ (m : (ℓ : Loc Cert.FfnDownSRefIdeal.nD Cert.FfnDownSRefIdeal.τ Cert.FfnDownSRefIdeal.sig) → Buf (Elt Ideal) ℓ) (g : Dev Cert.FfnDownSRefIdeal.nD → PrngReg), Pre_FfnDownSRefIdeal m →
    θ_run (Cert.FfnDownSRefIdeal.defs (F := Ideal)) (onTc (τ := Cert.FfnDownSRefIdeal.τ) (Cert.FfnDownSRefIdeal.main (F := Ideal))) ⟨m, fun _ => 0, g⟩ (fun r => (∀ c : Dev Cert.FfnDownSRefIdeal.nD,
      r.2.mem ((c.tc : Thread Cert.FfnDownSRefIdeal.nD Cert.FfnDownSRefIdeal.τ).loc Cert.FfnDownSRefIdeal.main_arg0) = m ((c.tc : Thread Cert.FfnDownSRefIdeal.nD Cert.FfnDownSRefIdeal.τ).loc Cert.FfnDownSRefIdeal.main_arg0)
      ∧ r.2.mem ((c.tc : Thread Cert.FfnDownSRefIdeal.nD Cert.FfnDownSRefIdeal.τ).loc Cert.FfnDownSRefIdeal.main_arg1) = m ((c.tc : Thread Cert.FfnDownSRefIdeal.nD Cert.FfnDownSRefIdeal.τ).loc Cert.FfnDownSRefIdeal.main_arg1)
      ∧ r.2.mem ((c.tc : Thread Cert.FfnDownSRefIdeal.nD Cert.FfnDownSRefIdeal.τ).loc Cert.FfnDownSRefIdeal.main_arg2) = m ((c.tc : Thread Cert.FfnDownSRefIdeal.nD Cert.FfnDownSRefIdeal.τ).loc Cert.FfnDownSRefIdeal.main_arg2))
      ∧ r.2.sem = fun _ => 0)

def preserves_Kernel_KernelIdeal : Prop :=
  IdealRules.named_const.Statement Cert.KernelIdeal.κ "scale_log2e" .f32 0x3E0293EE#32 (((Real.sqrt 128)⁻¹ * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "neg" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_FoxPrep_FoxPrepIdeal : Prop :=
  True

def algebraic_FoxPrepIdeal_FoxPrepRefIdeal [hFoxPrepIdeal : Cert.FoxPrepIdeal.Facts] [hFoxPrepRefIdeal : Cert.FoxPrepRefIdeal.Facts] : Prop :=
  ∀ (m : (ℓ : Loc Cert.FoxPrepIdeal.nD Cert.FoxPrepIdeal.τ Cert.FoxPrepIdeal.sig) → Buf (Elt Ideal) ℓ) (g : Dev Cert.FoxPrepIdeal.nD → PrngReg)
    (m' : (ℓ : Loc Cert.FoxPrepRefIdeal.nD Cert.FoxPrepRefIdeal.τ Cert.FoxPrepRefIdeal.sig) → Buf (Elt Ideal) ℓ) (g' : Dev Cert.FoxPrepRefIdeal.nD → PrngReg), Pre_FoxPrepIdeal m →
    (∀ c : Dev Cert.FoxPrepIdeal.nD,
      m' ((c.tc : Thread Cert.FoxPrepRefIdeal.nD Cert.FoxPrepRefIdeal.τ).loc Cert.FoxPrepRefIdeal.main_arg0) = m ((c.tc : Thread Cert.FoxPrepIdeal.nD Cert.FoxPrepIdeal.τ).loc Cert.FoxPrepIdeal.main_arg0)
      ∧ m' ((c.tc : Thread Cert.FoxPrepRefIdeal.nD Cert.FoxPrepRefIdeal.τ).loc Cert.FoxPrepRefIdeal.main_arg1) = m ((c.tc : Thread Cert.FoxPrepIdeal.nD Cert.FoxPrepIdeal.τ).loc Cert.FoxPrepIdeal.main_arg1)) →
    ∃ (v0 : (c : Dev Cert.FoxPrepIdeal.nD) → Buf (Elt Ideal) ((c.tc : Thread Cert.FoxPrepIdeal.nD Cert.FoxPrepIdeal.τ).loc Cert.FoxPrepIdeal.main_v3_0)) (v1 : (c : Dev Cert.FoxPrepIdeal.nD) → Buf (Elt Ideal) ((c.tc : Thread Cert.FoxPrepIdeal.nD Cert.FoxPrepIdeal.τ).loc Cert.FoxPrepIdeal.main_v3_1)),
      θ_run (Cert.FoxPrepIdeal.defs (F := Ideal)) (onTc (τ := Cert.FoxPrepIdeal.τ) (Cert.FoxPrepIdeal.main (F := Ideal))) ⟨m, fun _ => 0, g⟩ (fun r => ∀ c : Dev Cert.FoxPrepIdeal.nD,
          r.2.mem ((c.tc : Thread Cert.FoxPrepIdeal.nD Cert.FoxPrepIdeal.τ).loc Cert.FoxPrepIdeal.main_v3_0) = v0 c
          ∧ r.2.mem ((c.tc : Thread Cert.FoxPrepIdeal.nD Cert.FoxPrepIdeal.τ).loc Cert.FoxPrepIdeal.main_v3_1) = v1 c
          ∧ r.2.mem ((c.tc : Thread Cert.FoxPrepIdeal.nD Cert.FoxPrepIdeal.τ).loc Cert.FoxPrepIdeal.main_arg0) = m ((c.tc : Thread Cert.FoxPrepIdeal.nD Cert.FoxPrepIdeal.τ).loc Cert.FoxPrepIdeal.main_arg0)
          ∧ r.2.mem ((c.tc : Thread Cert.FoxPrepIdeal.nD Cert.FoxPrepIdeal.τ).loc Cert.FoxPrepIdeal.main_arg1) = m ((c.tc : Thread Cert.FoxPrepIdeal.nD Cert.FoxPrepIdeal.τ).loc Cert.FoxPrepIdeal.main_arg1))
      ∧ θ_run (Cert.FoxPrepRefIdeal.defs (F := Ideal)) (onTc (τ := Cert.FoxPrepRefIdeal.τ) (Cert.FoxPrepRefIdeal.main (F := Ideal))) ⟨m', fun _ => 0, g'⟩ (fun r => ∀ c : Dev Cert.FoxPrepRefIdeal.nD,
          r.2.mem ((c.tc : Thread Cert.FoxPrepRefIdeal.nD Cert.FoxPrepRefIdeal.τ).loc Cert.FoxPrepRefIdeal.main_v5) = v0 c
          ∧ r.2.mem ((c.tc : Thread Cert.FoxPrepRefIdeal.nD Cert.FoxPrepRefIdeal.τ).loc Cert.FoxPrepRefIdeal.main_v6) = v1 c
          ∧ r.2.mem ((c.tc : Thread Cert.FoxPrepRefIdeal.nD Cert.FoxPrepRefIdeal.τ).loc Cert.FoxPrepRefIdeal.main_arg0) = m' ((c.tc : Thread Cert.FoxPrepRefIdeal.nD Cert.FoxPrepRefIdeal.τ).loc Cert.FoxPrepRefIdeal.main_arg0)
          ∧ r.2.mem ((c.tc : Thread Cert.FoxPrepRefIdeal.nD Cert.FoxPrepRefIdeal.τ).loc Cert.FoxPrepRefIdeal.main_arg1) = m' ((c.tc : Thread Cert.FoxPrepRefIdeal.nD Cert.FoxPrepRefIdeal.τ).loc Cert.FoxPrepRefIdeal.main_arg1))

def preserves_EvenProj_EvenProjIdeal : Prop :=
  True

def algebraic_EvenProjIdeal_EvenProjRefIdeal [hEvenProjIdeal : Cert.EvenProjIdeal.Facts] [hEvenProjRefIdeal : Cert.EvenProjRefIdeal.Facts] : Prop :=
  ∀ (m : (ℓ : Loc Cert.EvenProjIdeal.nD Cert.EvenProjIdeal.τ Cert.EvenProjIdeal.sig) → Buf (Elt Ideal) ℓ) (g : Dev Cert.EvenProjIdeal.nD → PrngReg)
    (m' : (ℓ : Loc Cert.EvenProjRefIdeal.nD Cert.EvenProjRefIdeal.τ Cert.EvenProjRefIdeal.sig) → Buf (Elt Ideal) ℓ) (g' : Dev Cert.EvenProjRefIdeal.nD → PrngReg), Pre_EvenProjIdeal m →
    (∀ c : Dev Cert.EvenProjIdeal.nD,
      m' ((c.tc : Thread Cert.EvenProjRefIdeal.nD Cert.EvenProjRefIdeal.τ).loc Cert.EvenProjRefIdeal.main_arg0) = m ((c.tc : Thread Cert.EvenProjIdeal.nD Cert.EvenProjIdeal.τ).loc Cert.EvenProjIdeal.main_arg0)
      ∧ m' ((c.tc : Thread Cert.EvenProjRefIdeal.nD Cert.EvenProjRefIdeal.τ).loc Cert.EvenProjRefIdeal.main_arg1) = m ((c.tc : Thread Cert.EvenProjIdeal.nD Cert.EvenProjIdeal.τ).loc Cert.EvenProjIdeal.main_arg1)
      ∧ m' ((c.tc : Thread Cert.EvenProjRefIdeal.nD Cert.EvenProjRefIdeal.τ).loc Cert.EvenProjRefIdeal.main_arg2) = m ((c.tc : Thread Cert.EvenProjIdeal.nD Cert.EvenProjIdeal.τ).loc Cert.EvenProjIdeal.main_arg2)
      ∧ m' ((c.tc : Thread Cert.EvenProjRefIdeal.nD Cert.EvenProjRefIdeal.τ).loc Cert.EvenProjRefIdeal.main_arg3) = m ((c.tc : Thread Cert.EvenProjIdeal.nD Cert.EvenProjIdeal.τ).loc Cert.EvenProjIdeal.main_arg3)
      ∧ m' ((c.tc : Thread Cert.EvenProjRefIdeal.nD Cert.EvenProjRefIdeal.τ).loc Cert.EvenProjRefIdeal.main_arg4) = m ((c.tc : Thread Cert.EvenProjIdeal.nD Cert.EvenProjIdeal.τ).loc Cert.EvenProjIdeal.main_arg4)
      ∧ m' ((c.tc : Thread Cert.EvenProjRefIdeal.nD Cert.EvenProjRefIdeal.τ).loc Cert.EvenProjRefIdeal.main_arg5) = m ((c.tc : Thread Cert.EvenProjIdeal.nD Cert.EvenProjIdeal.τ).loc Cert.EvenProjIdeal.main_arg5)
      ∧ m' ((c.tc : Thread Cert.EvenProjRefIdeal.nD Cert.EvenProjRefIdeal.τ).loc Cert.EvenProjRefIdeal.main_arg6) = m ((c.tc : Thread Cert.EvenProjIdeal.nD Cert.EvenProjIdeal.τ).loc Cert.EvenProjIdeal.main_arg6)) →
    ∃ (v0 : (c : Dev Cert.EvenProjIdeal.nD) → Buf (Elt Ideal) ((c.tc : Thread Cert.EvenProjIdeal.nD Cert.EvenProjIdeal.τ).loc Cert.EvenProjIdeal.main_v61_0)) (v1 : (c : Dev Cert.EvenProjIdeal.nD) → Buf (Elt Ideal) ((c.tc : Thread Cert.EvenProjIdeal.nD Cert.EvenProjIdeal.τ).loc Cert.EvenProjIdeal.main_v61_1)),
      θ_run (Cert.EvenProjIdeal.defs (F := Ideal)) (onTc (τ := Cert.EvenProjIdeal.τ) (Cert.EvenProjIdeal.main (F := Ideal))) ⟨m, fun _ => 0, g⟩ (fun r => ∀ c : Dev Cert.EvenProjIdeal.nD,
          r.2.mem ((c.tc : Thread Cert.EvenProjIdeal.nD Cert.EvenProjIdeal.τ).loc Cert.EvenProjIdeal.main_v61_0) = v0 c
          ∧ r.2.mem ((c.tc : Thread Cert.EvenProjIdeal.nD Cert.EvenProjIdeal.τ).loc Cert.EvenProjIdeal.main_v61_1) = v1 c
          ∧ r.2.mem ((c.tc : Thread Cert.EvenProjIdeal.nD Cert.EvenProjIdeal.τ).loc Cert.EvenProjIdeal.main_arg0) = m ((c.tc : Thread Cert.EvenProjIdeal.nD Cert.EvenProjIdeal.τ).loc Cert.EvenProjIdeal.main_arg0)
          ∧ r.2.mem ((c.tc : Thread Cert.EvenProjIdeal.nD Cert.EvenProjIdeal.τ).loc Cert.EvenProjIdeal.main_arg1) = m ((c.tc : Thread Cert.EvenProjIdeal.nD Cert.EvenProjIdeal.τ).loc Cert.EvenProjIdeal.main_arg1)
          ∧ r.2.mem ((c.tc : Thread Cert.EvenProjIdeal.nD Cert.EvenProjIdeal.τ).loc Cert.EvenProjIdeal.main_arg2) = m ((c.tc : Thread Cert.EvenProjIdeal.nD Cert.EvenProjIdeal.τ).loc Cert.EvenProjIdeal.main_arg2)
          ∧ r.2.mem ((c.tc : Thread Cert.EvenProjIdeal.nD Cert.EvenProjIdeal.τ).loc Cert.EvenProjIdeal.main_arg3) = m ((c.tc : Thread Cert.EvenProjIdeal.nD Cert.EvenProjIdeal.τ).loc Cert.EvenProjIdeal.main_arg3)
          ∧ r.2.mem ((c.tc : Thread Cert.EvenProjIdeal.nD Cert.EvenProjIdeal.τ).loc Cert.EvenProjIdeal.main_arg4) = m ((c.tc : Thread Cert.EvenProjIdeal.nD Cert.EvenProjIdeal.τ).loc Cert.EvenProjIdeal.main_arg4)
          ∧ r.2.mem ((c.tc : Thread Cert.EvenProjIdeal.nD Cert.EvenProjIdeal.τ).loc Cert.EvenProjIdeal.main_arg5) = m ((c.tc : Thread Cert.EvenProjIdeal.nD Cert.EvenProjIdeal.τ).loc Cert.EvenProjIdeal.main_arg5)
          ∧ r.2.mem ((c.tc : Thread Cert.EvenProjIdeal.nD Cert.EvenProjIdeal.τ).loc Cert.EvenProjIdeal.main_arg6) = m ((c.tc : Thread Cert.EvenProjIdeal.nD Cert.EvenProjIdeal.τ).loc Cert.EvenProjIdeal.main_arg6))
      ∧ θ_run (Cert.EvenProjRefIdeal.defs (F := Ideal)) (onTc (τ := Cert.EvenProjRefIdeal.τ) (Cert.EvenProjRefIdeal.main (F := Ideal))) ⟨m', fun _ => 0, g'⟩ (fun r => ∀ c : Dev Cert.EvenProjRefIdeal.nD,
          r.2.mem ((c.tc : Thread Cert.EvenProjRefIdeal.nD Cert.EvenProjRefIdeal.τ).loc Cert.EvenProjRefIdeal.main_v112) = v0 c
          ∧ r.2.mem ((c.tc : Thread Cert.EvenProjRefIdeal.nD Cert.EvenProjRefIdeal.τ).loc Cert.EvenProjRefIdeal.main_v115) = v1 c
          ∧ r.2.mem ((c.tc : Thread Cert.EvenProjRefIdeal.nD Cert.EvenProjRefIdeal.τ).loc Cert.EvenProjRefIdeal.main_arg0) = m' ((c.tc : Thread Cert.EvenProjRefIdeal.nD Cert.EvenProjRefIdeal.τ).loc Cert.EvenProjRefIdeal.main_arg0)
          ∧ r.2.mem ((c.tc : Thread Cert.EvenProjRefIdeal.nD Cert.EvenProjRefIdeal.τ).loc Cert.EvenProjRefIdeal.main_arg1) = m' ((c.tc : Thread Cert.EvenProjRefIdeal.nD Cert.EvenProjRefIdeal.τ).loc Cert.EvenProjRefIdeal.main_arg1)
          ∧ r.2.mem ((c.tc : Thread Cert.EvenProjRefIdeal.nD Cert.EvenProjRefIdeal.τ).loc Cert.EvenProjRefIdeal.main_arg2) = m' ((c.tc : Thread Cert.EvenProjRefIdeal.nD Cert.EvenProjRefIdeal.τ).loc Cert.EvenProjRefIdeal.main_arg2)
          ∧ r.2.mem ((c.tc : Thread Cert.EvenProjRefIdeal.nD Cert.EvenProjRefIdeal.τ).loc Cert.EvenProjRefIdeal.main_arg3) = m' ((c.tc : Thread Cert.EvenProjRefIdeal.nD Cert.EvenProjRefIdeal.τ).loc Cert.EvenProjRefIdeal.main_arg3)
          ∧ r.2.mem ((c.tc : Thread Cert.EvenProjRefIdeal.nD Cert.EvenProjRefIdeal.τ).loc Cert.EvenProjRefIdeal.main_arg4) = m' ((c.tc : Thread Cert.EvenProjRefIdeal.nD Cert.EvenProjRefIdeal.τ).loc Cert.EvenProjRefIdeal.main_arg4)
          ∧ r.2.mem ((c.tc : Thread Cert.EvenProjRefIdeal.nD Cert.EvenProjRefIdeal.τ).loc Cert.EvenProjRefIdeal.main_arg5) = m' ((c.tc : Thread Cert.EvenProjRefIdeal.nD Cert.EvenProjRefIdeal.τ).loc Cert.EvenProjRefIdeal.main_arg5)
          ∧ r.2.mem ((c.tc : Thread Cert.EvenProjRefIdeal.nD Cert.EvenProjRefIdeal.τ).loc Cert.EvenProjRefIdeal.main_arg6) = m' ((c.tc : Thread Cert.EvenProjRefIdeal.nD Cert.EvenProjRefIdeal.τ).loc Cert.EvenProjRefIdeal.main_arg6))

def preserves_OddProj_OddProjIdeal : Prop :=
  True

def algebraic_OddProjIdeal_OddProjRefIdeal [hOddProjIdeal : Cert.OddProjIdeal.Facts] [hOddProjRefIdeal : Cert.OddProjRefIdeal.Facts] : Prop :=
  ∀ (m : (ℓ : Loc Cert.OddProjIdeal.nD Cert.OddProjIdeal.τ Cert.OddProjIdeal.sig) → Buf (Elt Ideal) ℓ) (g : Dev Cert.OddProjIdeal.nD → PrngReg)
    (m' : (ℓ : Loc Cert.OddProjRefIdeal.nD Cert.OddProjRefIdeal.τ Cert.OddProjRefIdeal.sig) → Buf (Elt Ideal) ℓ) (g' : Dev Cert.OddProjRefIdeal.nD → PrngReg), Pre_OddProjIdeal m →
    (∀ c : Dev Cert.OddProjIdeal.nD,
      m' ((c.tc : Thread Cert.OddProjRefIdeal.nD Cert.OddProjRefIdeal.τ).loc Cert.OddProjRefIdeal.main_arg0) = m ((c.tc : Thread Cert.OddProjIdeal.nD Cert.OddProjIdeal.τ).loc Cert.OddProjIdeal.main_arg0)
      ∧ m' ((c.tc : Thread Cert.OddProjRefIdeal.nD Cert.OddProjRefIdeal.τ).loc Cert.OddProjRefIdeal.main_arg1) = m ((c.tc : Thread Cert.OddProjIdeal.nD Cert.OddProjIdeal.τ).loc Cert.OddProjIdeal.main_arg1)
      ∧ m' ((c.tc : Thread Cert.OddProjRefIdeal.nD Cert.OddProjRefIdeal.τ).loc Cert.OddProjRefIdeal.main_arg2) = m ((c.tc : Thread Cert.OddProjIdeal.nD Cert.OddProjIdeal.τ).loc Cert.OddProjIdeal.main_arg2)) →
    ∃ (v0 : (c : Dev Cert.OddProjIdeal.nD) → Buf (Elt Ideal) ((c.tc : Thread Cert.OddProjIdeal.nD Cert.OddProjIdeal.τ).loc Cert.OddProjIdeal.main_v23_0)) (v1 : (c : Dev Cert.OddProjIdeal.nD) → Buf (Elt Ideal) ((c.tc : Thread Cert.OddProjIdeal.nD Cert.OddProjIdeal.τ).loc Cert.OddProjIdeal.main_v23_1)),
      θ_run (Cert.OddProjIdeal.defs (F := Ideal)) (onTc (τ := Cert.OddProjIdeal.τ) (Cert.OddProjIdeal.main (F := Ideal))) ⟨m, fun _ => 0, g⟩ (fun r => ∀ c : Dev Cert.OddProjIdeal.nD,
          r.2.mem ((c.tc : Thread Cert.OddProjIdeal.nD Cert.OddProjIdeal.τ).loc Cert.OddProjIdeal.main_v23_0) = v0 c
          ∧ r.2.mem ((c.tc : Thread Cert.OddProjIdeal.nD Cert.OddProjIdeal.τ).loc Cert.OddProjIdeal.main_v23_1) = v1 c
          ∧ r.2.mem ((c.tc : Thread Cert.OddProjIdeal.nD Cert.OddProjIdeal.τ).loc Cert.OddProjIdeal.main_arg0) = m ((c.tc : Thread Cert.OddProjIdeal.nD Cert.OddProjIdeal.τ).loc Cert.OddProjIdeal.main_arg0)
          ∧ r.2.mem ((c.tc : Thread Cert.OddProjIdeal.nD Cert.OddProjIdeal.τ).loc Cert.OddProjIdeal.main_arg1) = m ((c.tc : Thread Cert.OddProjIdeal.nD Cert.OddProjIdeal.τ).loc Cert.OddProjIdeal.main_arg1)
          ∧ r.2.mem ((c.tc : Thread Cert.OddProjIdeal.nD Cert.OddProjIdeal.τ).loc Cert.OddProjIdeal.main_arg2) = m ((c.tc : Thread Cert.OddProjIdeal.nD Cert.OddProjIdeal.τ).loc Cert.OddProjIdeal.main_arg2))
      ∧ θ_run (Cert.OddProjRefIdeal.defs (F := Ideal)) (onTc (τ := Cert.OddProjRefIdeal.τ) (Cert.OddProjRefIdeal.main (F := Ideal))) ⟨m', fun _ => 0, g'⟩ (fun r => ∀ c : Dev Cert.OddProjRefIdeal.nD,
          r.2.mem ((c.tc : Thread Cert.OddProjRefIdeal.nD Cert.OddProjRefIdeal.τ).loc Cert.OddProjRefIdeal.main_v29) = v0 c
          ∧ r.2.mem ((c.tc : Thread Cert.OddProjRefIdeal.nD Cert.OddProjRefIdeal.τ).loc Cert.OddProjRefIdeal.main_v31) = v1 c
          ∧ r.2.mem ((c.tc : Thread Cert.OddProjRefIdeal.nD Cert.OddProjRefIdeal.τ).loc Cert.OddProjRefIdeal.main_arg0) = m' ((c.tc : Thread Cert.OddProjRefIdeal.nD Cert.OddProjRefIdeal.τ).loc Cert.OddProjRefIdeal.main_arg0)
          ∧ r.2.mem ((c.tc : Thread Cert.OddProjRefIdeal.nD Cert.OddProjRefIdeal.τ).loc Cert.OddProjRefIdeal.main_arg1) = m' ((c.tc : Thread Cert.OddProjRefIdeal.nD Cert.OddProjRefIdeal.τ).loc Cert.OddProjRefIdeal.main_arg1)
          ∧ r.2.mem ((c.tc : Thread Cert.OddProjRefIdeal.nD Cert.OddProjRefIdeal.τ).loc Cert.OddProjRefIdeal.main_arg2) = m' ((c.tc : Thread Cert.OddProjRefIdeal.nD Cert.OddProjRefIdeal.τ).loc Cert.OddProjRefIdeal.main_arg2))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)
      ∧ m' ((c.tc : Thread Cert.FfnUpRefIdeal.nD Cert.FfnUpRefIdeal.τ).loc Cert.FfnUpRefIdeal.main_arg3) = m ((c.tc : Thread Cert.FfnUpIdeal.nD Cert.FfnUpIdeal.τ).loc Cert.FfnUpIdeal.main_arg3)) →
    ∃ (v0 : (c : Dev Cert.FfnUpIdeal.nD) → Buf (Elt Ideal) ((c.tc : Thread Cert.FfnUpIdeal.nD Cert.FfnUpIdeal.τ).loc Cert.FfnUpIdeal.main_v4)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v4) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v24) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2)
          ∧ r.2.mem ((c.tc : Thread Cert.FfnUpRefIdeal.nD Cert.FfnUpRefIdeal.τ).loc Cert.FfnUpRefIdeal.main_arg3) = m' ((c.tc : Thread Cert.FfnUpRefIdeal.nD Cert.FfnUpRefIdeal.τ).loc Cert.FfnUpRefIdeal.main_arg3))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v4) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v4) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_FoxPrepS_FoxPrepSIdeal : Prop :=
  True

def algebraic_FoxPrepSIdeal_FoxPrepSRefIdeal [hFoxPrepSIdeal : Cert.FoxPrepSIdeal.Facts] [hFoxPrepSRefIdeal : Cert.FoxPrepSRefIdeal.Facts] : Prop :=
  ∀ (m : (ℓ : Loc Cert.FoxPrepSIdeal.nD Cert.FoxPrepSIdeal.τ Cert.FoxPrepSIdeal.sig) → Buf (Elt Ideal) ℓ) (g : Dev Cert.FoxPrepSIdeal.nD → PrngReg)
    (m' : (ℓ : Loc Cert.FoxPrepSRefIdeal.nD Cert.FoxPrepSRefIdeal.τ Cert.FoxPrepSRefIdeal.sig) → Buf (Elt Ideal) ℓ) (g' : Dev Cert.FoxPrepSRefIdeal.nD → PrngReg), Pre_FoxPrepSIdeal m →
    (∀ c : Dev Cert.FoxPrepSIdeal.nD,
      m' ((c.tc : Thread Cert.FoxPrepSRefIdeal.nD Cert.FoxPrepSRefIdeal.τ).loc Cert.FoxPrepSRefIdeal.main_arg0) = m ((c.tc : Thread Cert.FoxPrepSIdeal.nD Cert.FoxPrepSIdeal.τ).loc Cert.FoxPrepSIdeal.main_arg0)
      ∧ m' ((c.tc : Thread Cert.FoxPrepSRefIdeal.nD Cert.FoxPrepSRefIdeal.τ).loc Cert.FoxPrepSRefIdeal.main_arg1) = m ((c.tc : Thread Cert.FoxPrepSIdeal.nD Cert.FoxPrepSIdeal.τ).loc Cert.FoxPrepSIdeal.main_arg1)) →
    ∃ (v0 : (c : Dev Cert.FoxPrepSIdeal.nD) → Buf (Elt Ideal) ((c.tc : Thread Cert.FoxPrepSIdeal.nD Cert.FoxPrepSIdeal.τ).loc Cert.FoxPrepSIdeal.main_v3_0)),
      θ_run (Cert.FoxPrepSIdeal.defs (F := Ideal)) (onTc (τ := Cert.FoxPrepSIdeal.τ) (Cert.FoxPrepSIdeal.main (F := Ideal))) ⟨m, fun _ => 0, g⟩ (fun r => ∀ c : Dev Cert.FoxPrepSIdeal.nD,
          r.2.mem ((c.tc : Thread Cert.FoxPrepSIdeal.nD Cert.FoxPrepSIdeal.τ).loc Cert.FoxPrepSIdeal.main_v3_0) = v0 c
          ∧ r.2.mem ((c.tc : Thread Cert.FoxPrepSIdeal.nD Cert.FoxPrepSIdeal.τ).loc Cert.FoxPrepSIdeal.main_arg0) = m ((c.tc : Thread Cert.FoxPrepSIdeal.nD Cert.FoxPrepSIdeal.τ).loc Cert.FoxPrepSIdeal.main_arg0)
          ∧ r.2.mem ((c.tc : Thread Cert.FoxPrepSIdeal.nD Cert.FoxPrepSIdeal.τ).loc Cert.FoxPrepSIdeal.main_arg1) = m ((c.tc : Thread Cert.FoxPrepSIdeal.nD Cert.FoxPrepSIdeal.τ).loc Cert.FoxPrepSIdeal.main_arg1))
      ∧ θ_run (Cert.FoxPrepSRefIdeal.defs (F := Ideal)) (onTc (τ := Cert.FoxPrepSRefIdeal.τ) (Cert.FoxPrepSRefIdeal.main (F := Ideal))) ⟨m', fun _ => 0, g'⟩ (fun r => ∀ c : Dev Cert.FoxPrepSRefIdeal.nD,
          r.2.mem ((c.tc : Thread Cert.FoxPrepSRefIdeal.nD Cert.FoxPrepSRefIdeal.τ).loc Cert.FoxPrepSRefIdeal.main_v5) = v0 c
          ∧ r.2.mem ((c.tc : Thread Cert.FoxPrepSRefIdeal.nD Cert.FoxPrepSRefIdeal.τ).loc Cert.FoxPrepSRefIdeal.main_arg0) = m' ((c.tc : Thread Cert.FoxPrepSRefIdeal.nD Cert.FoxPrepSRefIdeal.τ).loc Cert.FoxPrepSRefIdeal.main_arg0)
          ∧ r.2.mem ((c.tc : Thread Cert.FoxPrepSRefIdeal.nD Cert.FoxPrepSRefIdeal.τ).loc Cert.FoxPrepSRefIdeal.main_arg1) = m' ((c.tc : Thread Cert.FoxPrepSRefIdeal.nD Cert.FoxPrepSRefIdeal.τ).loc Cert.FoxPrepSRefIdeal.main_arg1))

def preserves_FfnDownS_FfnDownSIdeal : Prop :=
  True

def algebraic_FfnDownSIdeal_FfnDownSRefIdeal [hFfnDownSIdeal : Cert.FfnDownSIdeal.Facts] [hFfnDownSRefIdeal : Cert.FfnDownSRefIdeal.Facts] : Prop :=
  ∀ (m : (ℓ : Loc Cert.FfnDownSIdeal.nD Cert.FfnDownSIdeal.τ Cert.FfnDownSIdeal.sig) → Buf (Elt Ideal) ℓ) (g : Dev Cert.FfnDownSIdeal.nD → PrngReg)
    (m' : (ℓ : Loc Cert.FfnDownSRefIdeal.nD Cert.FfnDownSRefIdeal.τ Cert.FfnDownSRefIdeal.sig) → Buf (Elt Ideal) ℓ) (g' : Dev Cert.FfnDownSRefIdeal.nD → PrngReg), Pre_FfnDownSIdeal m →
    (∀ c : Dev Cert.FfnDownSIdeal.nD,
      m' ((c.tc : Thread Cert.FfnDownSRefIdeal.nD Cert.FfnDownSRefIdeal.τ).loc Cert.FfnDownSRefIdeal.main_arg0) = m ((c.tc : Thread Cert.FfnDownSIdeal.nD Cert.FfnDownSIdeal.τ).loc Cert.FfnDownSIdeal.main_arg0)
      ∧ m' ((c.tc : Thread Cert.FfnDownSRefIdeal.nD Cert.FfnDownSRefIdeal.τ).loc Cert.FfnDownSRefIdeal.main_arg1) = m ((c.tc : Thread Cert.FfnDownSIdeal.nD Cert.FfnDownSIdeal.τ).loc Cert.FfnDownSIdeal.main_arg1)
      ∧ m' ((c.tc : Thread Cert.FfnDownSRefIdeal.nD Cert.FfnDownSRefIdeal.τ).loc Cert.FfnDownSRefIdeal.main_arg2) = m ((c.tc : Thread Cert.FfnDownSIdeal.nD Cert.FfnDownSIdeal.τ).loc Cert.FfnDownSIdeal.main_arg2)) →
    ∃ (v0 : (c : Dev Cert.FfnDownSIdeal.nD) → Buf (Elt Ideal) ((c.tc : Thread Cert.FfnDownSIdeal.nD Cert.FfnDownSIdeal.τ).loc Cert.FfnDownSIdeal.main_v0)),
      θ_run (Cert.FfnDownSIdeal.defs (F := Ideal)) (onTc (τ := Cert.FfnDownSIdeal.τ) (Cert.FfnDownSIdeal.main (F := Ideal))) ⟨m, fun _ => 0, g⟩ (fun r => ∀ c : Dev Cert.FfnDownSIdeal.nD,
          r.2.mem ((c.tc : Thread Cert.FfnDownSIdeal.nD Cert.FfnDownSIdeal.τ).loc Cert.FfnDownSIdeal.main_v0) = v0 c
          ∧ r.2.mem ((c.tc : Thread Cert.FfnDownSIdeal.nD Cert.FfnDownSIdeal.τ).loc Cert.FfnDownSIdeal.main_arg0) = m ((c.tc : Thread Cert.FfnDownSIdeal.nD Cert.FfnDownSIdeal.τ).loc Cert.FfnDownSIdeal.main_arg0)
          ∧ r.2.mem ((c.tc : Thread Cert.FfnDownSIdeal.nD Cert.FfnDownSIdeal.τ).loc Cert.FfnDownSIdeal.main_arg1) = m ((c.tc : Thread Cert.FfnDownSIdeal.nD Cert.FfnDownSIdeal.τ).loc Cert.FfnDownSIdeal.main_arg1)
          ∧ r.2.mem ((c.tc : Thread Cert.FfnDownSIdeal.nD Cert.FfnDownSIdeal.τ).loc Cert.FfnDownSIdeal.main_arg2) = m ((c.tc : Thread Cert.FfnDownSIdeal.nD Cert.FfnDownSIdeal.τ).loc Cert.FfnDownSIdeal.main_arg2))
      ∧ θ_run (Cert.FfnDownSRefIdeal.defs (F := Ideal)) (onTc (τ := Cert.FfnDownSRefIdeal.τ) (Cert.FfnDownSRefIdeal.main (F := Ideal))) ⟨m', fun _ => 0, g'⟩ (fun r => ∀ c : Dev Cert.FfnDownSRefIdeal.nD,
          r.2.mem ((c.tc : Thread Cert.FfnDownSRefIdeal.nD Cert.FfnDownSRefIdeal.τ).loc Cert.FfnDownSRefIdeal.main_v4) = v0 c
          ∧ r.2.mem ((c.tc : Thread Cert.FfnDownSRefIdeal.nD Cert.FfnDownSRefIdeal.τ).loc Cert.FfnDownSRefIdeal.main_arg0) = m' ((c.tc : Thread Cert.FfnDownSRefIdeal.nD Cert.FfnDownSRefIdeal.τ).loc Cert.FfnDownSRefIdeal.main_arg0)
          ∧ r.2.mem ((c.tc : Thread Cert.FfnDownSRefIdeal.nD Cert.FfnDownSRefIdeal.τ).loc Cert.FfnDownSRefIdeal.main_arg1) = m' ((c.tc : Thread Cert.FfnDownSRefIdeal.nD Cert.FfnDownSRefIdeal.τ).loc Cert.FfnDownSRefIdeal.main_arg1)
          ∧ r.2.mem ((c.tc : Thread Cert.FfnDownSRefIdeal.nD Cert.FfnDownSRefIdeal.τ).loc Cert.FfnDownSRefIdeal.main_arg2) = m' ((c.tc : Thread Cert.FfnDownSRefIdeal.nD Cert.FfnDownSRefIdeal.τ).loc Cert.FfnDownSRefIdeal.main_arg2))

def Claim : Prop :=
  ∃ (hKernel : Cert.Kernel.Facts) (hKernelIdeal : Cert.KernelIdeal.Facts) (hReferenceIdeal : Cert.ReferenceIdeal.Facts) (hFoxPrep : Cert.FoxPrep.Facts) (hFoxPrepIdeal : Cert.FoxPrepIdeal.Facts) (hFoxPrepRefIdeal : Cert.FoxPrepRefIdeal.Facts) (hEvenProj : Cert.EvenProj.Facts) (hEvenProjIdeal : Cert.EvenProjIdeal.Facts) (hEvenProjRefIdeal : Cert.EvenProjRefIdeal.Facts) (hOddProj : Cert.OddProj.Facts) (hOddProjIdeal : Cert.OddProjIdeal.Facts) (hOddProjRefIdeal : Cert.OddProjRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hOutProj : Cert.OutProj.Facts) (hOutProjIdeal : Cert.OutProjIdeal.Facts) (hOutProjRefIdeal : Cert.OutProjRefIdeal.Facts) (hFoxPrepS : Cert.FoxPrepS.Facts) (hFoxPrepSIdeal : Cert.FoxPrepSIdeal.Facts) (hFoxPrepSRefIdeal : Cert.FoxPrepSRefIdeal.Facts) (hFfnDownS : Cert.FfnDownS.Facts) (hFfnDownSIdeal : Cert.FfnDownSIdeal.Facts) (hFfnDownSRefIdeal : Cert.FfnDownSRefIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_FoxPrep (hFoxPrep := hFoxPrep)
    ∧ quiescent_FoxPrepIdeal (hFoxPrepIdeal := hFoxPrepIdeal)
    ∧ quiescent_FoxPrepRefIdeal (hFoxPrepRefIdeal := hFoxPrepRefIdeal)
    ∧ quiescent_EvenProj (hEvenProj := hEvenProj)
    ∧ quiescent_EvenProjIdeal (hEvenProjIdeal := hEvenProjIdeal)
    ∧ quiescent_EvenProjRefIdeal (hEvenProjRefIdeal := hEvenProjRefIdeal)
    ∧ quiescent_OddProj (hOddProj := hOddProj)
    ∧ quiescent_OddProjIdeal (hOddProjIdeal := hOddProjIdeal)
    ∧ quiescent_OddProjRefIdeal (hOddProjRefIdeal := hOddProjRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_FoxPrepS (hFoxPrepS := hFoxPrepS)
    ∧ quiescent_FoxPrepSIdeal (hFoxPrepSIdeal := hFoxPrepSIdeal)
    ∧ quiescent_FoxPrepSRefIdeal (hFoxPrepSRefIdeal := hFoxPrepSRefIdeal)
    ∧ quiescent_FfnDownS (hFfnDownS := hFfnDownS)
    ∧ quiescent_FfnDownSIdeal (hFfnDownSIdeal := hFfnDownSIdeal)
    ∧ quiescent_FfnDownSRefIdeal (hFfnDownSRefIdeal := hFfnDownSRefIdeal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_FoxPrep_FoxPrepIdeal
    ∧ algebraic_FoxPrepIdeal_FoxPrepRefIdeal (hFoxPrepIdeal := hFoxPrepIdeal) (hFoxPrepRefIdeal := hFoxPrepRefIdeal)
    ∧ preserves_EvenProj_EvenProjIdeal
    ∧ algebraic_EvenProjIdeal_EvenProjRefIdeal (hEvenProjIdeal := hEvenProjIdeal) (hEvenProjRefIdeal := hEvenProjRefIdeal)
    ∧ preserves_OddProj_OddProjIdeal
    ∧ algebraic_OddProjIdeal_OddProjRefIdeal (hOddProjIdeal := hOddProjIdeal) (hOddProjRefIdeal := hOddProjRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_OutProj_OutProjIdeal
    ∧ algebraic_OutProjIdeal_OutProjRefIdeal (hOutProjIdeal := hOutProjIdeal) (hOutProjRefIdeal := hOutProjRefIdeal)
    ∧ preserves_FoxPrepS_FoxPrepSIdeal
    ∧ algebraic_FoxPrepSIdeal_FoxPrepSRefIdeal (hFoxPrepSIdeal := hFoxPrepSIdeal) (hFoxPrepSRefIdeal := hFoxPrepSRefIdeal)
    ∧ preserves_FfnDownS_FfnDownSIdeal
    ∧ algebraic_FfnDownSIdeal_FfnDownSRefIdeal (hFfnDownSIdeal := hFfnDownSIdeal) (hFfnDownSRefIdeal := hFfnDownSRefIdeal)
-- ==== Pre_finite_inputs.lean ====
abbrev S4x2048x5632 : Shape := ⟨3, ![4, 2048, 5632]⟩
abbrev S4x2048x128 : Shape := ⟨3, ![4, 2048, 128]⟩
abbrev S_ : Shape := ⟨0, ![]⟩

class Facts : Prop where
  bcast_S_S4x2048x5632 : S_.BroadcastsInDim S4x2048x5632 (![] : Fin 0 → Fin S4x2048x5632.rank)
  reducesTo_S4x2048x5632_S_d0_1_2 : S4x2048x5632.ReducesTo [0, 1, 2] S_
  h_S_ : 0 < S_.numel
  bcast_S_S4x2048x128 : S_.BroadcastsInDim S4x2048x128 (![] : Fin 0 → Fin S4x2048x128.rank)
  reducesTo_S4x2048x128_S_d0_1_2 : S4x2048x128.ReducesTo [0, 1, 2] S_

variable [Facts]

def fn {F : FTy → Type} [FloatOps F] (main_arg0 : FVec F S4x2048x5632 .f32) (main_arg1 : FVec F S4x2048x128 .f32) : IVec S_ 1 :=
  let main_v0 : FVec F S4x2048x5632 .f32 := Host.absf main_arg0
  let main_cst : FVec F S_ .f32 := constant S_ .f32 0x7F800000#32
  let main_v1 : FVec F S4x2048x5632 .f32 := broadcastInDim S4x2048x5632 ![] bcast_S_S4x2048x5632 main_cst
  let main_v2 : IVec S4x2048x5632 1 := cmpf .olt main_v0 main_v1
  let main_c : IVec S_ 1 := constantI S_ 1 1#1
  let main_v3 : IVec S_ 1 := (fun x v => Host.reduce IntOp.andi x v reducesTo_S4x2048x5632_S_d0_1_2 h_S_) main_v2 main_c
  let main_v4 : FVec F S4x2048x128 .f32 := Host.absf main_arg1
  let main_cst_0 : FVec F S_ .f32 := constant S_ .f32 0x7F800000#32
  let main_v5 : FVec F S4x2048x128 .f32 := broadcastInDim S4x2048x128 ![] bcast_S_S4x2048x128 main_cst_0
  let main_v6 : IVec S4x2048x128 1 := cmpf .olt main_v4 main_v5
  let main_c_1 : IVec S_ 1 := constantI S_ 1 1#1
  let main_v7 : IVec S_ 1 := (fun x v => Host.reduce IntOp.andi x v reducesTo_S4x2048x128_S_d0_1_2 h_S_) main_v6 main_c_1
  let main_v8 : IVec S_ 1 := andi main_v3 main_v7
  main_v8
-- ==== Kernel.lean ====
abbrev S4x2048x5632 : Shape := ⟨3, ![4, 2048, 5632]⟩
abbrev S4x2048x128 : Shape := ⟨3, ![4, 2048, 128]⟩
abbrev S4x2048x8 : Shape := ⟨3, ![4, 2048, 8]⟩
abbrev S4x8x2048 : Shape := ⟨3, ![4, 8, 2048]⟩
abbrev S32x4x512 : Shape := ⟨3, ![32, 4, 512]⟩
abbrev S4x2048x1024 : Shape := ⟨3, ![4, 2048, 1024]⟩
abbrev S1x512x128 : Shape := ⟨3, ![1, 512, 128]⟩
abbrev S1x2048x128 : Shape := ⟨3, ![1, 2048, 128]⟩
abbrev S1x4x512 : Shape := ⟨3, ![1, 4, 512]⟩
abbrev S2048x128 : Shape := ⟨2, ![2048, 128]⟩
abbrev S512x128 : Shape := ⟨2, ![512, 128]⟩
abbrev S512x512 : Shape := ⟨2, ![512, 512]⟩
abbrev S1x1x512 : Shape := ⟨3, ![1, 1, 512]⟩
abbrev S1x512 : Shape := ⟨2, ![1, 512]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S4x2048x5632, .f32⟩
  | .hbm, ⟨1, _⟩ => ⟨S4x2048x128, .f32⟩
  | .hbm, ⟨2, _⟩ => ⟨S4x2048x8, .f32⟩
  | .hbm, ⟨3, _⟩ => ⟨S4x8x2048, .f32⟩
  | .hbm, ⟨4, _⟩ => ⟨S32x4x512, .f32⟩
  | .hbm, ⟨5, _⟩ => ⟨S4x2048x1024, .bf16⟩
  | .local _ .vmem, ⟨0, _⟩ => ⟨S1x512x128, .f32⟩
  | .local _ .vmem, ⟨1, _⟩ => ⟨S1x512x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x4x512, .f32⟩
  | .local _ .vmem, ⟨7, _⟩ => ⟨S1x4x512, .f32⟩
  | .local _ .vmem, ⟨8, _⟩ => ⟨S1x512x128, .bf16⟩
  | .local _ .vmem, ⟨9, _⟩ => ⟨S1x512x128, .bf16⟩
  | .local _ .vmem, ⟨10, _⟩ => ⟨S2048x128, .bf16⟩
  | .local _ .vmem, ⟨11, _⟩ => ⟨S2048x128, .bf16⟩
  | _, _ => ⟨S4x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let c0_i32_3 : BitVec 32 := 0#32
  let arg2 : BitVec 32 := BitVec.ofNat 32 (i 2).val
  let c512_i32 : BitVec 32 := 512#32
  let v8 : BitVec 32 := Scalar.muli arg2 c512_i32
  let v9 : BitVec 32 := Scalar.addi c0_i32_3 v8
  let c512_i32_4 : BitVec 32 := 512#32
  let v10 : BitVec 32 := Scalar.addi v9 c512_i32_4
  let c1_i32 : BitVec 32 := 1#32
  let v11 : BitVec 32 := Scalar.subi v10 c1_i32
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c512_i32_5 : BitVec 32 := 512#32
  let c0_i32_8 : BitVec 32 := 0#32
  let v18 : BitVec 1 := Scalar.cmpi .sgt c512_i32_5 c0_i32_8
  let v19 : BitVec 32 := Scalar.extui v18
  let c0_i32_9 : BitVec 32 := 0#32
  let v20 : BitVec 1 := Scalar.cmpi .slt c512_i32_5 c0_i32_9
  let v21 : BitVec 32 := Scalar.extui v20
  let v22 : BitVec 32 := Scalar.subi v19 v21
  let v23 : BitVec 1 := Scalar.cmpi .ne v17 v22
  let v24 : BitVec 32 := Scalar.remsi v11 c512_i32_5
  let c0_i32_10 : BitVec 32 := 0#32
  let v25 : BitVec 1 := Scalar.cmpi .ne v24 c0_i32_10
  let v26 : BitVec 1 := Scalar.andi v23 v25
  let v12 : BitVec 32 := Scalar.divsi v11 c512_i32_5
  let c1_i32_11 : BitVec 32 := 1#32
  let v27 : BitVec 32 := Scalar.subi v12 c1_i32_11
  let v28 : BitVec 32 := Scalar.select v26 v27 v12
  let c1_i32_12 : BitVec 32 := 1#32
  let v29 : BitVec 32 := Scalar.addi v28 c1_i32_12
  let c1_i32_13 : BitVec 32 := 1#32
  let v30 : BitVec 1 := Scalar.cmpi .eq v29 c1_i32_13
  let v31 : BitVec 32 := Scalar.extui v30
  let c0_i32_14 : BitVec 32 := 0#32
  let v32 : BitVec 1 := Scalar.cmpi .ne v31 c0_i32_14
  v32

def k0_cond3 (i : grid0.Coords) : BitVec 1 :=
  let c0_i32_3 : BitVec 32 := 0#32
  let arg2 : BitVec 32 := BitVec.ofNat 32 (i 2).val
  let c512_i32 : BitVec 32 := 512#32
  let v8 : BitVec 32 := Scalar.muli arg2 c512_i32
  let v9 : BitVec 32 := Scalar.addi c0_i32_3 v8
  let c512_i32_4 : BitVec 32 := 512#32
  let v10 : BitVec 32 := Scalar.addi v9 c512_i32_4
  let c1_i32 : BitVec 32 := 1#32
  let v11 : BitVec 32 := Scalar.subi v10 c1_i32
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c512_i32_5 : BitVec 32 := 512#32
  let c0_i32_8 : BitVec 32 := 0#32
  let v18 : BitVec 1 := Scalar.cmpi .sgt c512_i32_5 c0_i32_8
  let v19 : BitVec 32 := Scalar.extui v18
  let c0_i32_9 : BitVec 32 := 0#32
  let v20 : BitVec 1 := Scalar.cmpi .slt c512_i32_5 c0_i32_9
  let v21 : BitVec 32 := Scalar.extui v20
  let v22 : BitVec 32 := Scalar.subi v19 v21
  let v23 : BitVec 1 := Scalar.cmpi .ne v17 v22
  let v24 : BitVec 32 := Scalar.remsi v11 c512_i32_5
  let c0_i32_10 : BitVec 32 := 0#32
  let v25 : BitVec 1 := Scalar.cmpi .ne v24 c0_i32_10
  let v26 : BitVec 1 := Scalar.andi v23 v25
  let v12 : BitVec 32 := Scalar.divsi v11 c512_i32_5
  let c1_i32_11 : BitVec 32 := 1#32
  let v27 : BitVec 32 := Scalar.subi v12 c1_i32_11
  let v28 : BitVec 32 := Scalar.select v26 v27 v12
  let c1_i32_12 : BitVec 32 := 1#32
  let v29 : BitVec 32 := Scalar.addi v28 c1_i32_12
  let c2_i32 : BitVec 32 := 2#32
  let v33 : BitVec 1 := Scalar.cmpi .eq v29 c2_i32
  let v34 : BitVec 32 := Scalar.extui v33
  let c0_i32_15 : BitVec 32 := 0#32
  let v35 : BitVec 1 := Scalar.cmpi .ne v34 c0_i32_15
  v35

def k0_cond4 (i : grid0.Coords) : BitVec 1 :=
  let c0_i32_3 : BitVec 32 := 0#32
  let arg2 : BitVec 32 := BitVec.ofNat 32 (i 2).val
  let c512_i32 : BitVec 32 := 512#32
  let v8 : BitVec 32 := Scalar.muli arg2 c512_i32
  let v9 : BitVec 32 := Scalar.addi c0_i32_3 v8
  let c512_i32_4 : BitVec 32 := 512#32
  let v10 : BitVec 32 := Scalar.addi v9 c512_i32_4
  let c1_i32 : BitVec 32 := 1#32
  let v11 : BitVec 32 := Scalar.subi v10 c1_i32
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c512_i32_5 : BitVec 32 := 512#32
  let c0_i32_8 : BitVec 32 := 0#32
  let v18 : BitVec 1 := Scalar.cmpi .sgt c512_i32_5 c0_i32_8
  let v19 : BitVec 32 := Scalar.extui v18
  let c0_i32_9 : BitVec 32 := 0#32
  let v20 : BitVec 1 := Scalar.cmpi .slt c512_i32_5 c0_i32_9
  let v21 : BitVec 32 := Scalar.extui v20
  let v22 : BitVec 32 := Scalar.subi v19 v21
  let v23 : BitVec 1 := Scalar.cmpi .ne v17 v22
  let v24 : BitVec 32 := Scalar.remsi v11 c512_i32_5
  let c0_i32_10 : BitVec 32 := 0#32
  let v25 : BitVec 1 := Scalar.cmpi .ne v24 c0_i32_10
  let v26 : BitVec 1 := Scalar.andi v23 v25
  let v12 : BitVec 32 := Scalar.divsi v11 c512_i32_5
  let c1_i32_11 : BitVec 32 := 1#32
  let v27 : BitVec 32 := Scalar.subi v12 c1_i32_11
  let v28 : BitVec 32 := Scalar.select v26 v27 v12
  let c1_i32_12 : BitVec 32 := 1#32
  let v29 : BitVec 32 := Scalar.addi v28 c1_i32_12
  let c3_i32 : BitVec 32 := 3#32
  let v36 : BitVec 1 := Scalar.cmpi .eq v29 c3_i32
  let v37 : BitVec 32 := Scalar.extui v36
  let c0_i32_16 : BitVec 32 := 0#32
  let v38 : BitVec 1 := Scalar.cmpi .ne v37 c0_i32_16
  v38

def k0_cond5 (i : grid0.Coords) : BitVec 1 :=
  let c0_i32_3 : BitVec 32 := 0#32
  let arg2 : BitVec 32 := BitVec.ofNat 32 (i 2).val
  let c512_i32 : BitVec 32 := 512#32
  let v8 : BitVec 32 := Scalar.muli arg2 c512_i32
  let v9 : BitVec 32 := Scalar.addi c0_i32_3 v8
  let c512_i32_4 : BitVec 32 := 512#32
  let v10 : BitVec 32 := Scalar.addi v9 c512_i32_4
  let c1_i32 : BitVec 32 := 1#32
  let v11 : BitVec 32 := Scalar.subi v10 c1_i32
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c512_i32_5 : BitVec 32 := 512#32
  let c0_i32_8 : BitVec 32 := 0#32
  let v18 : BitVec 1 := Scalar.cmpi .sgt c512_i32_5 c0_i32_8
  let v19 : BitVec 32 := Scalar.extui v18
  let c0_i32_9 : BitVec 32 := 0#32
  let v20 : BitVec 1 := Scalar.cmpi .slt c512_i32_5 c0_i32_9
  let v21 : BitVec 32 := Scalar.extui v20
  let v22 : BitVec 32 := Scalar.subi v19 v21
  let v23 : BitVec 1 := Scalar.cmpi .ne v17 v22
  let v24 : BitVec 32 := Scalar.remsi v11 c512_i32_5
  let c0_i32_10 : BitVec 32 := 0#32
  let v25 : BitVec 1 := Scalar.cmpi .ne v24 c0_i32_10
  let v26 : BitVec 1 := Scalar.andi v23 v25
  let v12 : BitVec 32 := Scalar.divsi v11 c512_i32_5
  let c1_i32_11 : BitVec 32 := 1#32
  let v27 : BitVec 32 := Scalar.subi v12 c1_i32_11
  let v28 : BitVec 32 := Scalar.select v26 v27 v12
  let c1_i32_12 : BitVec 32 := 1#32
  let v29 : BitVec 32 := Scalar.addi v28 c1_i32_12
  let c4_i32 : BitVec 32 := 4#32
  let v39 : BitVec 1 := Scalar.cmpi .eq v29 c4_i32
  let v40 : BitVec 32 := Scalar.extui v39
  let c0_i32_17 : BitVec 32 := 0#32
  let v41 : BitVec 1 := Scalar.cmpi .ne v40 c0_i32_17
  v41

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "log2e" => some (((Real.log 2)⁻¹ : ℝ) : EReal)
  | "neg" => some ⊥
  | "scale_log2e" => some (((Real.sqrt 128)⁻¹ * (Real.log 2)⁻¹ : ℝ) : EReal)
  | _ => none
-- ==== ReferenceIdeal.lean ====
abbrev S4x2048x5632 : Shape := ⟨3, ![4, 2048, 5632]⟩
abbrev S4x2048x128 : Shape := ⟨3, ![4, 2048, 128]⟩
abbrev S4x2048x1024 : Shape := ⟨3, ![4, 2048, 1024]⟩
abbrev S4x2048x8x128 : Shape := ⟨4, ![4, 2048, 8, 128]⟩
abbrev S4x2048x8 : Shape := ⟨3, ![4, 2048, 8]⟩
abbrev S4x8x2048 : Shape := ⟨3, ![4, 8, 2048]⟩
abbrev S4x8x2048x2048 : Shape := ⟨4, ![4, 8, 2048, 2048]⟩
abbrev S_ : Shape := ⟨0, ![]⟩
abbrev S4x8x2048x1 : Shape := ⟨4, ![4, 8, 2048, 1]⟩
abbrev S4x8x1x2048 : Shape := ⟨4, ![4, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x8x128x2048 : Shape := ⟨4, ![4, 8, 128, 2048]⟩

abbrev nBuf : Space → Nat
  | .hbm => 50
  | .vmem => 0
  | .smem => 0
  | _ => 0

abbrev bufTy : (tb : Table) → Fin (tcTables nBuf tb) → BufTy
  | .hbm, ⟨0, _⟩ => ⟨S4x2048x5632, .f32⟩
  | .hbm, ⟨1, _⟩ => ⟨S4x2048x128, .f32⟩
  | .hbm, ⟨2, _⟩ => ⟨S4x2048x1024, .f32⟩
  | .hbm, ⟨3, _⟩ => ⟨S4x2048x8x128, .f32⟩
  | .hbm, ⟨4, _⟩ => ⟨S4x2048x1024, .f32⟩
  | .hbm, ⟨5, _⟩ => ⟨S4x2048x8x128, .f32⟩
  | .hbm, ⟨6, _⟩ => ⟨S4x2048x1024, .f32⟩
  | .hbm, ⟨7, _⟩ => ⟨S4x2048x8x128, .f32⟩
  | .hbm, ⟨8, _⟩ => ⟨S4x2048x8, .f32⟩
  | .hbm, ⟨9, _⟩ => ⟨S4x8x2048, .f32⟩
  | .hbm, ⟨10, _⟩ => ⟨S4x8x2048x2048, .f32⟩
  | .hbm, ⟨11, _⟩ => ⟨S_, .f32⟩
  | .hbm, ⟨12, _⟩ => ⟨S_, .f32⟩
  | .hbm, ⟨13, _⟩ => ⟨S4x8x2048x2048, .f32⟩
  | .hbm, ⟨14, _⟩ => ⟨S4x8x2048x2048, .f32⟩
  | .hbm, ⟨15, _⟩ => ⟨S4x8x2048x1, .f32⟩
  | .hbm, ⟨16, _⟩ => ⟨S4x8x2048x2048, .f32⟩
  | .hbm, ⟨17, _⟩ => ⟨S4x8x2048x2048, .f32⟩
  | .hbm, ⟨18, _⟩ => ⟨S4x8x1x2048, .f32⟩
  | .hbm, ⟨19, _⟩ => ⟨S4x8x2048x2048, .f32⟩
  | .hbm, ⟨20, _⟩ => ⟨S4x8x2048x2048, .f32⟩
  | .hbm, ⟨21, _⟩ => ⟨S2048, .i32⟩
  | .hbm, ⟨22, _⟩ => ⟨S1x2048, .i32⟩
  | .hbm, ⟨23, _⟩ => ⟨S2048x1, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S_, .f32⟩
  | .hbm, ⟨28, _⟩ => ⟨S_, .f32⟩
  | .hbm, ⟨29, _⟩ => ⟨S4x8x2048x2048, .i1⟩
  | .hbm, ⟨30, _⟩ => ⟨S4x8x2048x2048, .f32⟩
  | .hbm, ⟨31, _⟩ => ⟨S4x8x2048x2048, .f32⟩
  | .hbm, ⟨32, _⟩ => ⟨S_, .f32⟩
  | .hbm, ⟨33, _⟩ => ⟨S4x8x2048, .f32⟩
  | .hbm, ⟨34, _⟩ => ⟨S_, .f32⟩
  | .hbm, ⟨35, _⟩ => ⟨S4x8x2048, .f32⟩
  | .hbm, ⟨36, _⟩ => ⟨S4x8x2048, .f32⟩
  | .hbm, ⟨37, _⟩ => ⟨S4x8x2048x1, .f32⟩
  | .hbm, ⟨38, _⟩ => ⟨S4x8x2048x2048, .f32⟩
  | .hbm, ⟨39, _⟩ => ⟨S4x8x2048x2048, .f32⟩
  | .hbm, ⟨40, _⟩ => ⟨S4x8x2048x2048, .f32⟩
  | .hbm, ⟨41, _⟩ => ⟨S_, .f32⟩
  | .hbm, ⟨42, _⟩ => ⟨S4x8x2048, .f32⟩
  | .hbm, ⟨43, _⟩ => ⟨S4x8x2048x1, .f32⟩
  | .hbm, ⟨44, _⟩ => ⟨S4x8x2048x2048, .f32⟩
  | .hbm, ⟨45, _⟩ => ⟨S4x8x2048x2048, .f32⟩
  | .hbm, ⟨46, _⟩ => ⟨S4x8x128x2048, .f32⟩
  | .hbm, ⟨47, _⟩ => ⟨S4x2048x8x128, .f32⟩
  | .hbm, ⟨48, _⟩ => ⟨S4x2048x1024, .f32⟩
  | .hbm, ⟨49, _⟩ => ⟨S4x2048x1024, .bf16⟩
  | _, _ => ⟨S4x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== FoxPrep.lean ====
abbrev S4x2048x128 : Shape := ⟨3, ![4, 2048, 128]⟩
abbrev S1x8 : Shape := ⟨2, ![1, 8]⟩
abbrev S8 : Shape := ⟨1, ![8]⟩
abbrev S_ : Shape := ⟨0, ![]⟩
abbrev S1x128 : Shape := ⟨2, ![1, 128]⟩
abbrev S1x256x128 : Shape := ⟨3, ![1, 256, 128]⟩
abbrev S256x128 : Shape := ⟨2, ![256, 128]⟩
abbrev S256x256 : Shape := ⟨2, ![256, 256]⟩

abbrev nBuf : Space → Nat
  | .hbm => 9
  | .vmem => 8
  | .smem => 0
  | _ => 0

abbrev bufTy : (tb : Table) → Fin (tcTables nBuf tb) → BufTy
  | .hbm, ⟨0, _⟩ => ⟨S4x2048x128, .f32⟩
  | .hbm, ⟨1, _⟩ => ⟨S1x8, .f32⟩
  | .hbm, ⟨2, _⟩ => ⟨S8, .f32⟩
  | .hbm, ⟨3, _⟩ => ⟨S1x8, .f32⟩
  | .hbm, ⟨4, _⟩ => ⟨S_, .i32⟩
  | .hbm, ⟨5, _⟩ => ⟨S_, .f32⟩
  | .hbm, ⟨6, _⟩ => ⟨S1x128, .f32⟩
  | .hbm, ⟨7, _⟩ => ⟨S4x2048x128, .f32⟩
  | .hbm, ⟨8, _⟩ => ⟨S4x2048x128, .f32⟩
  | .local _ .vmem, ⟨0, _⟩ => ⟨S1x256x128, .f32⟩
  | .local _ .vmem, ⟨1, _⟩ => ⟨S1x256x128, .f32⟩
  | .local _ .vmem, ⟨2, _⟩ => ⟨S1x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x128, .f32⟩
  | _, _ => ⟨S4x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FoxPrepRefIdeal.lean ====
abbrev S4x2048x128 : Shape := ⟨3, ![4, 2048, 128]⟩
abbrev S1x8 : Shape := ⟨2, ![1, 8]⟩
abbrev S8 : Shape := ⟨1, ![8]⟩
abbrev S_ : Shape := ⟨0, ![]⟩
abbrev S128 : Shape := ⟨1, ![128]⟩
abbrev S1x1x128 : Shape := ⟨3, ![1, 1, 128]⟩

abbrev nBuf : Space → Nat
  | .hbm => 28
  | .vmem => 0
  | .smem => 0
  | _ => 0

abbrev bufTy : (tb : Table) → Fin (tcTables nBuf tb) → BufTy
  | .hbm, ⟨0, _⟩ => ⟨S4x2048x128, .f32⟩
  | .hbm, ⟨1, _⟩ => ⟨S1x8, .f32⟩
  | .hbm, ⟨2, _⟩ => ⟨S8, .f32⟩
  | .hbm, ⟨3, _⟩ => ⟨S_, .i32⟩
  | .hbm, ⟨4, _⟩ => ⟨S_, .f32⟩
  | .hbm, ⟨5, _⟩ => ⟨S128, .f32⟩
  | .hbm, ⟨6, _⟩ => ⟨S1x1x128, .f32⟩
  | .hbm, ⟨7, _⟩ => ⟨S4x2048x128, .f32⟩
  | .hbm, ⟨8, _⟩ => ⟨S4x2048x128, .f32⟩
  | .hbm, ⟨9, _⟩ => ⟨S4x2048x128, .f32⟩
  | .hbm, ⟨10, _⟩ => ⟨S_, .f32⟩
  | .hbm, ⟨11, _⟩ => ⟨S4x2048x128, .f32⟩
  | .hbm, ⟨12, _⟩ => ⟨S4x2048x128, .f32⟩
  | .hbm, ⟨13, _⟩ => ⟨S4x2048x128, .f32⟩
  | .hbm, ⟨14, _⟩ => ⟨S4x2048x128, .f32⟩
  | .hbm, ⟨15, _⟩ => ⟨S4x2048x128, .i1⟩
  | .hbm, ⟨16, _⟩ => ⟨S4x2048x128, .f32⟩
  | .hbm, ⟨17, _⟩ => ⟨S4x2048x128, .f32⟩
  | .hbm, ⟨18, _⟩ => ⟨S4x2048x128, .f32⟩
  | .hbm, ⟨19, _⟩ => ⟨S4x2048x128, .f32⟩
  | .hbm, ⟨20, _⟩ => ⟨S4x2048x128, .f32⟩
  | .hbm, ⟨21, _⟩ => ⟨S4x2048x128, .f32⟩
  | .hbm, ⟨22, _⟩ => ⟨S4x2048x128, .f32⟩
  | .hbm, ⟨23, _⟩ => ⟨S4x2048x128, .f32⟩
  | .hbm, ⟨24, _⟩ => ⟨S4x2048x128, .f32⟩
  | .hbm, ⟨25, _⟩ => ⟨S_, .f32⟩
  | .hbm, ⟨26, _⟩ => ⟨S_, .f32⟩
  | .hbm, ⟨27, _⟩ => ⟨S4x2048x128, .f32⟩
  | _, _ => ⟨S4x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call1_v0 : Ref sig .tc := ⟨.hbm, 9, rfl⟩
abbrev main_call1_call0_cst : Ref sig .tc := ⟨.hbm, 10, rfl⟩
abbrev main_call1_call0_v0 : Ref sig .tc := ⟨.hbm, 11, rfl⟩
abbrev main_call1_call0_v1 : Ref sig .tc := ⟨.hbm, 12, rfl⟩
abbrev main_call1_call0_v2 : Ref sig .tc := ⟨.hbm, 13, rfl⟩
abbrev main_call1_call0_v3 : Ref sig .tc := ⟨.hbm, 14, rfl⟩
abbrev main_call1_call0_v4 : Ref sig .tc := ⟨.hbm, 15, rfl⟩
abbrev main_call1_call0_v5 : Ref sig .tc := ⟨.hbm, 16, rfl⟩
abbrev main_call1_call0_v6 : Ref sig .tc := ⟨.hbm, 17, rfl⟩
abbrev main_call1_call0_v7 : Ref sig .tc := ⟨.hbm, 18, rfl⟩
abbrev main_call1_call0_v8 : Ref sig .tc := ⟨.hbm, 19, rfl⟩
abbrev main_call1_call0_v9 : Ref sig .tc := ⟨.hbm, 20, rfl⟩
abbrev main_call1_call0_v10 : Ref sig .tc := ⟨.hbm, 21, rfl⟩
abbrev main_call1_call0_v11 : Ref sig .tc := ⟨.hbm, 22, rfl⟩
abbrev main_call1_v1 : Ref sig .tc := ⟨.hbm, 23, rfl⟩
abbrev main_v5 : Ref sig .tc := ⟨.hbm, 24, rfl⟩
abbrev main_call2_call0_cst : Ref sig .tc := ⟨.hbm, 25, rfl⟩
abbrev main_call2_call0_v0 : Ref sig .tc := ⟨.hbm, 26, rfl⟩
abbrev main_v6 : Ref sig .tc := ⟨.hbm, 27, rfl⟩

abbrev nD : Nat := 1
abbrev τ : Topo := Topo.v7x

variable {F : FTy → Type} [FloatOps F]
-- ==== EvenProj.lean ====
abbrev S4x2048x2048 : Shape := ⟨3, ![4, 2048, 2048]⟩
abbrev S2x2048 : Shape := ⟨2, ![2, 2048]⟩
abbrev S1x2048x5664 : Shape := ⟨3, ![1, 2048, 5664]⟩
abbrev S1x128 : Shape := ⟨2, ![1, 128]⟩
abbrev S1x3x128 : Shape := ⟨3, ![1, 3, 128]⟩
abbrev S2048x5664 : Shape := ⟨2, ![2048, 5664]⟩
abbrev S128 : Shape := ⟨1, ![128]⟩
abbrev S3x128 : Shape := ⟨2, ![3, 128]⟩
abbrev S2048x1024 : Shape := ⟨2, ![2048, 1024]⟩
abbrev S2048x8 : Shape := ⟨2, ![2048, 8]⟩
abbrev S2048x256 : Shape := ⟨2, ![2048, 256]⟩
abbrev S2048x24 : Shape := ⟨2, ![2048, 24]⟩
abbrev S2048x5632 : Shape := ⟨2, ![2048, 5632]⟩
abbrev S2048x32 : Shape := ⟨2, ![2048, 32]⟩
abbrev S_ : Shape := ⟨0, ![]⟩
abbrev S2048x128 : Shape := ⟨2, ![2048, 128]⟩
abbrev S8x128 : Shape := ⟨2, ![8, 128]⟩
abbrev S1024 : Shape := ⟨1, ![1024]⟩
abbrev S512 : Shape := ⟨1, ![512]⟩
abbrev S2x128 : Shape := ⟨2, ![2, 128]⟩
abbrev S256 : Shape := ⟨1, ![256]⟩
abbrev S5632 : Shape := ⟨1, ![5632]⟩
abbrev S2048 : Shape := ⟨1, ![2048]⟩
abbrev S1x5632 : Shape := ⟨2, ![1, 5632]⟩
abbrev S8192x2048 : Shape := ⟨2, ![8192, 2048]⟩
abbrev S1x2048 : Shape := ⟨2, ![1, 2048]⟩
abbrev S8192x5632 : Shape := ⟨2, ![8192, 5632]⟩
abbrev S8192x128 : Shape := ⟨2, ![8192, 128]⟩
abbrev S1024x2048 : Shape := ⟨2, ![1024, 2048]⟩
abbrev S2048x1408 : Shape := ⟨2, ![2048, 1408]⟩
abbrev S1x1408 : Shape := ⟨2, ![1, 1408]⟩
abbrev S1024x1408 : Shape := ⟨2, ![1024, 1408]⟩
abbrev S1024x128 : Shape := ⟨2, ![1024, 128]⟩
abbrev S1024x1 : Shape := ⟨2, ![1024, 1]⟩

abbrev nBuf : Space → Nat
  | .hbm => 84
  | .vmem => 15
  | .smem => 0
  | _ => 0

abbrev bufTy : (tb : Table) → Fin (tcTables nBuf tb) → BufTy
  | .hbm, ⟨0, _⟩ => ⟨S4x2048x2048, .f32⟩
  | .hbm, ⟨1, _⟩ => ⟨S2x2048, .f32⟩
  | .hbm, ⟨2, _⟩ => ⟨S1x2048x5664, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x3x128, .f32⟩
  | .hbm, ⟨7, _⟩ => ⟨S2048x5664, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S3x128, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x8, .f32⟩
  | .hbm, ⟨16, _⟩ => ⟨S2048x1024, .f32⟩
  | .hbm, ⟨17, _⟩ => ⟨S2048x256, .f32⟩
  | .hbm, ⟨18, _⟩ => ⟨S2048x256, .f32⟩
  | .hbm, ⟨19, _⟩ => ⟨S2048x256, .f32⟩
  | .hbm, ⟨20, _⟩ => ⟨S2048x256, .f32⟩
  | .hbm, ⟨21, _⟩ => ⟨S2048x256, .f32⟩
  | .hbm, ⟨22, _⟩ => ⟨S2048x256, .f32⟩
  | .hbm, ⟨23, _⟩ => ⟨S2048x24, .f32⟩
  | .hbm, ⟨24, _⟩ => ⟨S2048x5632, .f32⟩
  | .hbm, ⟨25, _⟩ => ⟨S2048x5632, .bf16⟩
  | .hbm, ⟨26, _⟩ => ⟨S2048x32, .f32⟩
  | .hbm, ⟨27, _⟩ => ⟨S_, .i32⟩
  | .hbm, ⟨28, _⟩ => ⟨S_, .f32⟩
  | .hbm, ⟨29, _⟩ => ⟨S2048x128, .f32⟩
  | .hbm, ⟨30, _⟩ => ⟨S2048x128, .bf16⟩
  | .hbm, ⟨31, _⟩ => ⟨S1x128, .f32⟩
  | .hbm, ⟨32, _⟩ => ⟨S8x128, .f32⟩
  | .hbm, ⟨33, _⟩ => ⟨S1024, .f32⟩
  | .hbm, ⟨34, _⟩ => ⟨S1x128, .f32⟩
  | .hbm, ⟨35, _⟩ => ⟨S8x128, .f32⟩
  | .hbm, ⟨36, _⟩ => ⟨S1024, .f32⟩
  | .hbm, ⟨37, _⟩ => ⟨S_, .f32⟩
  | .hbm, ⟨38, _⟩ => ⟨S1024, .f32⟩
  | .hbm, ⟨39, _⟩ => ⟨S1x128, .f32⟩
  | .hbm, ⟨40, _⟩ => ⟨S8x128, .f32⟩
  | .hbm, ⟨41, _⟩ => ⟨S1024, .f32⟩
  | .hbm, ⟨42, _⟩ => ⟨S_, .f32⟩
  | .hbm, ⟨43, _⟩ => ⟨S512, .f32⟩
  | .hbm, ⟨44, _⟩ => ⟨S1x128, .f32⟩
  | .hbm, ⟨45, _⟩ => ⟨S128, .f32⟩
  | .hbm, ⟨46, _⟩ => ⟨S1x128, .f32⟩
  | .hbm, ⟨47, _⟩ => ⟨S2x128, .f32⟩
  | .hbm, ⟨48, _⟩ => ⟨S256, .f32⟩
  | .hbm, ⟨49, _⟩ => ⟨S_, .f32⟩
  | .hbm, ⟨50, _⟩ => ⟨S256, .f32⟩
  | .hbm, ⟨51, _⟩ => ⟨S1x128, .f32⟩
  | .hbm, ⟨52, _⟩ => ⟨S128, .f32⟩
  | .hbm, ⟨53, _⟩ => ⟨S1x128, .f32⟩
  | .hbm, ⟨54, _⟩ => ⟨S2x128, .f32⟩
  | .hbm, ⟨55, _⟩ => ⟨S256, .f32⟩
  | .hbm, ⟨56, _⟩ => ⟨S_, .f32⟩
  | .hbm, ⟨57, _⟩ => ⟨S256, .f32⟩
  | .hbm, ⟨58, _⟩ => ⟨S5632, .f32⟩
  | .hbm, ⟨59, _⟩ => ⟨S_, .f32⟩
  | .hbm, ⟨60, _⟩ => ⟨S2048, .f32⟩
  | .hbm, ⟨61, _⟩ => ⟨S_, .f32⟩
  | .hbm, ⟨62, _⟩ => ⟨S1024, .f32⟩
  | .hbm, ⟨63, _⟩ => ⟨S_, .f32⟩
  | .hbm, ⟨64, _⟩ => ⟨S1024, .f32⟩
  | .hbm, ⟨65, _⟩ => ⟨S_, .f32⟩
  | .hbm, ⟨66, _⟩ => ⟨S512, .f32⟩
  | .hbm, ⟨67, _⟩ => ⟨S_, .f32⟩
  | .hbm, ⟨68, _⟩ => ⟨S256, .f32⟩
  | .hbm, ⟨69, _⟩ => ⟨S_, .f32⟩
  | .hbm, ⟨70, _⟩ => ⟨S256, .f32⟩
  | .hbm, ⟨71, _⟩ => ⟨S_, .f32⟩
  | .hbm, ⟨72, _⟩ => ⟨S256, .f32⟩
  | .hbm, ⟨73, _⟩ => ⟨S_, .f32⟩
  | .hbm, ⟨74, _⟩ => ⟨S256, .f32⟩
  | .hbm, ⟨75, _⟩ => ⟨S5632, .f32⟩
  | .hbm, ⟨76, _⟩ => ⟨S1x5632, .f32⟩
  | .hbm, ⟨77, _⟩ => ⟨S1x5632, .f32⟩
  | .hbm, ⟨78, _⟩ => ⟨S8192x2048, .f32⟩
  | .hbm, ⟨79, _⟩ => ⟨S1x2048, .f32⟩
  | .hbm, ⟨80, _⟩ => ⟨S2048, .f32⟩
  | .hbm, ⟨81, _⟩ => ⟨S1x2048, .f32⟩
  | .hbm, ⟨82, _⟩ => ⟨S8192x5632, .f32⟩
  | .hbm, ⟨83, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1408, .bf16⟩
  | .local _ .vmem, ⟨4, _⟩ => ⟨S2048x1408, .bf16⟩
  | .local _ .vmem, ⟨5, _⟩ => ⟨S2048x128, .bf16⟩
  | .local _ .vmem, ⟨6, _⟩ => ⟨S1x1408, .f32⟩
  | .local _ .vmem, ⟨7, _⟩ => ⟨S1x1408, .f32⟩
  | .local _ .vmem, ⟨8, _⟩ => ⟨S1x1408, .f32⟩
  | .local _ .vmem, ⟨9, _⟩ => ⟨S1x1408, .f32⟩
  | .local _ .vmem, ⟨10, _⟩ => ⟨S1024x1408, .f32⟩
  | .local _ .vmem, ⟨11, _⟩ => ⟨S1024x1408, .f32⟩
  | .local _ .vmem, ⟨12, _⟩ => ⟨S1024x128, .f32⟩
  | .local _ .vmem, ⟨13, _⟩ => ⟨S1024x128, .f32⟩
  | .local _ .vmem, ⟨14, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_call0_v0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_0 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_1 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_2 : Ref sig .tc := ⟨.hbm, 56, rfl⟩
abbrev main_v44 : Ref sig .tc := ⟨.hbm, 57, rfl⟩
abbrev main_v45 : Ref sig .tc := ⟨.hbm, 58, rfl⟩
abbrev main_cst_3 : Ref sig .tc := ⟨.hbm, 59, rfl⟩
abbrev main_v46 : Ref sig .tc := ⟨.hbm, 60, rfl⟩
abbrev main_cst_4 : Ref sig .tc := ⟨.hbm, 61, rfl⟩
abbrev main_v47 : Ref sig .tc := ⟨.hbm, 62, rfl⟩
abbrev main_cst_5 : Ref sig .tc := ⟨.hbm, 63, rfl⟩
abbrev main_v48 : Ref sig .tc := ⟨.hbm, 64, rfl⟩
abbrev main_cst_6 : Ref sig .tc := ⟨.hbm, 65, rfl⟩
abbrev main_v49 : Ref sig .tc := ⟨.hbm, 66, rfl⟩
abbrev main_cst_7 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61_0 : Ref sig .tc := ⟨.hbm, 82, rfl⟩
abbrev main_v61_1 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== EvenProjRefIdeal.lean ====
abbrev S4x2048x2048 : Shape := ⟨3, ![4, 2048, 2048]⟩
abbrev S2x2048 : Shape := ⟨2, ![2, 2048]⟩
abbrev S1x2048x5664 : Shape := ⟨3, ![1, 2048, 5664]⟩
abbrev S1x128 : Shape := ⟨2, ![1, 128]⟩
abbrev S1x3x128 : Shape := ⟨3, ![1, 3, 128]⟩
abbrev S1x2048 : Shape := ⟨2, ![1, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S2048x5664 : Shape := ⟨2, ![2048, 5664]⟩
abbrev S4x2048x5664 : Shape := ⟨3, ![4, 2048, 5664]⟩
abbrev S4x2048x1024 : Shape := ⟨3, ![4, 2048, 1024]⟩
abbrev S4x2048x8 : Shape := ⟨3, ![4, 2048, 8]⟩
abbrev S4x2048x256 : Shape := ⟨3, ![4, 2048, 256]⟩
abbrev S4x2048x24 : Shape := ⟨3, ![4, 2048, 24]⟩
abbrev S4x2048x8x128 : Shape := ⟨4, ![4, 2048, 8, 128]⟩
abbrev S128 : Shape := ⟨1, ![128]⟩
abbrev S4x2048x8x1 : Shape := ⟨4, ![4, 2048, 8, 1]⟩
abbrev S1x1x1x128 : Shape := ⟨4, ![1, 1, 1, 128]⟩
abbrev S4x2048x2x128 : Shape := ⟨4, ![4, 2048, 2, 128]⟩
abbrev S1x1x128 : Shape := ⟨3, ![1, 1, 128]⟩
abbrev S4x2048x2 : Shape := ⟨3, ![4, 2048, 2]⟩
abbrev S4x2048x2x1 : Shape := ⟨4, ![4, 2048, 2, 1]⟩
abbrev S4x2048x44x128 : Shape := ⟨4, ![4, 2048, 44, 128]⟩
abbrev S8192x5632 : Shape := ⟨2, ![8192, 5632]⟩
abbrev S4x2048x32 : Shape := ⟨3, ![4, 2048, 32]⟩
abbrev S4x2048x128 : Shape := ⟨3, ![4, 2048, 128]⟩
abbrev S8192x128 : Shape := ⟨2, ![8192, 128]⟩

abbrev nBuf : Space → Nat
  | .hbm => 143
  | .vmem => 0
  | .smem => 0
  | _ => 0

abbrev hbmTy0_0 (i : Nat) : BufTy := match i % 128 with
  | 0 => ⟨S4x2048x2048, .f32⟩
  | 1 => ⟨S2x2048, .f32⟩
  | 2 => ⟨S1x2048x5664, .f32⟩
  | 3 => ⟨S1x128, .f32⟩
  | 4 => ⟨S1x128, .f32⟩
  | 5 => ⟨S1x128, .f32⟩
  | 6 => ⟨S1x3x128, .f32⟩
  | 7 => ⟨S1x2048, .f32⟩
  | 8 => ⟨S2048, .f32⟩
  | 9 => ⟨S4x2048x2048, .f32⟩
  | 10 => ⟨S_, .f32⟩
  | 11 => ⟨S4x2048, .f32⟩
  | 12 => ⟨S4x2048x1, .f32⟩
  | 13 => ⟨S_, .f32⟩
  | 14 => ⟨S4x2048x1, .f32⟩
  | 15 => ⟨S4x2048x1, .f32⟩
  | 16 => ⟨S_, .f32⟩
  | 17 => ⟨S4x2048x1, .f32⟩
  | 18 => ⟨S4x2048x1, .f32⟩
  | 19 => ⟨S4x2048x1, .f32⟩
  | 20 => ⟨S4x2048x2048, .f32⟩
  | 21 => ⟨S4x2048x2048, .f32⟩
  | 22 => ⟨S1x1x2048, .f32⟩
  | 23 => ⟨S4x2048x2048, .f32⟩
  | 24 => ⟨S4x2048x2048, .f32⟩
  | 25 => ⟨S2048x5664, .f32⟩
  | 26 => ⟨S4x2048x5664, .f32⟩
  | 27 => ⟨S4x2048x1024, .f32⟩
  | 28 => ⟨S4x2048x1024, .f32⟩
  | 29 => ⟨S4x2048x1024, .f32⟩
  | 30 => ⟨S4x2048x8, .f32⟩
  | 31 => ⟨S4x2048x1024, .f32⟩
  | 32 => ⟨S4x2048x256, .f32⟩
  | 33 => ⟨S4x2048x256, .f32⟩
  | 34 => ⟨S4x2048x256, .f32⟩
  | 35 => ⟨S4x2048x256, .f32⟩
  | 36 => ⟨S4x2048x256, .f32⟩
  | 37 => ⟨S4x2048x256, .f32⟩
  | 38 => ⟨S4x2048x24, .f32⟩
  | 39 => ⟨S4x2048x8x128, .f32⟩
  | 40 => ⟨S128, .f32⟩
  | 41 => ⟨S4x2048x8x128, .f32⟩
  | 42 => ⟨S_, .f32⟩
  | 43 => ⟨S4x2048x8, .f32⟩
  | 44 => ⟨S4x2048x8x1, .f32⟩
  | 45 => ⟨S_, .f32⟩
  | 46 => ⟨S4x2048x8x1, .f32⟩
  | 47 => ⟨S4x2048x8x1, .f32⟩
  | 48 => ⟨S_, .f32⟩
  | 49 => ⟨S4x2048x8x1, .f32⟩
  | 50 => ⟨S4x2048x8x1, .f32⟩
  | 51 => ⟨S4x2048x8x1, .f32⟩
  | 52 => ⟨S4x2048x8x128, .f32⟩
  | 53 => ⟨S4x2048x8x128, .f32⟩
  | 54 => ⟨S1x1x1x128, .f32⟩
  | 55 => ⟨S4x2048x8x128, .f32⟩
  | 56 => ⟨S4x2048x8x128, .f32⟩
  | 57 => ⟨S4x2048x8x128, .f32⟩
  | 58 => ⟨S128, .f32⟩
  | 59 => ⟨S4x2048x8x128, .f32⟩
  | 60 => ⟨S_, .f32⟩
  | 61 => ⟨S4x2048x8, .f32⟩
  | 62 => ⟨S4x2048x8x1, .f32⟩
  | 63 => ⟨S_, .f32⟩
  | 64 => ⟨S4x2048x8x1, .f32⟩
  | 65 => ⟨S4x2048x8x1, .f32⟩
  | 66 => ⟨S_, .f32⟩
  | 67 => ⟨S4x2048x8x1, .f32⟩
  | 68 => ⟨S4x2048x8x1, .f32⟩
  | 69 => ⟨S4x2048x8x1, .f32⟩
  | 70 => ⟨S4x2048x8x128, .f32⟩
  | 71 => ⟨S4x2048x8x128, .f32⟩
  | 72 => ⟨S1x1x1x128, .f32⟩
  | 73 => ⟨S4x2048x8x128, .f32⟩
  | 74 => ⟨S4x2048x8x128, .f32⟩
  | 75 => ⟨S4x2048x8x128, .f32⟩
  | 76 => ⟨S4x2048x8x128, .f32⟩
  | 77 => ⟨S128, .f32⟩
  | 78 => ⟨S4x2048x8x128, .f32⟩
  | 79 => ⟨S_, .f32⟩
  | 80 => ⟨S4x2048x8, .f32⟩
  | 81 => ⟨S4x2048x8x1, .f32⟩
  | 82 => ⟨S_, .f32⟩
  | 83 => ⟨S4x2048x8x1, .f32⟩
  | 84 => ⟨S4x2048x8x1, .f32⟩
  | 85 => ⟨S_, .f32⟩
  | 86 => ⟨S4x2048x8x1, .f32⟩
  | 87 => ⟨S4x2048x8x1, .f32⟩
  | 88 => ⟨S4x2048x8x1, .f32⟩
  | 89 => ⟨S4x2048x8x128, .f32⟩
  | 90 => ⟨S4x2048x8x128, .f32⟩
  | 91 => ⟨S1x1x1x128, .f32⟩
  | 92 => ⟨S4x2048x8x128, .f32⟩
  | 93 => ⟨S4x2048x8x128, .f32⟩
  | 94 => ⟨S4x2048x2x128, .f32⟩
  | 95 => ⟨S4x2048x2x128, .f32⟩
  | 96 => ⟨S4x2048x2x128, .f32⟩
  | 97 => ⟨S1x1x128, .f32⟩
  | 98 => ⟨S128, .f32⟩
  | 99 => ⟨S4x2048x2x128, .f32⟩
  | 100 => ⟨S_, .f32⟩
  | 101 => ⟨S4x2048x2, .f32⟩
  | 102 => ⟨S4x2048x2x1, .f32⟩
  | 103 => ⟨S_, .f32⟩
  | 104 => ⟨S4x2048x2x1, .f32⟩
  | 105 => ⟨S4x2048x2x1, .f32⟩
  | 106 => ⟨S_, .f32⟩
  | 107 => ⟨S4x2048x2x1, .f32⟩
  | 108 => ⟨S4x2048x2x1, .f32⟩
  | 109 => ⟨S4x2048x2x1, .f32⟩
  | 110 => ⟨S4x2048x2x128, .f32⟩
  | 111 => ⟨S4x2048x2x128, .f32⟩
  | 112 => ⟨S1x1x1x128, .f32⟩
  | 113 => ⟨S4x2048x2x128, .f32⟩
  | 114 => ⟨S4x2048x2x128, .f32⟩
  | 115 => ⟨S4x2048x2x128, .f32⟩
  | 116 => ⟨S4x2048x2x128, .f32⟩
  | 117 => ⟨S1x1x128, .f32⟩
  | 118 => ⟨S128, .f32⟩
  | 119 => ⟨S4x2048x2x128, .f32⟩
  | 120 => ⟨S_, .f32⟩
  | 121 => ⟨S4x2048x2, .f32⟩
  | 122 => ⟨S4x2048x2x1, .f32⟩
  | 123 => ⟨S_, .f32⟩
  | 124 => ⟨S4x2048x2x1, .f32⟩
  | 125 => ⟨S4x2048x2x1, .f32⟩
  | 126 => ⟨S_, .f32⟩
  | 127 => ⟨S4x2048x2x1, .f32⟩
  | _ => ⟨S4x2048x2048, .f32⟩

abbrev hbmTy0_1 (i : Nat) : BufTy := match i % 128 with
  | 0 => ⟨S4x2048x2x1, .f32⟩
  | 1 => ⟨S4x2048x2x1, .f32⟩
  | 2 => ⟨S4x2048x2x128, .f32⟩
  | 3 => ⟨S4x2048x2x128, .f32⟩
  | 4 => ⟨S1x1x1x128, .f32⟩
  | 5 => ⟨S4x2048x2x128, .f32⟩
  | 6 => ⟨S4x2048x2x128, .f32⟩
  | 7 => ⟨S4x2048x2x128, .f32⟩
  | 8 => ⟨S4x2048x44x128, .f32⟩
  | 9 => ⟨S8192x5632, .f32⟩
  | 10 => ⟨S4x2048x32, .f32⟩
  | 11 => ⟨S_, .i32⟩
  | 12 => ⟨S_, .f32⟩
  | 13 => ⟨S4x2048x128, .f32⟩
  | 14 => ⟨S8192x128, .f32⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_5 : Ref sig .tc := ⟨.hbm, 60, rfl⟩
abbrev main_v47 : Ref sig .tc := ⟨.hbm, 61, rfl⟩
abbrev main_v48 : Ref sig .tc := ⟨.hbm, 62, rfl⟩
abbrev main_cst_6 : Ref sig .tc := ⟨.hbm, 63, rfl⟩
abbrev main_v49 : Ref sig .tc := ⟨.hbm, 64, rfl⟩
abbrev main_v50 : Ref sig .tc := ⟨.hbm, 65, rfl⟩
abbrev main_cst_7 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_8 : Ref sig .tc := ⟨.hbm, 79, rfl⟩
abbrev main_v63 : Ref sig .tc := ⟨.hbm, 80, rfl⟩
abbrev main_v64 : Ref sig .tc := ⟨.hbm, 81, rfl⟩
abbrev main_cst_9 : Ref sig .tc := ⟨.hbm, 82, rfl⟩
abbrev main_v65 : Ref sig .tc := ⟨.hbm, 83, rfl⟩
abbrev main_v66 : Ref sig .tc := ⟨.hbm, 84, rfl⟩
abbrev main_cst_10 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst_11 : Ref sig .tc := ⟨.hbm, 100, rfl⟩
abbrev main_v81 : Ref sig .tc := ⟨.hbm, 101, rfl⟩
abbrev main_v82 : Ref sig .tc := ⟨.hbm, 102, rfl⟩
abbrev main_cst_12 : Ref sig .tc := ⟨.hbm, 103, rfl⟩
abbrev main_v83 : Ref sig .tc := ⟨.hbm, 104, rfl⟩
abbrev main_v84 : Ref sig .tc := ⟨.hbm, 105, rfl⟩
abbrev main_cst_13 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_cst_14 : Ref sig .tc := ⟨.hbm, 120, rfl⟩
abbrev main_v98 : Ref sig .tc := ⟨.hbm, 121, rfl⟩
abbrev main_v99 : Ref sig .tc := ⟨.hbm, 122, rfl⟩
abbrev main_cst_15 : Ref sig .tc := ⟨.hbm, 123, rfl⟩
abbrev main_v100 : Ref sig .tc := ⟨.hbm, 124, rfl⟩
abbrev main_v101 : Ref sig .tc := ⟨.hbm, 125, rfl⟩
abbrev main_cst_16 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_c : Ref sig .tc := ⟨.hbm, 139, rfl⟩
abbrev main_call0_v0 : Ref sig .tc := ⟨.hbm, 140, rfl⟩
abbrev main_v114 : Ref sig .tc := ⟨.hbm, 141, rfl⟩
abbrev main_v115 : Ref sig .tc := ⟨.hbm, 142, rfl⟩

abbrev nD : Nat := 1
abbrev τ : Topo := Topo.v7x

variable {F : FTy → Type} [FloatOps F]
-- ==== OddProj.lean ====
abbrev S4x2048x2048 : Shape := ⟨3, ![4, 2048, 2048]⟩
abbrev S2x2048 : Shape := ⟨2, ![2, 2048]⟩
abbrev S1x2048x7184 : Shape := ⟨3, ![1, 2048, 7184]⟩
abbrev S2048x7184 : Shape := ⟨2, ![2048, 7184]⟩
abbrev S2048x512 : Shape := ⟨2, ![2048, 512]⟩
abbrev S2048x1024 : Shape := ⟨2, ![2048, 1024]⟩
abbrev S2048x16 : Shape := ⟨2, ![2048, 16]⟩
abbrev S2048x7168 : Shape := ⟨2, ![2048, 7168]⟩
abbrev S_ : Shape := ⟨0, ![]⟩
abbrev S2048x128 : Shape := ⟨2, ![2048, 128]⟩
abbrev S512 : Shape := ⟨1, ![512]⟩
abbrev S6656 : Shape := ⟨1, ![6656]⟩
abbrev S7168 : Shape := ⟨1, ![7168]⟩
abbrev S1x7168 : Shape := ⟨2, ![1, 7168]⟩
abbrev S8192x2048 : Shape := ⟨2, ![8192, 2048]⟩
abbrev S1x2048 : Shape := ⟨2, ![1, 2048]⟩
abbrev S2048 : Shape := ⟨1, ![2048]⟩
abbrev S8192x7168 : Shape := ⟨2, ![8192, 7168]⟩
abbrev S8192x128 : Shape := ⟨2, ![8192, 128]⟩
abbrev S1024x2048 : Shape := ⟨2, ![1024, 2048]⟩
abbrev S1x1024 : Shape := ⟨2, ![1, 1024]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 33
  | .vmem => 15
  | .smem => 0
  | _ => 0

abbrev bufTy : (tb : Table) → Fin (tcTables nBuf tb) → BufTy
  | .hbm, ⟨0, _⟩ => ⟨S4x2048x2048, .f32⟩
  | .hbm, ⟨1, _⟩ => ⟨S2x2048, .f32⟩
  | .hbm, ⟨2, _⟩ => ⟨S1x2048x7184, .f32⟩
  | .hbm, ⟨3, _⟩ => ⟨S2048x7184, .f32⟩
  | .hbm, ⟨4, _⟩ => ⟨S2048x512, .f32⟩
  | .hbm, ⟨5, _⟩ => ⟨S2048x512, .f32⟩
  | .hbm, ⟨6, _⟩ => ⟨S2048x1024, .f32⟩
  | .hbm, ⟨7, _⟩ => ⟨S2048x16, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x7168, .f32⟩
  | .hbm, ⟨14, _⟩ => ⟨S2048x7168, .bf16⟩
  | .hbm, ⟨15, _⟩ => ⟨S_, .i32⟩
  | .hbm, ⟨16, _⟩ => ⟨S_, .f32⟩
  | .hbm, ⟨17, _⟩ => ⟨S2048x128, .f32⟩
  | .hbm, ⟨18, _⟩ => ⟨S2048x128, .bf16⟩
  | .hbm, ⟨19, _⟩ => ⟨S_, .f32⟩
  | .hbm, ⟨20, _⟩ => ⟨S512, .f32⟩
  | .hbm, ⟨21, _⟩ => ⟨S_, .f32⟩
  | .hbm, ⟨22, _⟩ => ⟨S6656, .f32⟩
  | .hbm, ⟨23, _⟩ => ⟨S7168, .f32⟩
  | .hbm, ⟨24, _⟩ => ⟨S1x7168, .f32⟩
  | .hbm, ⟨25, _⟩ => ⟨S_, .f32⟩
  | .hbm, ⟨26, _⟩ => ⟨S1x7168, .f32⟩
  | .hbm, ⟨27, _⟩ => ⟨S8192x2048, .f32⟩
  | .hbm, ⟨28, _⟩ => ⟨S1x2048, .f32⟩
  | .hbm, ⟨29, _⟩ => ⟨S2048, .f32⟩
  | .hbm, ⟨30, _⟩ => ⟨S1x2048, .f32⟩
  | .hbm, ⟨31, _⟩ => ⟨S8192x7168, .f32⟩
  | .hbm, ⟨32, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x128, .bf16⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x128, .f32⟩
  | .local _ .vmem, ⟨13, _⟩ => ⟨S1024x128, .f32⟩
  | .local _ .vmem, ⟨14, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_call0_v0 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23_0 : Ref sig .tc := ⟨.hbm, 31, rfl⟩
abbrev main_v23_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== OddProjRefIdeal.lean ====
abbrev S4x2048x2048 : Shape := ⟨3, ![4, 2048, 2048]⟩
abbrev S2x2048 : Shape := ⟨2, ![2, 2048]⟩
abbrev S1x2048x7184 : Shape := ⟨3, ![1, 2048, 7184]⟩
abbrev S1x2048 : Shape := ⟨2, ![1, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S2048x7184 : Shape := ⟨2, ![2048, 7184]⟩
abbrev S4x2048x7184 : Shape := ⟨3, ![4, 2048, 7184]⟩
abbrev S4x2048x512 : Shape := ⟨3, ![4, 2048, 512]⟩
abbrev S4x2048x1024 : Shape := ⟨3, ![4, 2048, 1024]⟩
abbrev S4x2048x16 : Shape := ⟨3, ![4, 2048, 16]⟩
abbrev S4x2048x7168 : Shape := ⟨3, ![4, 2048, 7168]⟩
abbrev S8192x7168 : Shape := ⟨2, ![8192, 7168]⟩
abbrev S4x2048x128 : Shape := ⟨3, ![4, 2048, 128]⟩
abbrev S8192x128 : Shape := ⟨2, ![8192, 128]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2x2048, .f32⟩
  | .hbm, ⟨2, _⟩ => ⟨S1x2048x7184, .f32⟩
  | .hbm, ⟨3, _⟩ => ⟨S1x2048, .f32⟩
  | .hbm, ⟨4, _⟩ => ⟨S2048, .f32⟩
  | .hbm, ⟨5, _⟩ => ⟨S4x2048x2048, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x2048, .f32⟩
  | .hbm, ⟨17, _⟩ => ⟨S4x2048x2048, .f32⟩
  | .hbm, ⟨18, _⟩ => ⟨S1x1x2048, .f32⟩
  | .hbm, ⟨19, _⟩ => ⟨S4x2048x2048, .f32⟩
  | .hbm, ⟨20, _⟩ => ⟨S4x2048x2048, .f32⟩
  | .hbm, ⟨21, _⟩ => ⟨S2048x7184, .f32⟩
  | .hbm, ⟨22, _⟩ => ⟨S4x2048x7184, .f32⟩
  | .hbm, ⟨23, _⟩ => ⟨S4x2048x512, .f32⟩
  | .hbm, ⟨24, _⟩ => ⟨S4x2048x512, .f32⟩
  | .hbm, ⟨25, _⟩ => ⟨S4x2048x1024, .f32⟩
  | .hbm, ⟨26, _⟩ => ⟨S4x2048x16, .f32⟩
  | .hbm, ⟨27, _⟩ => ⟨S4x2048x1024, .f32⟩
  | .hbm, ⟨28, _⟩ => ⟨S4x2048x1024, .f32⟩
  | .hbm, ⟨29, _⟩ => ⟨S4x2048x1024, .f32⟩
  | .hbm, ⟨30, _⟩ => ⟨S4x2048x1024, .f32⟩
  | .hbm, ⟨31, _⟩ => ⟨S4x2048x1024, .f32⟩
  | .hbm, ⟨32, _⟩ => ⟨S_, .f32⟩
  | .hbm, ⟨33, _⟩ => ⟨S4x2048x512, .f32⟩
  | .hbm, ⟨34, _⟩ => ⟨S4x2048x512, .f32⟩
  | .hbm, ⟨35, _⟩ => ⟨S4x2048x7168, .f32⟩
  | .hbm, ⟨36, _⟩ => ⟨S8192x7168, .f32⟩
  | .hbm, ⟨37, _⟩ => ⟨S_, .i32⟩
  | .hbm, ⟨38, _⟩ => ⟨S_, .f32⟩
  | .hbm, ⟨39, _⟩ => ⟨S4x2048x128, .f32⟩
  | .hbm, ⟨40, _⟩ => ⟨S8192x128, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c : Ref sig .tc := ⟨.hbm, 37, rfl⟩
abbrev main_call0_v0 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== FfnUp.lean ====
abbrev S4x2048x2048 : Shape := ⟨3, ![4, 2048, 2048]⟩
abbrev S2x2048 : Shape := ⟨2, ![2, 2048]⟩
abbrev S2x2048x5632 : Shape := ⟨3, ![2, 2048, 5632]⟩
abbrev S8192x2048 : Shape := ⟨2, ![8192, 2048]⟩
abbrev S1x2048 : Shape := ⟨2, ![1, 2048]⟩
abbrev S2048 : Shape := ⟨1, ![2048]⟩
abbrev S8192x5632 : Shape := ⟨2, ![8192, 5632]⟩
abbrev S1024x2048 : Shape := ⟨2, ![1024, 2048]⟩
abbrev S1x2048x512 : Shape := ⟨3, ![1, 2048, 512]⟩
abbrev S1024x512 : Shape := ⟨2, ![1024, 512]⟩
abbrev S1024 : Shape := ⟨1, ![1024]⟩
abbrev S1024x1 : Shape := ⟨2, ![1024, 1]⟩
abbrev S2048x512 : Shape := ⟨2, ![2048, 512]⟩

abbrev nBuf : Space → Nat
  | .hbm => 9
  | .vmem => 10
  | .smem => 0
  | _ => 0

abbrev bufTy : (tb : Table) → Fin (tcTables nBuf tb) → BufTy
  | .hbm, ⟨0, _⟩ => ⟨S4x2048x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S8192x2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S8192x5632, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1024x512, .bf16⟩
  | .local _ .vmem, ⟨8, _⟩ => ⟨S1024x512, .bf16⟩
  | .local _ .vmem, ⟨9, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnUpRefIdeal.lean ====
abbrev S4x2048x2048 : Shape := ⟨3, ![4, 2048, 2048]⟩
abbrev S2x2048 : Shape := ⟨2, ![2, 2048]⟩
abbrev S2x2048x5632 : Shape := ⟨3, ![2, 2048, 5632]⟩
abbrev S1x2048 : Shape := ⟨2, ![1, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S1x2048x5632 : Shape := ⟨3, ![1, 2048, 5632]⟩
abbrev S2048x5632 : Shape := ⟨2, ![2048, 5632]⟩
abbrev S4x2048x5632 : Shape := ⟨3, ![4, 2048, 5632]⟩
abbrev S8192x5632 : Shape := ⟨2, ![8192, 5632]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S1x2048, .f32⟩
  | .hbm, ⟨5, _⟩ => ⟨S2048, .f32⟩
  | .hbm, ⟨6, _⟩ => ⟨S4x2048x2048, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x2048, .f32⟩
  | .hbm, ⟨18, _⟩ => ⟨S4x2048x2048, .f32⟩
  | .hbm, ⟨19, _⟩ => ⟨S1x1x2048, .f32⟩
  | .hbm, ⟨20, _⟩ => ⟨S4x2048x2048, .f32⟩
  | .hbm, ⟨21, _⟩ => ⟨S4x2048x2048, .f32⟩
  | .hbm, ⟨22, _⟩ => ⟨S1x2048x5632, .f32⟩
  | .hbm, ⟨23, _⟩ => ⟨S2048x5632, .f32⟩
  | .hbm, ⟨24, _⟩ => ⟨S4x2048x5632, .f32⟩
  | .hbm, ⟨25, _⟩ => ⟨S4x2048x5632, .f32⟩
  | .hbm, ⟨26, _⟩ => ⟨S4x2048x5632, .f32⟩
  | .hbm, ⟨27, _⟩ => ⟨S_, .f32⟩
  | .hbm, ⟨28, _⟩ => ⟨S4x2048x5632, .f32⟩
  | .hbm, ⟨29, _⟩ => ⟨S4x2048x5632, .f32⟩
  | .hbm, ⟨30, _⟩ => ⟨S_, .f32⟩
  | .hbm, ⟨31, _⟩ => ⟨S4x2048x5632, .f32⟩
  | .hbm, ⟨32, _⟩ => ⟨S4x2048x5632, .f32⟩
  | .hbm, ⟨33, _⟩ => ⟨S4x2048x5632, .f32⟩
  | .hbm, ⟨34, _⟩ => ⟨S1x2048x5632, .f32⟩
  | .hbm, ⟨35, _⟩ => ⟨S2048x5632, .f32⟩
  | .hbm, ⟨36, _⟩ => ⟨S4x2048x5632, .f32⟩
  | .hbm, ⟨37, _⟩ => ⟨S4x2048x5632, .f32⟩
  | .hbm, ⟨38, _⟩ => ⟨S8192x5632, .f32⟩
  | .hbm, ⟨39, _⟩ => ⟨S8192x5632, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]
-- ==== FfnDown.lean ====
abbrev S8192x5632 : Shape := ⟨2, ![8192, 5632]⟩
abbrev S2x5632x2048 : Shape := ⟨3, ![2, 5632, 2048]⟩
abbrev S8192x2048 : Shape := ⟨2, ![8192, 2048]⟩
abbrev S512x5632 : Shape := ⟨2, ![512, 5632]⟩
abbrev S1x5632x512 : Shape := ⟨3, ![1, 5632, 512]⟩
abbrev S512x512 : Shape := ⟨2, ![512, 512]⟩
abbrev S5632x512 : Shape := ⟨2, ![5632, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S2x5632x2048, .f32⟩
  | .hbm, ⟨2, _⟩ => ⟨S8192x2048, .f32⟩
  | .hbm, ⟨3, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x512, .f32⟩
  | .local _ .vmem, ⟨3, _⟩ => ⟨S1x5632x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S5632x512, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnDownIdeal.lean ====
abbrev S8192x5632 : Shape := ⟨2, ![8192, 5632]⟩
abbrev S2x5632x2048 : Shape := ⟨3, ![2, 5632, 2048]⟩
abbrev S8192x2048 : Shape := ⟨2, ![8192, 2048]⟩
abbrev S512x5632 : Shape := ⟨2, ![512, 5632]⟩
abbrev S1x5632x512 : Shape := ⟨3, ![1, 5632, 512]⟩
abbrev S512x512 : Shape := ⟨2, ![512, 512]⟩
abbrev S5632x512 : Shape := ⟨2, ![5632, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S2x5632x2048, .f32⟩
  | .hbm, ⟨2, _⟩ => ⟨S8192x2048, .f32⟩
  | .hbm, ⟨3, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x512, .f32⟩
  | .local _ .vmem, ⟨3, _⟩ => ⟨S1x5632x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S5632x512, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnDownRefIdeal.lean ====
abbrev S8192x5632 : Shape := ⟨2, ![8192, 5632]⟩
abbrev S2x5632x2048 : Shape := ⟨3, ![2, 5632, 2048]⟩
abbrev S8192x2048 : Shape := ⟨2, ![8192, 2048]⟩
abbrev S1x5632x2048 : Shape := ⟨3, ![1, 5632, 2048]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2x5632x2048, .f32⟩
  | .hbm, ⟨2, _⟩ => ⟨S8192x2048, .f32⟩
  | .hbm, ⟨3, _⟩ => ⟨S8192x5632, .f32⟩
  | .hbm, ⟨4, _⟩ => ⟨S1x5632x2048, .f32⟩
  | .hbm, ⟨5, _⟩ => ⟨S5632x2048, .f32⟩
  | .hbm, ⟨6, _⟩ => ⟨S8192x2048, .f32⟩
  | .hbm, ⟨7, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutProj.lean ====
abbrev S8192x1024 : Shape := ⟨2, ![8192, 1024]⟩
abbrev S1x2048x2048 : Shape := ⟨3, ![1, 2048, 2048]⟩
abbrev S8192x2048 : Shape := ⟨2, ![8192, 2048]⟩
abbrev S1024x1024 : Shape := ⟨2, ![1024, 1024]⟩
abbrev S1x1024x1024 : Shape := ⟨3, ![1, 1024, 1024]⟩

abbrev nBuf : Space → Nat
  | .hbm => 5
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x2048x2048, .f32⟩
  | .hbm, ⟨3, _⟩ => ⟨S8192x2048, .f32⟩
  | .hbm, ⟨4, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutProjRefIdeal.lean ====
abbrev S8192x1024 : Shape := ⟨2, ![8192, 1024]⟩
abbrev S1x2048x2048 : Shape := ⟨3, ![1, 2048, 2048]⟩
abbrev S8192x2048 : Shape := ⟨2, ![8192, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x2048x2048, .f32⟩
  | .hbm, ⟨3, _⟩ => ⟨S8192x2048, .f32⟩
  | .hbm, ⟨4, _⟩ => ⟨S8192x2048, .bf16⟩
  | .hbm, ⟨5, _⟩ => ⟨S8192x2048, .f32⟩
  | .hbm, ⟨6, _⟩ => ⟨S2048x2048, .f32⟩
  | .hbm, ⟨7, _⟩ => ⟨S8192x2048, .f32⟩
  | .hbm, ⟨8, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== FoxPrepS.lean ====
abbrev S1x256x128 : Shape := ⟨3, ![1, 256, 128]⟩
abbrev S1x8 : Shape := ⟨2, ![1, 8]⟩
abbrev S8 : Shape := ⟨1, ![8]⟩
abbrev S_ : Shape := ⟨0, ![]⟩
abbrev S1x128 : Shape := ⟨2, ![1, 128]⟩
abbrev S256x128 : Shape := ⟨2, ![256, 128]⟩
abbrev S256x256 : Shape := ⟨2, ![256, 256]⟩

abbrev nBuf : Space → Nat
  | .hbm => 9
  | .vmem => 5
  | .smem => 0
  | _ => 0

abbrev bufTy : (tb : Table) → Fin (tcTables nBuf tb) → BufTy
  | .hbm, ⟨0, _⟩ => ⟨S1x256x128, .f32⟩
  | .hbm, ⟨1, _⟩ => ⟨S1x8, .f32⟩
  | .hbm, ⟨2, _⟩ => ⟨S8, .f32⟩
  | .hbm, ⟨3, _⟩ => ⟨S1x8, .f32⟩
  | .hbm, ⟨4, _⟩ => ⟨S_, .i32⟩
  | .hbm, ⟨5, _⟩ => ⟨S_, .f32⟩
  | .hbm, ⟨6, _⟩ => ⟨S1x128, .f32⟩
  | .hbm, ⟨7, _⟩ => ⟨S1x256x128, .f32⟩
  | .hbm, ⟨8, _⟩ => ⟨S1x256x128, .f32⟩
  | .local _ .vmem, ⟨0, _⟩ => ⟨S1x256x128, .f32⟩
  | .local _ .vmem, ⟨1, _⟩ => ⟨S1x128, .f32⟩
  | .local _ .vmem, ⟨2, _⟩ => ⟨S1x256x128, .f32⟩
  | .local _ .vmem, ⟨3, _⟩ => ⟨S1x256x128, .f32⟩
  | .local _ .vmem, ⟨4, _⟩ => ⟨S1x128, .f32⟩
  | _, _ => ⟨S1x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== FoxPrepSRefIdeal.lean ====
abbrev S1x256x128 : Shape := ⟨3, ![1, 256, 128]⟩
abbrev S1x8 : Shape := ⟨2, ![1, 8]⟩
abbrev S8 : Shape := ⟨1, ![8]⟩
abbrev S_ : Shape := ⟨0, ![]⟩
abbrev S128 : Shape := ⟨1, ![128]⟩
abbrev S1x1x128 : Shape := ⟨3, ![1, 1, 128]⟩

abbrev nBuf : Space → Nat
  | .hbm => 25
  | .vmem => 0
  | .smem => 0
  | _ => 0

abbrev bufTy : (tb : Table) → Fin (tcTables nBuf tb) → BufTy
  | .hbm, ⟨0, _⟩ => ⟨S1x256x128, .f32⟩
  | .hbm, ⟨1, _⟩ => ⟨S1x8, .f32⟩
  | .hbm, ⟨2, _⟩ => ⟨S8, .f32⟩
  | .hbm, ⟨3, _⟩ => ⟨S_, .i32⟩
  | .hbm, ⟨4, _⟩ => ⟨S_, .f32⟩
  | .hbm, ⟨5, _⟩ => ⟨S128, .f32⟩
  | .hbm, ⟨6, _⟩ => ⟨S1x1x128, .f32⟩
  | .hbm, ⟨7, _⟩ => ⟨S1x256x128, .f32⟩
  | .hbm, ⟨8, _⟩ => ⟨S1x256x128, .f32⟩
  | .hbm, ⟨9, _⟩ => ⟨S1x256x128, .f32⟩
  | .hbm, ⟨10, _⟩ => ⟨S_, .f32⟩
  | .hbm, ⟨11, _⟩ => ⟨S1x256x128, .f32⟩
  | .hbm, ⟨12, _⟩ => ⟨S1x256x128, .f32⟩
  | .hbm, ⟨13, _⟩ => ⟨S1x256x128, .f32⟩
  | .hbm, ⟨14, _⟩ => ⟨S1x256x128, .f32⟩
  | .hbm, ⟨15, _⟩ => ⟨S1x256x128, .i1⟩
  | .hbm, ⟨16, _⟩ => ⟨S1x256x128, .f32⟩
  | .hbm, ⟨17, _⟩ => ⟨S1x256x128, .f32⟩
  | .hbm, ⟨18, _⟩ => ⟨S1x256x128, .f32⟩
  | .hbm, ⟨19, _⟩ => ⟨S1x256x128, .f32⟩
  | .hbm, ⟨20, _⟩ => ⟨S1x256x128, .f32⟩
  | .hbm, ⟨21, _⟩ => ⟨S1x256x128, .f32⟩
  | .hbm, ⟨22, _⟩ => ⟨S1x256x128, .f32⟩
  | .hbm, ⟨23, _⟩ => ⟨S1x256x128, .f32⟩
  | .hbm, ⟨24, _⟩ => ⟨S1x256x128, .f32⟩
  | _, _ => ⟨S1x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call1_v0 : Ref sig .tc := ⟨.hbm, 9, rfl⟩
abbrev main_call1_call0_cst : Ref sig .tc := ⟨.hbm, 10, rfl⟩
abbrev main_call1_call0_v0 : Ref sig .tc := ⟨.hbm, 11, rfl⟩
abbrev main_call1_call0_v1 : Ref sig .tc := ⟨.hbm, 12, rfl⟩
abbrev main_call1_call0_v2 : Ref sig .tc := ⟨.hbm, 13, rfl⟩
abbrev main_call1_call0_v3 : Ref sig .tc := ⟨.hbm, 14, rfl⟩
abbrev main_call1_call0_v4 : Ref sig .tc := ⟨.hbm, 15, rfl⟩
abbrev main_call1_call0_v5 : Ref sig .tc := ⟨.hbm, 16, rfl⟩
abbrev main_call1_call0_v6 : Ref sig .tc := ⟨.hbm, 17, rfl⟩
abbrev main_call1_call0_v7 : Ref sig .tc := ⟨.hbm, 18, rfl⟩
abbrev main_call1_call0_v8 : Ref sig .tc := ⟨.hbm, 19, rfl⟩
abbrev main_call1_call0_v9 : Ref sig .tc := ⟨.hbm, 20, rfl⟩
abbrev main_call1_call0_v10 : Ref sig .tc := ⟨.hbm, 21, rfl⟩
abbrev main_call1_call0_v11 : Ref sig .tc := ⟨.hbm, 22, rfl⟩
abbrev main_call1_v1 : Ref sig .tc := ⟨.hbm, 23, rfl⟩
abbrev main_v5 : Ref sig .tc := ⟨.hbm, 24, rfl⟩

abbrev nD : Nat := 1
abbrev τ : Topo := Topo.v7x

variable {F : FTy → Type} [FloatOps F]
-- ==== FfnDownS.lean ====
abbrev S256x5632 : Shape := ⟨2, ![256, 5632]⟩
abbrev S2x5632x2048 : Shape := ⟨3, ![2, 5632, 2048]⟩
abbrev S256x2048 : Shape := ⟨2, ![256, 2048]⟩
abbrev S1x5632x512 : Shape := ⟨3, ![1, 5632, 512]⟩
abbrev S256x512 : Shape := ⟨2, ![256, 512]⟩
abbrev S5632x512 : Shape := ⟨2, ![5632, 512]⟩

abbrev nBuf : Space → Nat
  | .hbm => 4
  | .vmem => 8
  | .smem => 0
  | _ => 0

abbrev bufTy : (tb : Table) → Fin (tcTables nBuf tb) → BufTy
  | .hbm, ⟨0, _⟩ => ⟨S256x5632, .bf16⟩
  | .hbm, ⟨1, _⟩ => ⟨S2x5632x2048, .f32⟩
  | .hbm, ⟨2, _⟩ => ⟨S256x2048, .f32⟩
  | .hbm, ⟨3, _⟩ => ⟨S256x2048, .f32⟩
  | .local _ .vmem, ⟨0, _⟩ => ⟨S256x5632, .bf16⟩
  | .local _ .vmem, ⟨1, _⟩ => ⟨S1x5632x512, .f32⟩
  | .local _ .vmem, ⟨2, _⟩ => ⟨S1x5632x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S5632x512, .bf16⟩
  | _, _ => ⟨S256x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S256x5632 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnDownSRefIdeal.lean ====
abbrev S256x5632 : Shape := ⟨2, ![256, 5632]⟩
abbrev S2x5632x2048 : Shape := ⟨3, ![2, 5632, 2048]⟩
abbrev S256x2048 : Shape := ⟨2, ![256, 2048]⟩
abbrev S1x5632x2048 : Shape := ⟨3, ![1, 5632, 2048]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S256x5632, .bf16⟩
  | .hbm, ⟨1, _⟩ => ⟨S2x5632x2048, .f32⟩
  | .hbm, ⟨2, _⟩ => ⟨S256x2048, .f32⟩
  | .hbm, ⟨3, _⟩ => ⟨S256x5632, .f32⟩
  | .hbm, ⟨4, _⟩ => ⟨S1x5632x2048, .f32⟩
  | .hbm, ⟨5, _⟩ => ⟨S5632x2048, .f32⟩
  | .hbm, ⟨6, _⟩ => ⟨S256x2048, .f32⟩
  | .hbm, ⟨7, _⟩ => ⟨S256x2048, .f32⟩
  | _, _ => ⟨S256x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.FfnUp.lean ====
module

public import proofs.«01_k».proof.Proof.Gen.FfnUpIdeal.Value
public import proofs.«01_k».proof.Proof.Gen.FfnUpRefIdeal.Run
public import Idealize.ShloMosaic.Lib.Pipeline.ValueKit
public import Idealize.ShloMosaic.Lib.Pipeline.ReadBack

@[expose] public section

set_option maxRecDepth 16384

noncomputable section

namespace Cert.FfnUpIdeal.Val

open Idealize.ShloMosaic Idealize.ShloMosaic.TcCoe Idealize.SL.Sem
open Idealize.ShloMosaic.Pipeline (Dat)
open Cert.FfnUpIdeal Cert.FfnUpIdeal.Gen

variable (m : (ℓ : Loc nD τ sig) → Buf (Elt Ideal) ℓ)

/-- The block index of every window at every grid point. -/
theorem idx : ∀ t : Fin cfg0.N, win0_0.index t = ![t.val / 11, 0] ∧ win0_1.index t = ![0, 0]
    ∧ win0_2.index t = ![0, 0, t.val % 11] ∧ win0_3.index t = ![0, 0, t.val % 11]
    ∧ win0_4.index t = ![t.val / 11, t.val % 11] :=
  (by decide +kernel : ∀ t : Fin grid0.N, _)

/-- Two grid points of one run read the same block of the input rows. -/
theorem iblk0_eq (c : Dev nD) (t s : Fin cfg0.N) (h : t.val / 11 = s.val / 11) : iblk m c 0 t = iblk m c 0 s := by
  funext j
  blk_simp [iblk]
  congr 1
  blk_ext [idx t, idx s]

/-- Any two grid points read the same row of the norm weight. -/
theorem iblk1_eq (c : Dev nD) (t s : Fin cfg0.N) : iblk m c 1 t = iblk m c 1 s := by
  funext j
  blk_simp [iblk]
  congr 1
  blk_ext [idx t, idx s]

/-- The carried tile after any grid point is the normalised block of input rows of that point's run. -/
theorem scr (c : Dev nD) : ∀ (n : ℕ) (h : n < cfg0.N),
    (outsAt0 m c n h).2 = k0_pay1 (iblk m c 0 ⟨n, h⟩) (iblk m c 1 ⟨n, h⟩) := by
  intro n
  induction n with
  | zero =>
    intro h
    rw [outsAt0_A m c ⟨0, h⟩ rfl]
    frame_out
  | succ n ih =>
    intro h
    by_cases h0 : (n + 1) % 11 = 0
    · rw [outsAt0_A m c ⟨n + 1, h⟩ h0]
      frame_out
    · rw [outsAt0_B m c ⟨n + 1, h⟩ h0]
      show (outsAt0 m c n _).2 = _
      have hn : n < cfg0.N := by omega
      rw [ih hn, iblk0_eq m c ⟨n + 1, h⟩ ⟨n, hn⟩ (by show (n + 1) / 11 = n / 11; omega), iblk1_eq m c ⟨n + 1, h⟩ ⟨n, hn⟩]

/-- The reference's normalised rows: its RMS norm of the input under layer 0's norm weight. -/
def H (X : FVec Ideal Cert.FfnUpRefIdeal.S4x2048x2048 .f32) (N : FVec Ideal Cert.FfnUpRefIdeal.S2x2048 .f32) :
    FVec Ideal Cert.FfnUpRefIdeal.S4x2048x2048 .f32 :=
  mulf (mulf X (broadcastInDim Cert.FfnUpRefIdeal.S4x2048x2048 ![0, 1, 2] Cert.FfnUpRefIdeal.Gen.bcast_S4x2048x1_S4x2048x2048_0_1_2 (Host.rsqrt (addf (Host.divf (broadcastInDim Cert.FfnUpRefIdeal.S4x2048x1 ![0, 1] Cert.FfnUpRefIdeal.Gen.bcast_S4x2048_S4x2048x1_0_1 (Host.reduceAdd (mulf X X) (constant Cert.FfnUpRefIdeal.S_ .f32 0x00000000#32) Cert.FfnUpRefIdeal.Gen.reducesTo_S4x2048x2048_S4x2048_d2 Cert.FfnUpRefIdeal.Gen.h_S_)) (broadcastInDim Cert.FfnUpRefIdeal.S4x2048x1 ![] Cert.FfnUpRefIdeal.Gen.bcast_S_S4x2048x1 (constant Cert.FfnUpRefIdeal.S_ .f32 0x45000000#32))) (broadcastInDim Cert.FfnUpRefIdeal.S4x2048x1 ![] Cert.FfnUpRefIdeal.Gen.bcast_S_S4x2048x1 (constant Cert.FfnUpRefIdeal.S_ .f32 0x358637BD#32)))))) (broadcastInDim Cert.FfnUpRefIdeal.S4x2048x2048 ![0, 1, 2] Cert.FfnUpRefIdeal.Gen.bcast_S1x1x2048_S4x2048x2048_0_1_2 (broadcastInDim Cert.FfnUpRefIdeal.S1x1x2048 ![2] Cert.FfnUpRefIdeal.Gen.bcast_S2048_S1x1x2048_2 (shapeCast _ (extractStridedSlice Cert.FfnUpRefIdeal.S1x2048 ![0, 0] N Cert.FfnUpRefIdeal.Gen.slices_S2x2048_S1x2048_0_0) Cert.FfnUpRefIdeal.Gen.shapeCasts_S1x2048_S2048)))

/-- The normalised block a grid point's run carries, at an entry: the reference's normalised row there. -/
theorem norm_at (c : Dev nD) (t : Fin cfg0.N) (r : Fin 1024) (k : Fin 2048) (b : Fin 4) (r' : Fin 2048)
    (hb : b.val * 2048 + r'.val = t.val / 11 * 1024 + r.val) :
    k0_pay1 (iblk m c 0 t) (iblk m c 1 t) (ix2 r k)
      = H (m ((c : Thread nD τ).loc main_arg0)) (m ((c : Thread nD τ).loc main_arg1)) (ix3 b r' k) := by
  pointwise [k0_pay1, H]
  blk_point [iblk, V, idx t]

/-- A matrix product of rows with layer 0's matrix of a weight. -/
def D (G : FVec Ideal Cert.FfnUpRefIdeal.S4x2048x2048 .f32) (W : FVec Ideal Cert.FfnUpRefIdeal.S2x2048x5632 .f32) :
    FVec Ideal Cert.FfnUpRefIdeal.S4x2048x5632 .f32 :=
  Host.dotGeneral Cert.FfnUpRefIdeal.dot_S4x2048x2048_S2048x5632_S4x2048x5632_2_0_01_1_n_n none G (shapeCast _ (extractStridedSlice Cert.FfnUpRefIdeal.S1x2048x5632 ![0, 0, 0] W Cert.FfnUpRefIdeal.Gen.slices_S2x2048x5632_S1x2048x5632_0_0_0) Cert.FfnUpRefIdeal.Gen.shapeCasts_S1x2048x5632_S2048x5632)

/-- A matrix product's entry as the sum over the contracted axis. -/
theorem D_at (G : FVec Ideal Cert.FfnUpRefIdeal.S4x2048x2048 .f32) (W : FVec Ideal Cert.FfnUpRefIdeal.S2x2048x5632 .f32)
    (b : Fin 4) (r : Fin 2048) (n : Fin 5632) :
    D G W (ix3 b r n) = ∑ k : Fin 2048, G (ix3 b r k) * W (ix3 (0 : Fin 2) k n) := by
  pointwise [D]

/-- The kernel's product of the carried rows with the W1 weight tile: the reference's product there. -/
theorem dot1 (c : Dev nD) (t : Fin cfg0.N) (r : Fin 1024) (j : Fin 512) (b : Fin 4) (r' : Fin 2048) (n : Fin 5632)
    (hb : b.val * 2048 + r'.val = t.val / 11 * 1024 + r.val) (hn : n.val = t.val % 11 * 512 + j.val) :
    ∑ k : Fin 2048, k0_pay1 (iblk m c 0 t) (iblk m c 1 t) (ix2 r k) * iblk m c 2 t (ix3 (0 : Fin 1) k j)
      = D (H (m ((c : Thread nD τ).loc main_arg0)) (m ((c : Thread nD τ).loc main_arg1))) (m ((c : Thread nD τ).loc main_arg2)) (ix3 b r' n) := by
  rw [D_at]
  refine Finset.sum_congr rfl fun k _ => ?_
  have e : iblk m c 2 t (ix3 (0 : Fin 1) k j) = m ((c : Thread nD τ).loc main_arg2) (ix3 (0 : Fin 2) k n) := by
    blk_ext [iblk, V, idx t]
  exact congrArg₂ (fun x y : EReal => x * y) (norm_at m c t r k b r' hb) e

/-- The kernel's product of the carried rows with the W3 weight tile: the reference's product there. -/
theorem dot3 (c : Dev nD) (t : Fin cfg0.N) (r : Fin 1024) (j : Fin 512) (b : Fin 4) (r' : Fin 2048) (n : Fin 5632)
    (hb : b.val * 2048 + r'.val = t.val / 11 * 1024 + r.val) (hn : n.val = t.val % 11 * 512 + j.val) :
    ∑ k : Fin 2048, k0_pay1 (iblk m c 0 t) (iblk m c 1 t) (ix2 r k) * iblk m c 3 t (ix3 (0 : Fin 1) k j)
      = D (H (m ((c : Thread nD τ).loc main_arg0)) (m ((c : Thread nD τ).loc main_arg1))) (m ((c : Thread nD τ).loc main_arg3)) (ix3 b r' n) := by
  rw [D_at]
  refine Finset.sum_congr rfl fun k _ => ?_
  have e : iblk m c 3 t (ix3 (0 : Fin 1) k j) = m ((c : Thread nD τ).loc main_arg3) (ix3 (0 : Fin 2) k n) := by
    blk_ext [iblk, V, idx t]
  exact congrArg₂ (fun x y : EReal => x * y) (norm_at m c t r k b r' hb) e

/-- The reference's result term over its argument arrays. -/
def REF (X : FVec Ideal Cert.FfnUpRefIdeal.S4x2048x2048 .f32) (N : FVec Ideal Cert.FfnUpRefIdeal.S2x2048 .f32)
    (W1 W3 : FVec Ideal Cert.FfnUpRefIdeal.S2x2048x5632 .f32) : FVec Ideal Cert.FfnUpRefIdeal.S8192x5632 .bf16 :=
  truncf .bf16 (shapeCast _ (mulf (mulf (D (H X N) W1) (Host.divf (broadcastInDim Cert.FfnUpRefIdeal.S4x2048x5632 ![] Cert.FfnUpRefIdeal.Gen.bcast_S_S4x2048x5632 (constant Cert.FfnUpRefIdeal.S_ .f32 0x3F800000#32)) (addf (broadcastInDim Cert.FfnUpRefIdeal.S4x2048x5632 ![] Cert.FfnUpRefIdeal.Gen.bcast_S_S4x2048x5632 (constant Cert.FfnUpRefIdeal.S_ .f32 0x3F800000#32)) (Host.exp (Host.negf (D (H X N) W1)))))) (D (H X N) W3)) Cert.FfnUpRefIdeal.Gen.shapeCasts_S4x2048x5632_S8192x5632) Cert.FfnUpRefIdeal.Gen.bitsLt_bf16_f32

/-- The result array: the reference's result of the four arguments. -/
theorem final (c : Dev nD) : (dats m 0 c).arrAt 4 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  have key : (outsAt0 m c t.val t.isLt).1 = k0_pay2 (k0_pay1 (iblk m c 0 t) (iblk m c 1 t)) (iblk m c 2 t) (iblk m c 3 t) := by
    by_cases h0 : t.val % 11 = 0
    · rw [outsAt0_A m c t h0]
      frame_out
    · rw [outsAt0_B m c t h0]
      frame_out
      have hn : t.val - 1 < cfg0.N := Nat.lt_of_le_of_lt (Nat.sub_le _ _) t.isLt
      rw [scr m c _ hn, read_unread_whole, iblk0_eq m c ⟨t.val - 1, hn⟩ t (by show (t.val - 1) / 11 = t.val / 11; omega), iblk1_eq m c ⟨t.val - 1, hn⟩ t]
  rw [key]
  pointwise [k0_pay2, REF]
  rw [zero_sub]
  have hy0 : (y 0).val < 1024 := (y 0).isLt
  have e0 : (((View.whole main_v4).slice (win0_4.rect t)).emb y 0 : ℕ) = t.val / 11 * 1024 + (y 0).val := by blk_simp [idx t]
  have e1 : (((View.whole main_v4).slice (win0_4.rect t)).emb y 1 : ℕ) = t.val % 11 * 512 + (y 1).val := by blk_simp [idx t]
  refine congrArg₂ (fun x y : EReal => x * Ideal.div 1 (1 + Ideal.exp (-x)) * y) (dot1 m c t _ _ _ _ _ ?_ e1) (dot3 m c t _ _ _ _ _ ?_ e1)
    <;> (show _ / 2048 * 2048 + _ % 2048 = _; rw [e0]; omega)

end Cert.FfnUpIdeal.Val

end
-- ==== Proof.FfnDown.lean ====
module

public import proofs.«01_k».proof.Proof.Gen.FfnDownIdeal.Value
public import proofs.«01_k».proof.Proof.Gen.FfnDownRefIdeal.Run
public import Idealize.ShloMosaic.Lib.Pipeline.ValueKit
public import Idealize.ShloMosaic.Lib.Pipeline.ReadBack

@[expose] public section

set_option maxRecDepth 16384

noncomputable section

namespace Cert.FfnDownIdeal.Val

open Idealize.ShloMosaic Idealize.ShloMosaic.TcCoe Idealize.SL.Sem
open Idealize.ShloMosaic.Pipeline (Dat)
open Cert.FfnDownIdeal Cert.FfnDownIdeal.Gen

variable (m : (ℓ : Loc nD τ sig) → Buf (Elt Ideal) ℓ)

/-- The block index of every window at every grid point. -/
theorem idx : ∀ t : Fin cfg0.N, win0_0.index t = ![t.val % 16, 0] ∧ win0_1.index t = ![1, 0, t.val / 16]
    ∧ win0_2.index t = ![t.val % 16, t.val / 16] ∧ win0_3.index t = ![t.val % 16, t.val / 16] :=
  (by decide +kernel : ∀ t : Fin grid0.N, _)

/-- The weight tile a first point of a run stores: column tile `t / 16` of layer 1's weights. -/
theorem scrA (c : Dev nD) (t : Fin cfg0.N) (h0 : t.val % 16 = 0) (k : Fin 5632) (j : Fin 512) (l : Fin 2048)
    (hl : l.val = t.val / 16 * 512 + j.val) :
    (outsAt0 m c t.val t.isLt).2 (ix2 k j) = m ((c : Thread nD τ).loc main_arg1) (ix3 (1 : Fin 2) k l) := by
  rw [outsAt0_A m c t h0]
  frame_out
  pointwise [k0_pay1]
  blk_ext [iblk, V, idx t]

/-- The carried weight tile after any grid point: column tile `n / 16` of layer 1's weights. -/
theorem scr (c : Dev nD) : ∀ (n : ℕ) (h : n < cfg0.N) (k : Fin 5632) (j : Fin 512) (l : Fin 2048), l.val = n / 16 * 512 + j.val →
    (outsAt0 m c n h).2 (ix2 k j) = m ((c : Thread nD τ).loc main_arg1) (ix3 (1 : Fin 2) k l) := by
  intro n
  induction n with
  | zero => exact fun h k j l hl => scrA m c ⟨0, h⟩ rfl k j l hl
  | succ n ih =>
    intro h k j l hl
    by_cases h0 : (n + 1) % 16 = 0
    · exact scrA m c ⟨n + 1, h⟩ h0 k j l hl
    · rw [outsAt0_B m c ⟨n + 1, h⟩ h0]
      show (outsAt0 m c n _).2 (ix2 k j) = _
      exact ih _ k j l (by omega)

/-- The reference's result term over its argument arrays. -/
def REF (U : FVec Ideal Cert.FfnDownRefIdeal.S8192x5632 .bf16) (W : FVec Ideal Cert.FfnDownRefIdeal.S2x5632x2048 .f32)
    (X : FVec Ideal Cert.FfnDownRefIdeal.S8192x2048 .f32) : FVec Ideal Cert.FfnDownRefIdeal.S8192x2048 .f32 :=
  addf X (Host.dotGeneral Cert.FfnDownRefIdeal.dot_S8192x5632_S5632x2048_S8192x2048_1_0_0_1_n_n none (extf .f32 U Cert.FfnDownRefIdeal.Gen.bitsLt_bf16_f32) (shapeCast _ (extractStridedSlice Cert.FfnDownRefIdeal.S1x5632x2048 ![1, 0, 0] W Cert.FfnDownRefIdeal.Gen.slices_S2x5632x2048_S1x5632x2048_1_0_0) Cert.FfnDownRefIdeal.Gen.shapeCasts_S1x5632x2048_S5632x2048))

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  by_cases h0 : t.val % 16 = 0
  · rw [outsAt0_A m c t h0]
    frame_out
    pointwise [k0_pay2, k0_pay1, REF]
    blk_point [iblk, V, idx t]
  · rw [outsAt0_B m c t h0]
    frame_out
    have ht : t.val < 64 := lt_of_lt_of_eq t.isLt N_0
    have hs : (outsAt0 m c (t.val - 1) (Nat.lt_of_le_of_lt (Nat.sub_le _ _) t.isLt)).2
        = fun j : S5632x512.Idx => m ((c : Thread nD τ).loc main_arg1) (ix3 (1 : Fin 2) (j 0 : Fin 5632)
            (⟨t.val / 16 * 512 + (j 1).val, by have h1 : (j 1).val < 512 := (j 1).isLt; omega⟩ : Fin 2048)) := by
      funext j
      idx_vars j
      exact scr m c _ _ _ _ _ (by show t.val / 16 * 512 + _ = _; have : (t.val - 1) / 16 = t.val / 16 := by omega
                                  rw [this])
    rw [hs, read_unread_whole]
    pointwise [k0_pay2, REF]
    blk_point [iblk, V, idx t]

end Cert.FfnDownIdeal.Val

end
-- ==== Proof.OutProj.lean ====
module

public import proofs.«01_k».proof.Proof.Gen.OutProjIdeal.Value
public import proofs.«01_k».proof.Proof.Gen.OutProjRefIdeal.Run
public import Idealize.ShloMosaic.Lib.Pipeline.ValueKit
public import Idealize.ShloMosaic.Lib.Pipeline.ReadBack

@[expose] public section

set_option maxRecDepth 16384

noncomputable section

namespace Cert.OutProjIdeal.Val

open Idealize.ShloMosaic Idealize.ShloMosaic.TcCoe Idealize.SL.Sem
open Idealize.ShloMosaic.Pipeline (Dat)
open Cert.OutProjIdeal Cert.OutProjIdeal.Gen

variable (m : (ℓ : Loc nD τ sig) → Buf (Elt Ideal) ℓ)

/-- The block index of every window at every grid point. -/
theorem idx : ∀ t : Fin cfg0.N, win0_0.index t = ![t.val % 8, 0] ∧ win0_1.index t = ![t.val % 8, 0]
    ∧ win0_2.index t = ![0, 0, t.val / 8] ∧ win0_3.index t = ![0, 1, t.val / 8]
    ∧ win0_4.index t = ![t.val % 8, t.val / 8] ∧ win0_5.index t = ![t.val % 8, t.val / 8] :=
  (by decide +kernel : ∀ t : Fin grid0.N, _)

/-- The first weight tile a first point of a run stores: rows 0 to 1023 of column tile `t / 8`. -/
theorem scrA1 (c : Dev nD) (t : Fin cfg0.N) (h0 : t.val % 8 = 0) (k : Fin 1024) (j : Fin 1024) (l : Fin 2048) (k' : Fin 2048)
    (hl : l.val = t.val / 8 * 1024 + j.val) (hk : k'.val = k.val) :
    (outsAt0 m c t.val t.isLt).2.1 (ix2 k j) = m ((c : Thread nD τ).loc main_arg2) (ix3 (0 : Fin 1) k' l) := by
  rw [outsAt0_A m c t h0]
  frame_out
  pointwise [k0_pay1]
  blk_ext [iblk, V, idx t]

/-- The second weight tile a first point of a run stores: rows 1024 to 2047 of column tile `t / 8`. -/
theorem scrA2 (c : Dev nD) (t : Fin cfg0.N) (h0 : t.val % 8 = 0) (k : Fin 1024) (j : Fin 1024) (l : Fin 2048) (k' : Fin 2048)
    (hl : l.val = t.val / 8 * 1024 + j.val) (hk : k'.val = 1024 + k.val) :
    (outsAt0 m c t.val t.isLt).2.2 (ix2 k j) = m ((c : Thread nD τ).loc main_arg2) (ix3 (0 : Fin 1) k' l) := by
  rw [outsAt0_A m c t h0]
  frame_out
  pointwise [k0_pay2]
  blk_ext [iblk, V, idx t]

/-- A later point of a run leaves both carried tiles as they were. -/
theorem scrB (c : Dev nD) (t : Fin cfg0.N) (h0 : ¬t.val % 8 = 0) (h' : t.val - 1 < cfg0.N) :
    (outsAt0 m c t.val t.isLt).2 = (outsAt0 m c (t.val - 1) h').2 := by
  rw [outsAt0_B m c t h0]
  exact Prod.ext rfl rfl

/-- The carried weight tiles after any grid point: the two row halves of column tile `n / 8`. -/
theorem scr (c : Dev nD) : ∀ (n : ℕ) (h : n < cfg0.N) (k : Fin 1024) (j : Fin 1024) (l : Fin 2048) (k' : Fin 2048), l.val = n / 8 * 1024 + j.val →
    (k'.val = k.val → (outsAt0 m c n h).2.1 (ix2 k j) = m ((c : Thread nD τ).loc main_arg2) (ix3 (0 : Fin 1) k' l))
    ∧ (k'.val = 1024 + k.val → (outsAt0 m c n h).2.2 (ix2 k j) = m ((c : Thread nD τ).loc main_arg2) (ix3 (0 : Fin 1) k' l)) := by
  intro n
  induction n with
  | zero => exact fun h k j l k' hl => ⟨scrA1 m c ⟨0, h⟩ rfl k j l k' hl, scrA2 m c ⟨0, h⟩ rfl k j l k' hl⟩
  | succ n ih =>
    intro h k j l k' hl
    by_cases h0 : (n + 1) % 8 = 0
    · exact ⟨scrA1 m c ⟨n + 1, h⟩ h0 k j l k' hl, scrA2 m c ⟨n + 1, h⟩ h0 k j l k' hl⟩
    · have e := scrB m c ⟨n + 1, h⟩ h0 (by show n + 1 - 1 < cfg0.N; omega)
      simp only [Nat.add_sub_cancel] at e
      rw [e]
      exact ih _ k j l k' (by omega)

/-- The reference's result term over its argument arrays. -/
def REF (A B : FVec Ideal Cert.OutProjRefIdeal.S8192x1024 .bf16) (W : FVec Ideal Cert.OutProjRefIdeal.S1x2048x2048 .f32)
    (X : FVec Ideal Cert.OutProjRefIdeal.S8192x2048 .f32) : FVec Ideal Cert.OutProjRefIdeal.S8192x2048 .f32 :=
  addf X (Host.dotGeneral Cert.OutProjRefIdeal.dot_S8192x2048_S2048x2048_S8192x2048_1_0_0_1_n_n none (extf .f32 (concatenate Cert.OutProjRefIdeal.S8192x2048 1 [⟨Cert.OutProjRefIdeal.S8192x1024, A⟩, ⟨Cert.OutProjRefIdeal.S8192x1024, B⟩] Cert.OutProjRefIdeal.Gen.concatenates_S8192x1024_S8192x1024_S8192x2048_d1) Cert.OutProjRefIdeal.Gen.bitsLt_bf16_f32) (shapeCast _ W Cert.OutProjRefIdeal.Gen.shapeCasts_S1x2048x2048_S2048x2048))

/-- The result array: the reference's result of the four arguments. -/
theorem final (c : Dev nD) : (dats m 0 c).arrAt 5 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  by_cases h0 : t.val % 8 = 0
  · rw [outsAt0_A m c t h0]
    frame_out
    pointwise [k0_pay3, k0_pay2, k0_pay1, REF]
    rw [add_assoc]
    blk_point [iblk, V, idx t]
  · rw [outsAt0_B m c t h0]
    frame_out
    have ht : t.val < 16 := lt_of_lt_of_eq t.isLt N_0
    have hdiv : (t.val - 1) / 8 = t.val / 8 := by omega
    have hs1 : (outsAt0 m c (t.val - 1) (Nat.lt_of_le_of_lt (Nat.sub_le _ _) t.isLt)).2.1
        = fun j : S1024x1024.Idx => m ((c : Thread nD τ).loc main_arg2) (ix3 (0 : Fin 1) (⟨(j 0).val, by have h1 : (j 0).val < 1024 := (j 0).isLt; omega⟩ : Fin 2048)
            (⟨t.val / 8 * 1024 + (j 1).val, by have h1 : (j 1).val < 1024 := (j 1).isLt; omega⟩ : Fin 2048)) := by
      funext j
      idx_vars j
      exact (scr m c _ _ _ _ _ _ (by show t.val / 8 * 1024 + _ = _; rw [hdiv])).1 rfl
    have hs2 : (outsAt0 m c (t.val - 1) (Nat.lt_of_le_of_lt (Nat.sub_le _ _) t.isLt)).2.2
        = fun j : S1024x1024.Idx => m ((c : Thread nD τ).loc main_arg2) (ix3 (0 : Fin 1) (⟨1024 + (j 0).val, by have h1 : (j 0).val < 1024 := (j 0).isLt; omega⟩ : Fin 2048)
            (⟨t.val / 8 * 1024 + (j 1).val, by have h1 : (j 1).val < 1024 := (j 1).isLt; omega⟩ : Fin 2048)) := by
      funext j
      idx_vars j
      exact (scr m c _ _ _ _ _ _ (by show t.val / 8 * 1024 + _ = _; rw [hdiv])).2 rfl
    rw [hs1, hs2, read_unread_whole, read_unread_whole]
    pointwise [k0_pay3, REF]
    rw [add_assoc]
    blk_point [iblk, V, idx t]

end Cert.OutProjIdeal.Val

end
-- ==== Proof.FoxMath.lean ====
module

public import Idealize.ShloMosaic.Lib.Pipeline.ValueKit

@[expose] public section

noncomputable section

namespace Cert.FoxMath

open Idealize.ShloMosaic

/-- A finite sum of reals, taken in the extended reals, is the real sum. -/
theorem coe_sum {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- The bit pattern of minus infinity denotes the bottom extended real. -/
theorem ninf : Ideal.ofBits .f32 0xFF800000#32 = (⊥ : EReal) := by simp [Ideal.ofBits, Ideal.ieee]

/-- A maximum over a finite family from the bottom is real when no member is the top and one is not the bottom. -/
theorem fold_real {ι : Type} [Fintype ι] (f : ι → EReal) (h1 : ∀ i, f i ≠ ⊤) (i0 : ι) (h2 : f i0 ≠ ⊥) :
    ∃ μ : ℝ, Finset.fold max (⊥ : EReal) f Finset.univ = μ := by
  have ht : Finset.fold max (⊥ : EReal) f Finset.univ ≠ ⊤ := by
    refine ne_of_lt ?_
    rw [Finset.fold_max_lt]
    exact ⟨bot_lt_top, fun i _ => lt_top_iff_ne_top.2 (h1 i)⟩
  have hb : Finset.fold max (⊥ : EReal) f Finset.univ ≠ ⊥ := by
    refine ne_of_gt (lt_of_lt_of_le (bot_lt_iff_ne_bot.2 h2) ?_)
    rw [Finset.le_fold_max]
    exact Or.inr ⟨i0, Finset.mem_univ _, le_rfl⟩
  exact ⟨_, (EReal.coe_toReal ht hb).symm⟩

/-- A maximum over a finite family from the bottom is not the top when no member is. -/
theorem fold_ne_top {ι : Type} [Fintype ι] (f : ι → EReal) (h1 : ∀ i, f i ≠ ⊤) :
    Finset.fold max (⊥ : EReal) f Finset.univ ≠ ⊤ := by
  refine ne_of_lt ?_
  rw [Finset.fold_max_lt]
  exact ⟨bot_lt_top, fun i _ => lt_top_iff_ne_top.2 (h1 i)⟩

/-- The maximum of a real and an extended real that is not the top is real. -/
theorem max_real {a b : EReal} (ha : ∃ μ : ℝ, a = μ) (hb : b ≠ ⊤) : ∃ μ : ℝ, max a b = μ := by
  obtain ⟨μ, rfl⟩ := ha
  rcases max_choice (μ : EReal) b with h | h
  · exact ⟨μ, h⟩
  · have : max (μ : EReal) b ≠ ⊥ := ne_of_gt (lt_of_lt_of_le (EReal.bot_lt_coe μ) (le_max_left _ _))
    rw [h] at this ⊢
    exact ⟨b.toReal, (EReal.coe_toReal hb this).symm⟩

/-- A base-two score `s` of weight `w`: the weight is the exponential of a real `α` and the score is `α / log 2`, or the entry is
    masked, its score the bottom and its weight zero. -/
def Sc (s : EReal) (w : ℝ) : Prop :=
  (∃ α : ℝ, s = ((α * (Real.log 2)⁻¹ : ℝ) : EReal) ∧ w = Real.exp α) ∨ (s = ⊥ ∧ w = 0)

theorem Sc.ne_top {s : EReal} {w : ℝ} (h : Sc s w) : s ≠ ⊤ := by
  rcases h with ⟨α, rfl, _⟩ | ⟨rfl, _⟩
  · exact EReal.coe_ne_top _
  · exact bot_ne_top

/-- The base-two exponential of a score less a real shift is its weight times a factor of the shift alone. -/
theorem Sc.exp2 {s : EReal} {w : ℝ} (h : Sc s w) (μ : ℝ) :
    Ideal.exp2 (s - (μ : EReal)) = ((Real.exp (-μ * Real.log 2) * w : ℝ) : EReal) := by
  rcases h with ⟨α, rfl, rfl⟩ | ⟨rfl, rfl⟩
  · rw [← EReal.coe_sub, Ideal.exp2_coe]
    congr 1
    show (2 : ℝ) ^ (α * (Real.log 2)⁻¹ - μ) = _
    have h2 : Real.log 2 ≠ 0 := ne_of_gt (Real.log_pos (by norm_num))
    rw [Real.rpow_def_of_pos (by norm_num), ← Real.exp_add]
    congr 1
    field_simp
    ring
  · rw [mul_zero, show (⊥ : EReal) - (μ : EReal) = ⊥ from rfl]
    simp

/-- The sum of the exponentials of scores less a real shift. -/
theorem sum_exp2 {n : ℕ} (s : Fin n → EReal) (w : Fin n → ℝ) (h : ∀ x, Sc (s x) (w x)) (μ : ℝ) :
    ∑ x, Ideal.exp2 (s x - (μ : EReal)) = ((Real.exp (-μ * Real.log 2) * ∑ x, w x : ℝ) : EReal) := by
  rw [Finset.mul_sum, ← coe_sum]
  exact Finset.sum_congr rfl fun x _ => (h x).exp2 μ

/-- The sum of the exponentials of scores less a real shift, each times a real. -/
theorem sum_exp2_mul {n : ℕ} (s : Fin n → EReal) (w : Fin n → ℝ) (h : ∀ x, Sc (s x) (w x)) (μ : ℝ) (v : Fin n → ℝ) :
    ∑ x, Ideal.exp2 (s x - (μ : EReal)) * (v x : EReal) = ((Real.exp (-μ * Real.log 2) * ∑ x, w x * v x : ℝ) : EReal) := by
  rw [Finset.mul_sum, ← coe_sum]
  refine Finset.sum_congr rfl fun x _ => ?_
  rw [(h x).exp2 μ, ← EReal.coe_mul, mul_assoc]

/-- A scaled real over a scaled real, the scale and the divisor not zero. -/
theorem div_scaled (g X Y : ℝ) (hg : g ≠ 0) (hY : Y ≠ 0) :
    Ideal.div ((g * X : ℝ) : EReal) ((g * Y : ℝ) : EReal) = ((X / Y : ℝ) : EReal) := by
  rw [Ideal.div_coe (mul_ne_zero hg hY), ← EReal.coe_mul]
  congr 1
  field_simp

/-- The position in a row of 2048 of entry `x` of block `b` of 512. -/
def bk (b : Fin 4) (x : Fin 512) : Fin 2048 := ⟨b.val * 512 + x.val, by omega⟩

/-- A sum over 2048 positions is the sum over its four blocks of 512. -/
theorem sum_blocks (f : Fin 2048 → ℝ) :
    ∑ k, f k = (∑ x, f (bk 0 x)) + (∑ x, f (bk 1 x)) + (∑ x, f (bk 2 x)) + ∑ x, f (bk 3 x) := by
  have e : ∑ k : Fin 2048, f k = ∑ p : Fin 4 × Fin 512, f (bk p.1 p.2) := by
    refine (Fintype.sum_equiv (finProdFinEquiv (m := 4) (n := 512)) _ _ fun p => ?_).symm
    congr 1
    apply Fin.ext
    show p.1.val * 512 + p.2.val = p.2.val + 512 * p.1.val
    omega
  rw [e, Fintype.sum_prod_type, Fin.sum_univ_four]

/-- The real score of key `k` before the query position's own shift. -/
def alpha (q : Fin 128 → ℝ) (K : Fin 2048 → Fin 128 → ℝ) (C : Fin 2048 → ℝ) (k : Fin 2048) : ℝ :=
  (∑ d, q d * K k d) * (Real.sqrt 128)⁻¹ - C k

/-- The causal weight of key `k` for the query at position `t`. -/
def wt (q : Fin 128 → ℝ) (K : Fin 2048 → Fin 128 → ℝ) (C : Fin 2048 → ℝ) (t : ℕ) (k : Fin 2048) : ℝ :=
  if k.val ≤ t then Real.exp (alpha q K C k) else 0

/-- Attention over real data: the causal weights' average of the values. -/
def attn (q : Fin 128 → ℝ) (K : Fin 2048 → Fin 128 → ℝ) (C : Fin 2048 → ℝ) (t : ℕ) (v : Fin 2048 → ℝ) : ℝ :=
  (∑ k, wt q K C t k * v k) / ∑ k, wt q K C t k

/-- The causal weights of a query position do not sum to zero. -/
theorem wt_sum_ne (q : Fin 128 → ℝ) (K : Fin 2048 → Fin 128 → ℝ) (C : Fin 2048 → ℝ) (t : ℕ) : ∑ k, wt q K C t k ≠ 0 := by
  refine ne_of_gt (Finset.sum_pos' (fun k _ => ?_) ⟨(0 : Fin 2048), Finset.mem_univ _, ?_⟩)
  · unfold wt
    split
    · exact le_of_lt (Real.exp_pos _)
    · exact le_rfl
  · unfold wt
    rw [if_pos (show ((0 : Fin 2048) : ℕ) ≤ t from Nat.zero_le _)]
    exact Real.exp_pos _

/-- The kernel's score of real data in base two. -/
theorem score_eq (q k : Fin 128 → ℝ) (c : ℝ) :
    ∑ d, (q d : EReal) * (((Real.sqrt 128)⁻¹ * (Real.log 2)⁻¹ : ℝ) : EReal) * (k d : EReal) - (c : EReal) * (((Real.log 2)⁻¹ : ℝ) : EReal)
      = ((((∑ d, q d * k d) * (Real.sqrt 128)⁻¹ - c) * (Real.log 2)⁻¹ : ℝ) : EReal) := by
  have e : ∀ d, (q d : EReal) * (((Real.sqrt 128)⁻¹ * (Real.log 2)⁻¹ : ℝ) : EReal) * (k d : EReal)
      = ((q d * k d * ((Real.sqrt 128)⁻¹ * (Real.log 2)⁻¹) : ℝ) : EReal) := fun d => by
    rw [← EReal.coe_mul, ← EReal.coe_mul]
    congr 1
    ring
  simp only [e]
  rw [coe_sum, ← EReal.coe_mul, ← EReal.coe_sub, ← Finset.sum_mul]
  congr 1
  ring

/-- The average of reals by base-two exponentials, over one block. -/
theorem avg1 {M : EReal} (hM : ∃ μ : ℝ, M = μ) {n : ℕ} {s0 : Fin n → EReal} {w0 : Fin n → ℝ} (h0 : ∀ x, Sc (s0 x) (w0 x))
    {V0 : Fin n → EReal} {v0 : Fin n → ℝ} (hv0 : ∀ x, V0 x = v0 x) (hne : ∑ x, w0 x ≠ 0) :
    Ideal.div (∑ x, Ideal.exp2 (s0 x - M) * V0 x) (∑ x, Ideal.exp2 (s0 x - M)) = (((∑ x, w0 x * v0 x) / ∑ x, w0 x : ℝ) : EReal) := by
  obtain ⟨μ, rfl⟩ := hM
  simp only [hv0]
  rw [sum_exp2_mul s0 w0 h0, sum_exp2 s0 w0 h0, div_scaled _ _ _ (Real.exp_ne_zero _) hne]

/-- The average of reals by base-two exponentials, over two blocks. -/
theorem avg2 {M : EReal} (hM : ∃ μ : ℝ, M = μ) {n : ℕ} {s0 s1 : Fin n → EReal} {w0 w1 : Fin n → ℝ} (h0 : ∀ x, Sc (s0 x) (w0 x))
    (h1 : ∀ x, Sc (s1 x) (w1 x)) {V0 V1 : Fin n → EReal} {v0 v1 : Fin n → ℝ} (hv0 : ∀ x, V0 x = v0 x) (hv1 : ∀ x, V1 x = v1 x)
    (hne : (∑ x, w0 x) + ∑ x, w1 x ≠ 0) :
    Ideal.div ((∑ x, Ideal.exp2 (s0 x - M) * V0 x) + ∑ x, Ideal.exp2 (s1 x - M) * V1 x)
        ((∑ x, Ideal.exp2 (s0 x - M)) + ∑ x, Ideal.exp2 (s1 x - M))
      = ((((∑ x, w0 x * v0 x) + ∑ x, w1 x * v1 x) / ((∑ x, w0 x) + ∑ x, w1 x) : ℝ) : EReal) := by
  obtain ⟨μ, rfl⟩ := hM
  simp only [hv0, hv1]
  rw [sum_exp2_mul s0 w0 h0, sum_exp2 s0 w0 h0, sum_exp2_mul s1 w1 h1, sum_exp2 s1 w1 h1, ← EReal.coe_add, ← EReal.coe_add,
    ← mul_add, ← mul_add, div_scaled _ _ _ (Real.exp_ne_zero _) hne]

/-- The average of reals by base-two exponentials, over three blocks. -/
theorem avg3 {M : EReal} (hM : ∃ μ : ℝ, M = μ) {n : ℕ} {s0 s1 s2 : Fin n → EReal} {w0 w1 w2 : Fin n → ℝ}
    (h0 : ∀ x, Sc (s0 x) (w0 x)) (h1 : ∀ x, Sc (s1 x) (w1 x)) (h2 : ∀ x, Sc (s2 x) (w2 x)) {V0 V1 V2 : Fin n → EReal}
    {v0 v1 v2 : Fin n → ℝ} (hv0 : ∀ x, V0 x = v0 x) (hv1 : ∀ x, V1 x = v1 x) (hv2 : ∀ x, V2 x = v2 x)
    (hne : (∑ x, w0 x) + (∑ x, w1 x) + ∑ x, w2 x ≠ 0) :
    Ideal.div ((∑ x, Ideal.exp2 (s0 x - M) * V0 x) + (∑ x, Ideal.exp2 (s1 x - M) * V1 x) + ∑ x, Ideal.exp2 (s2 x - M) * V2 x)
        ((∑ x, Ideal.exp2 (s0 x - M)) + (∑ x, Ideal.exp2 (s1 x - M)) + ∑ x, Ideal.exp2 (s2 x - M))
      = ((((∑ x, w0 x * v0 x) + (∑ x, w1 x * v1 x) + ∑ x, w2 x * v2 x) / ((∑ x, w0 x) + (∑ x, w1 x) + ∑ x, w2 x) : ℝ) : EReal) := by
  obtain ⟨μ, rfl⟩ := hM
  simp only [hv0, hv1, hv2]
  rw [sum_exp2_mul s0 w0 h0, sum_exp2 s0 w0 h0, sum_exp2_mul s1 w1 h1, sum_exp2 s1 w1 h1, sum_exp2_mul s2 w2 h2, sum_exp2 s2 w2 h2]
  simp only [← EReal.coe_add, ← mul_add]
  rw [div_scaled _ _ _ (Real.exp_ne_zero _) hne]

/-- The average of reals by base-two exponentials, over four blocks. -/
theorem avg4 {M : EReal} (hM : ∃ μ : ℝ, M = μ) {n : ℕ} {s0 s1 s2 s3 : Fin n → EReal} {w0 w1 w2 w3 : Fin n → ℝ}
    (h0 : ∀ x, Sc (s0 x) (w0 x)) (h1 : ∀ x, Sc (s1 x) (w1 x)) (h2 : ∀ x, Sc (s2 x) (w2 x)) (h3 : ∀ x, Sc (s3 x) (w3 x))
    {V0 V1 V2 V3 : Fin n → EReal} {v0 v1 v2 v3 : Fin n → ℝ} (hv0 : ∀ x, V0 x = v0 x) (hv1 : ∀ x, V1 x = v1 x)
    (hv2 : ∀ x, V2 x = v2 x) (hv3 : ∀ x, V3 x = v3 x) (hne : (∑ x, w0 x) + (∑ x, w1 x) + (∑ x, w2 x) + ∑ x, w3 x ≠ 0) :
    Ideal.div ((∑ x, Ideal.exp2 (s0 x - M) * V0 x) + (∑ x, Ideal.exp2 (s1 x - M) * V1 x) + (∑ x, Ideal.exp2 (s2 x - M) * V2 x)
          + ∑ x, Ideal.exp2 (s3 x - M) * V3 x)
        ((∑ x, Ideal.exp2 (s0 x - M)) + (∑ x, Ideal.exp2 (s1 x - M)) + (∑ x, Ideal.exp2 (s2 x - M)) + ∑ x, Ideal.exp2 (s3 x - M))
      = ((((∑ x, w0 x * v0 x) + (∑ x, w1 x * v1 x) + (∑ x, w2 x * v2 x) + ∑ x, w3 x * v3 x)
          / ((∑ x, w0 x) + (∑ x, w1 x) + (∑ x, w2 x) + ∑ x, w3 x) : ℝ) : EReal) := by
  obtain ⟨μ, rfl⟩ := hM
  simp only [hv0, hv1, hv2, hv3]
  rw [sum_exp2_mul s0 w0 h0, sum_exp2 s0 w0 h0, sum_exp2_mul s1 w1 h1, sum_exp2 s1 w1 h1, sum_exp2_mul s2 w2 h2, sum_exp2 s2 w2 h2,
    sum_exp2_mul s3 w3 h3, sum_exp2 s3 w3 h3]
  simp only [← EReal.coe_add, ← mul_add]
  rw [div_scaled _ _ _ (Real.exp_ne_zero _) hne]

theorem Sc.ne_bot {s : EReal} {w : ℝ} (h : Sc s w) (hw : w ≠ 0) : s ≠ ⊥ := by
  rcases h with ⟨α, rfl, _⟩ | ⟨_, h⟩
  · exact EReal.coe_ne_bot _
  · exact absurd h hw

/-- A maximum of scores with one of nonzero weight is real. -/
theorem Sc.fold_real {n : ℕ} {s : Fin n → EReal} {w : Fin n → ℝ} (h : ∀ x, Sc (s x) (w x)) (i0 : Fin n) (hw : w i0 ≠ 0) :
    ∃ μ : ℝ, Finset.fold max (Ideal.ofBits .f32 0xFF800000#32) s Finset.univ = μ := by
  rw [ninf]
  exact Cert.FoxMath.fold_real s (fun x => (h x).ne_top) i0 ((h i0).ne_bot hw)

/-- A maximum of scores is not the top. -/
theorem Sc.fold_ne_top {n : ℕ} {s : Fin n → EReal} {w : Fin n → ℝ} (h : ∀ x, Sc (s x) (w x)) :
    Finset.fold max (Ideal.ofBits .f32 0xFF800000#32) s Finset.univ ≠ ⊤ := by
  rw [ninf]
  exact Cert.FoxMath.fold_ne_top s (fun x => (h x).ne_top)

/-- Four blocks' average, the blocks past the query's own weighing nothing, is attention: one block. -/
theorem attn_eq1 (q : Fin 128 → ℝ) (K : Fin 2048 → Fin 128 → ℝ) (C : Fin 2048 → ℝ) (t : ℕ) (ht : t < 512) (v : Fin 2048 → ℝ) :
    attn q K C t v = (∑ x, wt q K C t (bk 0 x) * v (bk 0 x)) / ∑ x, wt q K C t (bk 0 x) := by
  have z : ∀ b : Fin 4, 1 ≤ b.val → ∀ x, wt q K C t (bk b x) = 0 := fun b hb x => if_neg (by show ¬ (b.val * 512 + x.val ≤ t); omega)
  unfold attn
  rw [sum_blocks, sum_blocks]
  simp only [z 1 (by decide), z 2 (by decide), z 3 (by decide), zero_mul, Finset.sum_const_zero, add_zero]

/-- The same, two blocks. -/
theorem attn_eq2 (q : Fin 128 → ℝ) (K : Fin 2048 → Fin 128 → ℝ) (C : Fin 2048 → ℝ) (t : ℕ) (ht : t < 1024) (v : Fin 2048 → ℝ) :
    attn q K C t v = ((∑ x, wt q K C t (bk 0 x) * v (bk 0 x)) + ∑ x, wt q K C t (bk 1 x) * v (bk 1 x))
      / ((∑ x, wt q K C t (bk 0 x)) + ∑ x, wt q K C t (bk 1 x)) := by
  have z : ∀ b : Fin 4, 2 ≤ b.val → ∀ x, wt q K C t (bk b x) = 0 := fun b hb x => if_neg (by show ¬ (b.val * 512 + x.val ≤ t); omega)
  unfold attn
  rw [sum_blocks, sum_blocks]
  simp only [z 2 (by decide), z 3 (by decide), zero_mul, Finset.sum_const_zero, add_zero]

/-- The same, three blocks. -/
theorem attn_eq3 (q : Fin 128 → ℝ) (K : Fin 2048 → Fin 128 → ℝ) (C : Fin 2048 → ℝ) (t : ℕ) (ht : t < 1536) (v : Fin 2048 → ℝ) :
    attn q K C t v = ((∑ x, wt q K C t (bk 0 x) * v (bk 0 x)) + (∑ x, wt q K C t (bk 1 x) * v (bk 1 x))
        + ∑ x, wt q K C t (bk 2 x) * v (bk 2 x))
      / ((∑ x, wt q K C t (bk 0 x)) + (∑ x, wt q K C t (bk 1 x)) + ∑ x, wt q K C t (bk 2 x)) := by
  have z : ∀ b : Fin 4, 3 ≤ b.val → ∀ x, wt q K C t (bk b x) = 0 := fun b hb x => if_neg (by show ¬ (b.val * 512 + x.val ≤ t); omega)
  unfold attn
  rw [sum_blocks, sum_blocks]
  simp only [z 3 (by decide), zero_mul, Finset.sum_const_zero, add_zero]

/-- The same, four blocks. -/
theorem attn_eq4 (q : Fin 128 → ℝ) (K : Fin 2048 → Fin 128 → ℝ) (C : Fin 2048 → ℝ) (t : ℕ) (v : Fin 2048 → ℝ) :
    attn q K C t v = ((∑ x, wt q K C t (bk 0 x) * v (bk 0 x)) + (∑ x, wt q K C t (bk 1 x) * v (bk 1 x))
        + (∑ x, wt q K C t (bk 2 x) * v (bk 2 x)) + ∑ x, wt q K C t (bk 3 x) * v (bk 3 x))
      / ((∑ x, wt q K C t (bk 0 x)) + (∑ x, wt q K C t (bk 1 x)) + (∑ x, wt q K C t (bk 2 x)) + ∑ x, wt q K C t (bk 3 x)) := by
  unfold attn
  rw [sum_blocks, sum_blocks]

/-- The causal weights of the first 1 block do not sum to zero, the query lying within them. -/
theorem wt_ne1 (q : Fin 128 → ℝ) (K : Fin 2048 → Fin 128 → ℝ) (C : Fin 2048 → ℝ) (t : ℕ) (ht : t < 512) : (∑ x, wt q K C t (bk 0 x)) ≠ 0 := by
  have z : ∀ b : Fin 4, 1 ≤ b.val → ∀ x, wt q K C t (bk b x) = 0 := fun b hb x => if_neg (by show ¬ (b.val * 512 + x.val ≤ t); omega)
  have h := wt_sum_ne q K C t
  rw [sum_blocks] at h
  simpa only [z 1 (by decide), z 2 (by decide), z 3 (by decide), Finset.sum_const_zero, add_zero] using h

/-- The causal weights of the first 2 blocks do not sum to zero, the query lying within them. -/
theorem wt_ne2 (q : Fin 128 → ℝ) (K : Fin 2048 → Fin 128 → ℝ) (C : Fin 2048 → ℝ) (t : ℕ) (ht : t < 1024) : (∑ x, wt q K C t (bk 0 x)) + (∑ x, wt q K C t (bk 1 x)) ≠ 0 := by
  have z : ∀ b : Fin 4, 2 ≤ b.val → ∀ x, wt q K C t (bk b x) = 0 := fun b hb x => if_neg (by show ¬ (b.val * 512 + x.val ≤ t); omega)
  have h := wt_sum_ne q K C t
  rw [sum_blocks] at h
  simpa only [z 2 (by decide), z 3 (by decide), Finset.sum_const_zero, add_zero] using h

/-- The causal weights of the first 3 blocks do not sum to zero, the query lying within them. -/
theorem wt_ne3 (q : Fin 128 → ℝ) (K : Fin 2048 → Fin 128 → ℝ) (C : Fin 2048 → ℝ) (t : ℕ) (ht : t < 1536) : (∑ x, wt q K C t (bk 0 x)) + (∑ x, wt q K C t (bk 1 x)) + (∑ x, wt q K C t (bk 2 x)) ≠ 0 := by
  have z : ∀ b : Fin 4, 3 ≤ b.val → ∀ x, wt q K C t (bk b x) = 0 := fun b hb x => if_neg (by show ¬ (b.val * 512 + x.val ≤ t); omega)
  have h := wt_sum_ne q K C t
  rw [sum_blocks] at h
  simpa only [z 3 (by decide), Finset.sum_const_zero, add_zero] using h

/-- The causal weights of the first 4 blocks do not sum to zero, the query lying within them. -/
theorem wt_ne4 (q : Fin 128 → ℝ) (K : Fin 2048 → Fin 128 → ℝ) (C : Fin 2048 → ℝ) (t : ℕ) : (∑ x, wt q K C t (bk 0 x)) + (∑ x, wt q K C t (bk 1 x)) + (∑ x, wt q K C t (bk 2 x)) + (∑ x, wt q K C t (bk 3 x)) ≠ 0 := by
  have h := wt_sum_ne q K C t
  rw [sum_blocks] at h
  exact h

/-- The weight of the first key of the row is never zero. -/
theorem wt_first (q : Fin 128 → ℝ) (K : Fin 2048 → Fin 128 → ℝ) (C : Fin 2048 → ℝ) (t : ℕ) : wt q K C t (bk 0 0) ≠ 0 := by
  unfold wt
  rw [if_pos (show (bk 0 0 : Fin 2048).val ≤ t from Nat.zero_le _)]
  exact Real.exp_ne_zero _

/-- A score below the query's block carries its full weight. -/
theorem sc_full (q : Fin 128 → ℝ) (K : Fin 2048 → Fin 128 → ℝ) (C : Fin 2048 → ℝ) (t : ℕ) (k : Fin 2048) (hk : k.val ≤ t) {s : EReal}
    (hs : s = ((alpha q K C k * (Real.log 2)⁻¹ : ℝ) : EReal)) : Sc s (wt q K C t k) :=
  Or.inl ⟨alpha q K C k, hs, if_pos hk⟩

/-- A score in the query's own block, masked past the query. -/
theorem sc_mask (q : Fin 128 → ℝ) (K : Fin 2048 → Fin 128 → ℝ) (C : Fin 2048 → ℝ) (t : ℕ) (k : Fin 2048) {s : EReal}
    (hs : s = if k.val ≤ t then ((alpha q K C k * (Real.log 2)⁻¹ : ℝ) : EReal) else ⊥) : Sc s (wt q K C t k) := by
  by_cases h : k.val ≤ t
  · exact sc_full q K C t k h (by rw [hs, if_pos h])
  · exact Or.inr ⟨by rw [hs, if_neg h], if_neg h⟩

end Cert.FoxMath

end
-- ==== Proof.FoxPrep.lean ====
module

public import proofs.«01_k».proof.Proof.Gen.FoxPrepIdeal.Value
public import proofs.«01_k».proof.Proof.Gen.FoxPrepRefIdeal.Run
public import Idealize.ShloMosaic.Lib.Pipeline.ValueKit
public import Idealize.ShloMosaic.Lib.Pipeline.ReadBack
public import proofs.«01_k».proof.Proof.FoxMath

@[expose] public section

set_option maxRecDepth 16384

noncomputable section

namespace Cert.FoxPrepIdeal.Val

open Idealize.ShloMosaic Idealize.ShloMosaic.TcCoe Idealize.SL.Sem
open Idealize.ShloMosaic.Pipeline (Dat)
open Cert.FoxPrepIdeal Cert.FoxPrepIdeal.Gen

/-! ## The logarithm of the logistic function -/

/-- The correction the logarithm of one plus the exponential adds is a real number, at least zero. -/
theorem corr (y : EReal) (hy : y ≤ 0) : ∃ r : ℝ, 0 ≤ r ∧ Ideal.log1p (Ideal.exp y) = (r : EReal) := by
  induction y with
  | bot =>
    refine ⟨0, le_refl _, ?_⟩
    show Ideal.log (1 + 0) = _
    rw [add_zero]
    show Ideal.log ((1 : ℝ) : EReal) = _
    show (if (1 : ℝ) ≤ 0 then (⊥ : EReal) else ((Real.log 1 : ℝ) : EReal)) = _
    rw [if_neg (by norm_num), Real.log_one]
  | top => exact absurd hy (by simp)
  | coe x =>
    have h := Real.exp_pos x
    refine ⟨Real.log (1 + Real.exp x), Real.log_nonneg (by linarith), ?_⟩
    show Ideal.log ((1 : EReal) + ((Real.exp x : ℝ) : EReal)) = _
    rw [← EReal.coe_one, ← EReal.coe_add]
    show (if 1 + Real.exp x ≤ 0 then (⊥ : EReal) else ((Real.log (1 + Real.exp x) : ℝ) : EReal)) = _
    rw [if_neg (by linarith)]

/-- The logarithm of the logistic function, the way the kernel finds it. -/
def ls (x : EReal) : EReal := min x 0 - Ideal.log1p (Ideal.exp (0 - max x (-x)))

theorem abs_nonneg' (x : EReal) : 0 - max x (-x) ≤ 0 := by
  have h : (0 : EReal) ≤ max x (-x) := by
    rcases le_total 0 x with h | h
    · exact le_max_of_le_left h
    · exact le_max_of_le_right (EReal.neg_nonneg.mpr h)
  rw [zero_sub]
  exact EReal.neg_le_zero.mpr h

/-- It is never above zero, so never the top. -/
theorem ls_ne_top (x : EReal) : ls x ≠ ⊤ := by
  obtain ⟨r, h0, h⟩ := corr _ (abs_nonneg' x)
  unfold ls
  rw [h]
  have h1 : min x 0 ≠ ⊤ := ne_of_lt (lt_of_le_of_lt (min_le_right _ _) EReal.zero_lt_top)
  rw [sub_eq_add_neg, ← EReal.coe_neg]
  exact EReal.add_ne_top h1 (EReal.coe_ne_top _)

/-- The reference's form is the same function. -/
theorem ls_ref (x : EReal) : -(max (-x) 0 + Ideal.log1p (Ideal.exp (-(max (-x - 0) (-(-x - 0)))))) = ls x := by
  obtain ⟨r, h0, h⟩ := corr _ (abs_nonneg' x)
  unfold ls
  rw [h]
  rw [sub_zero, neg_neg, max_comm (-x) x, ← zero_sub (max x (-x)), h]
  rw [EReal.neg_add (Or.inr (EReal.coe_ne_top r)) (Or.inr (EReal.coe_ne_bot r)), show -max (-x) 0 = min x 0 from ?_]
  rcases le_total x 0 with hx | hx
  · rw [min_eq_left hx, max_eq_left (EReal.neg_nonneg.mpr hx), neg_neg]
  · rw [min_eq_right hx, max_eq_right (EReal.neg_le_zero.mpr hx), neg_zero]

/-- A number below the top is the sum of the three parts it is split into. -/
theorem split3 {x : EReal} (h : x ≠ ⊤) : x + (x - x) + (x - x - (x - x)) = x := by
  induction x with
  | bot => rfl
  | top => exact absurd rfl h
  | coe x => rw [← EReal.coe_sub, ← EReal.coe_sub, ← EReal.coe_add, ← EReal.coe_add]; simp

/-- The entries up to a row sum to the column's first entries. -/
theorem tri_sum (f : ℕ → EReal) (r : Fin 256) : ∑ k : Fin 256, (if k.val ≤ r.val then f k.val else 0) = ∑ j ∈ Finset.range (r.val + 1), f j := by
  rw [Fin.sum_univ_eq_sum_range (fun k => if k ≤ r.val then f k else 0) 256, ← Finset.sum_filter]
  refine Finset.sum_congr ?_ fun _ _ => rfl
  ext j
  have := r.isLt
  simp only [Finset.mem_filter, Finset.mem_range]
  omega

/-- The three parts of a column's entries up to a row sum to the column's first entries. -/
theorem three (f : ℕ → EReal) (hf : ∀ j, f j ≠ ⊤) (r : Fin 256) :
    ∑ k : Fin 256, (if k.val ≤ r.val then f k.val else 0) + ∑ k : Fin 256, (if k.val ≤ r.val then f k.val - f k.val else 0)
      + ∑ k : Fin 256, (if k.val ≤ r.val then f k.val - f k.val - (f k.val - f k.val) else 0) = ∑ j ∈ Finset.range (r.val + 1), f j := by
  rw [← tri_sum f r, ← Finset.sum_add_distrib, ← Finset.sum_add_distrib]
  refine Finset.sum_congr rfl fun k _ => ?_
  by_cases hk : k.val ≤ r.val
  · simp only [if_pos hk]; exact split3 (hf _)
  · simp only [if_neg hk, add_zero]

/-! ## The kernel -/

variable (m : (ℓ : Loc nD τ sig) → Buf (Elt Ideal) ℓ)

/-- The block index of every window at every grid point. -/
theorem idx : ∀ t : Fin cfg0.N, win0_0.index t = ![t.val / 8, t.val % 8, 0] ∧ win0_1.index t = ![0, 0]
    ∧ win0_2.index t = ![t.val / 8, t.val % 8, 0] ∧ win0_3.index t = ![t.val / 8, t.val % 8, 0] :=
  (by decide +kernel : ∀ t : Fin grid0.N, _)

/-- The triangle picks the entries on and below the diagonal. -/
theorem tri_at (a b : Fin 256) (s : EReal) : Scalar.select (IntOp.cmpi CmpIPredicate.sge (BitVec.ofNat 32 a.val) (BitVec.ofNat 32 b.val)) s 0
    = if b.val ≤ a.val then s else 0 := by
  have ha := a.isLt
  have hb := b.isLt
  rw [WordCmp.cmpi_sge_ofNat (by omega) (by omega), WordCmp.select_ofBool]
  simp

/-- A block's forget gates, entry by entry. -/
theorem gate_at (v3 : Vec Ideal S1x256x128 .f32) (v5 : Vec Ideal S1x128 .f32) (r : Fin 256) (h : Fin 128) :
    k0_pay5 (F := Ideal) v3 v5 (ix2 r h) = ls (v3 (ix3 (0 : Fin 1) r h) + v5 (ix2 (0 : Fin 1) h)) := by
  pointwise [k0_pay5, ls]
  rfl

/-- A block's running sums, entry by entry. -/
theorem sums_at (v3 : Vec Ideal S1x256x128 .f32) (v5 v36 : Vec Ideal S1x128 .f32) (r : Fin 256) (h : Fin 128) (f : ℕ → EReal) (hf : ∀ j, f j ≠ ⊤)
    (e : ∀ k : Fin 256, ls (v3 (ix3 (0 : Fin 1) k h) + v5 (ix2 (0 : Fin 1) h)) = f k.val) :
    k0_pay6 (F := Ideal) v3 v5 v36 (ix2 r h) = ∑ j ∈ Finset.range (r.val + 1), f j + v36 (ix2 (0 : Fin 1) h) := by
  pointwise [k0_pay6]
  simp only [gate_at, e, tri_at]
  rw [three f hf r]

/-- The padded bias the launch makes. -/
theorem V_bias (c : Dev nD) : V m c main_v2 = pad (α := EReal) S1x128 ![0, 0] ![0, 120] ![0, 0] (shapeCast S1x8 (shapeCast S8 (m ((c : Thread nD τ).loc main_arg1)) shapeCasts_S1x8_S8) shapeCasts_S8_S1x8) (sitofp (F := Ideal) .f32 (constantI S_ 32 0#32)) pads_S1x8_S1x128_000_01200 h_S_ := by
  simp only [V, hostOps0, hostOps0_1, List.flatten_cons, List.flatten_nil, List.append_nil, List.cons_append, List.nil_append, StableHlo.TRef.binary, StableHlo.TRef.unary, StableHlo.TRef.toBuf, StableHlo.TRef.ofBuf, cast_eq]
  after_results_simp <;> (try dsimp only [Matrix.cons_val]) <;> (try after_results_simp) <;> rfl

/-- The whole number zero, as a value. -/
theorem pad_zero : FloatOps.sitofp (F := Ideal) FTy.f32 (0#32 : BitVec 32) = (0 : EReal) := by
  show (((0#32 : BitVec 32).toInt : ℝ) : EReal) = 0
  simp

/-- The bias of a head, zero past the last. -/
def bias (B : FVec Ideal S1x8 .f32) (h : Fin 128) : EReal := if hh : h.val < 8 then B (ix2 (0 : Fin 1) (⟨h.val, hh⟩ : Fin 8)) else 0

theorem bias_at (c : Dev nD) (h : Fin 128) : V m c main_v2 (ix2 (0 : Fin 1) h) = bias (m ((c : Thread nD τ).loc main_arg1)) h := by
  rw [V_bias]
  pointwise [bias]
  rw [pad_zero]

/-- The forget gate of a batch's row and head. -/
def gate (X : FVec Ideal S4x2048x128 .f32) (B : FVec Ideal S1x8 .f32) (b : Fin 4) (h : Fin 128) (j : ℕ) : EReal :=
  if hj : j < 2048 then ls (X (ix3 b (⟨j, hj⟩ : Fin 2048) h) + bias B h) else 0

theorem gate_ne_top (X : FVec Ideal S4x2048x128 .f32) (B : FVec Ideal S1x8 .f32) (b : Fin 4) (h : Fin 128) (j : ℕ) : gate X B b h j ≠ ⊤ := by
  unfold gate
  split
  · exact ls_ne_top _
  · exact EReal.zero_ne_top

/-- A block's input rows. -/
theorem in_at (c : Dev nD) (t : Fin cfg0.N) (r : Fin 256) (h : Fin 128) (b : Fin 4) (j : Fin 2048) (hb : b.val = t.val / 8) (hj : j.val = t.val % 8 * 256 + r.val) :
    iblk m c 0 t (ix3 (0 : Fin 1) r h) = m ((c : Thread nD τ).loc main_arg0) (ix3 b j h) := by
  rw [← V_main_arg0 m c]
  blk_ext [iblk, idx t]

theorem in_bias (c : Dev nD) (t : Fin cfg0.N) (h : Fin 128) :
    iblk m c 1 t (ix2 (0 : Fin 1) h) = bias (m ((c : Thread nD τ).loc main_arg1)) h := by
  have e : iblk m c 1 t (ix2 (0 : Fin 1) h) = V m c main_v2 (ix2 (0 : Fin 1) h) := by blk_ext [iblk, idx t]
  rw [e, bias_at]

/-- The gates of a block's rows are those of the array's. -/
theorem blk_gate (c : Dev nD) (t : Fin cfg0.N) (r : Fin 256) (h : Fin 128) (b : Fin 4) (hb : b.val = t.val / 8) :
    ls (@HAdd.hAdd EReal EReal EReal _ (iblk m c 0 t (ix3 (0 : Fin 1) r h)) (iblk m c 1 t (ix2 (0 : Fin 1) h)))
      = gate (m ((c : Thread nD τ).loc main_arg0)) (m ((c : Thread nD τ).loc main_arg1)) b h (t.val % 8 * 256 + r.val) := by
  have hr := r.isLt
  have hlt : t.val % 8 * 256 + r.val < 2048 := by omega
  unfold gate
  rw [dif_pos hlt, in_at m c t r h b ⟨_, hlt⟩ hb rfl, in_bias]

/-- The running sum over a batch's first rows. -/
def run (X : FVec Ideal S4x2048x128 .f32) (B : FVec Ideal S1x8 .f32) (b : Fin 4) (h : Fin 128) (n : ℕ) : EReal :=
  ∑ j ∈ Finset.range n, gate X B b h j

/-- A block's running sums from the sum carried into it. -/
theorem blk_sums (c : Dev nD) (t : Fin cfg0.N) (r : Fin 256) (h : Fin 128) (b : Fin 4) (hb : b.val = t.val / 8) (v36 : Vec Ideal S1x128 .f32)
    (h36 : v36 (ix2 (0 : Fin 1) h) = run (m ((c : Thread nD τ).loc main_arg0)) (m ((c : Thread nD τ).loc main_arg1)) b h (t.val % 8 * 256)) :
    k0_pay6 (F := Ideal) (iblk m c 0 t) (iblk m c 1 t) v36 (ix2 r h)
      = run (m ((c : Thread nD τ).loc main_arg0)) (m ((c : Thread nD τ).loc main_arg1)) b h (t.val % 8 * 256 + r.val + 1) := by
  rw [sums_at _ _ _ r h (fun j => gate (m ((c : Thread nD τ).loc main_arg0)) (m ((c : Thread nD τ).loc main_arg1)) b h (t.val % 8 * 256 + j)) (fun j => gate_ne_top _ _ _ _ _)
    (fun k => blk_gate m c t k h b hb), h36, add_comm]
  unfold run
  rw [add_assoc, Finset.sum_range_add _ (t.val % 8 * 256) (r.val + 1)]

/-- What a batch's first block leaves. -/
theorem ptA (c : Dev nD) (t : Fin cfg0.N) (h0 : t.val % 8 = 0) (h : Fin 128) (b : Fin 4) (hb : b.val = t.val / 8) :
    (∀ r : Fin 256, (outsAt0 m c t.val t.isLt).2.1 (ix3 (0 : Fin 1) r h) = run (m ((c : Thread nD τ).loc main_arg0)) (m ((c : Thread nD τ).loc main_arg1)) b h (t.val % 8 * 256 + r.val + 1))
    ∧ (outsAt0 m c t.val t.isLt).2.2 (ix2 (0 : Fin 1) h) = run (m ((c : Thread nD τ).loc main_arg0)) (m ((c : Thread nD τ).loc main_arg1)) b h (t.val % 8 * 256 + 256) := by
  have hz : (k0_pay4 (F := Ideal)) (ix2 (0 : Fin 1) h) = run (m ((c : Thread nD τ).loc main_arg0)) (m ((c : Thread nD τ).loc main_arg1)) b h (t.val % 8 * 256) := by
    rw [h0]
    pointwise [k0_pay4]
    rfl
  rw [outsAt0_A m c t h0]
  constructor
  · intro r
    frame_out
    pointwise [k0_pay2]
    exact blk_sums m c t r h b hb _ hz
  · frame_out
    pointwise [k0_pay3]
    exact blk_sums m c t _ h b hb _ hz

/-- What a later block leaves, from the sum the block before left. -/
theorem ptB (c : Dev nD) (t : Fin cfg0.N) (h0 : ¬t.val % 8 = 0) (h' : t.val - 1 < cfg0.N) (h : Fin 128) (b : Fin 4) (hb : b.val = t.val / 8)
    (hp : (outsAt0 m c (t.val - 1) h').2.2 (ix2 (0 : Fin 1) h) = run (m ((c : Thread nD τ).loc main_arg0)) (m ((c : Thread nD τ).loc main_arg1)) b h (t.val % 8 * 256)) :
    (∀ r : Fin 256, (outsAt0 m c t.val t.isLt).2.1 (ix3 (0 : Fin 1) r h) = run (m ((c : Thread nD τ).loc main_arg0)) (m ((c : Thread nD τ).loc main_arg1)) b h (t.val % 8 * 256 + r.val + 1))
    ∧ (outsAt0 m c t.val t.isLt).2.2 (ix2 (0 : Fin 1) h) = run (m ((c : Thread nD τ).loc main_arg0)) (m ((c : Thread nD τ).loc main_arg1)) b h (t.val % 8 * 256 + 256) := by
  rw [outsAt0_B m c t h0]
  constructor
  · intro r
    frame_out
    rw [read_unread_whole]
    pointwise [k0_pay2]
    exact blk_sums m c t r h b hb _ hp
  · frame_out
    rw [read_unread_whole]
    pointwise [k0_pay3]
    exact blk_sums m c t _ h b hb _ hp

/-- What any block leaves: its rows' running sums, and the last of them carried on. -/
theorem pt (c : Dev nD) (h : Fin 128) : ∀ (n : ℕ) (hn : n < cfg0.N) (b : Fin 4), b.val = n / 8 →
    (∀ r : Fin 256, (outsAt0 m c n hn).2.1 (ix3 (0 : Fin 1) r h) = run (m ((c : Thread nD τ).loc main_arg0)) (m ((c : Thread nD τ).loc main_arg1)) b h (n % 8 * 256 + r.val + 1))
    ∧ (outsAt0 m c n hn).2.2 (ix2 (0 : Fin 1) h) = run (m ((c : Thread nD τ).loc main_arg0)) (m ((c : Thread nD τ).loc main_arg1)) b h (n % 8 * 256 + 256) := by
  intro n
  induction n with
  | zero => exact fun hn b hb => ptA m c ⟨0, hn⟩ rfl h b hb
  | succ n ih =>
    intro hn b hb
    by_cases h0 : (n + 1) % 8 = 0
    · exact ptA m c ⟨n + 1, hn⟩ h0 h b hb
    · refine ptB m c ⟨n + 1, hn⟩ h0 (by show n + 1 - 1 < cfg0.N; omega) h b hb ?_
      have e := (ih (by omega) b (by omega)).2
      rw [show n % 8 * 256 + 256 = (n + 1) % 8 * 256 by omega] at e
      exact e

/-- What any block writes of the gates. -/
theorem pt_gate (c : Dev nD) (t : Fin cfg0.N) (r : Fin 256) (h : Fin 128) (b : Fin 4) (hb : b.val = t.val / 8) :
    (outsAt0 m c t.val t.isLt).1 (ix3 (0 : Fin 1) r h) = gate (m ((c : Thread nD τ).loc main_arg0)) (m ((c : Thread nD τ).loc main_arg1)) b h (t.val % 8 * 256 + r.val) := by
  rw [← blk_gate m c t r h b hb]
  by_cases h0 : t.val % 8 = 0
  · rw [outsAt0_A m c t h0]
    frame_out
    pointwise [k0_pay1]
    exact gate_at _ _ r h
  · rw [outsAt0_B m c t h0]
    frame_out
    pointwise [k0_pay1]
    exact gate_at _ _ r h

/-! ## The reference -/

/-- The reference's biased scores. -/
def PRE (X : FVec Ideal Cert.FoxPrepRefIdeal.S4x2048x128 .f32) (B : FVec Ideal Cert.FoxPrepRefIdeal.S1x8 .f32) : FVec Ideal Cert.FoxPrepRefIdeal.S4x2048x128 .f32 :=
  addf X (broadcastInDim Cert.FoxPrepRefIdeal.S4x2048x128 ![0, 1, 2] Cert.FoxPrepRefIdeal.Gen.bcast_S1x1x128_S4x2048x128_0_1_2 (broadcastInDim Cert.FoxPrepRefIdeal.S1x1x128 ![2] Cert.FoxPrepRefIdeal.Gen.bcast_S128_S1x1x128_2 (pad Cert.FoxPrepRefIdeal.S128 ![0] ![120] ![0] (shapeCast _ B Cert.FoxPrepRefIdeal.Gen.shapeCasts_S1x8_S8) (sitofp .f32 (constantI Cert.FoxPrepRefIdeal.S_ 32 0#32)) Cert.FoxPrepRefIdeal.Gen.pads_S8_S128_01200 Cert.FoxPrepRefIdeal.Gen.h_S_)))

/-- The zeros the reference compares with and adds. -/
def ZERO : FVec Ideal Cert.FoxPrepRefIdeal.S4x2048x128 .f32 :=
  broadcastInDim Cert.FoxPrepRefIdeal.S4x2048x128 ![] Cert.FoxPrepRefIdeal.Gen.bcast_S_S4x2048x128 (constant Cert.FoxPrepRefIdeal.S_ .f32 0x00000000#32)

/-- The reference's first result, over its biased scores. -/
def LSIG (P : FVec Ideal Cert.FoxPrepRefIdeal.S4x2048x128 .f32) : FVec Ideal Cert.FoxPrepRefIdeal.S4x2048x128 .f32 :=
  Host.negf (select (cmpf .une (subf (Host.negf P) ZERO) (subf (Host.negf P) ZERO)) (addf (Host.negf P) ZERO)
    (addf (maximumf (Host.negf P) ZERO) (Host.log1p (Host.exp (Host.negf (Host.absf (subf (Host.negf P) ZERO)))))))

/-- The reference's first result: the forget gates. -/
def REF2 (X : FVec Ideal Cert.FoxPrepRefIdeal.S4x2048x128 .f32) (B : FVec Ideal Cert.FoxPrepRefIdeal.S1x8 .f32) : FVec Ideal Cert.FoxPrepRefIdeal.S4x2048x128 .f32 :=
  LSIG (PRE X B)

/-- The reference's second result: the running sums of the first. -/
def REF3 (X : FVec Ideal Cert.FoxPrepRefIdeal.S4x2048x128 .f32) (B : FVec Ideal Cert.FoxPrepRefIdeal.S1x8 .f32) : FVec Ideal Cert.FoxPrepRefIdeal.S4x2048x128 .f32 :=
  Host.reduceWindowAdd ![1, 2048, 1] ![1, 1, 1] ![0, 2047, 0] ![0, 0, 0] (REF2 X B) (broadcastInDim Cert.FoxPrepRefIdeal.S_ ![] Cert.FoxPrepRefIdeal.Gen.bcast_S_S_ (constant Cert.FoxPrepRefIdeal.S_ .f32 0x00000000#32)) Cert.FoxPrepRefIdeal.Gen.reduceWindows_S4x2048x128_S4x2048x128_w1s1p0_0_w2048s1p2047_0_w1s1p0_0 Cert.FoxPrepRefIdeal.Gen.h_S_

/-- The biased scores, entry by entry. -/
theorem pre_at (X : FVec Ideal Cert.FoxPrepRefIdeal.S4x2048x128 .f32) (B : FVec Ideal Cert.FoxPrepRefIdeal.S1x8 .f32) (b : Fin 4) (j : Fin 2048) (h : Fin 128) :
    PRE X B (ix3 b j h) = X (ix3 b j h) + bias B h := by
  pointwise [PRE, bias]
  rw [pad_zero]

/-- The reference's form of the logarithm, entry by entry. -/
theorem lsig_at (P : FVec Ideal Cert.FoxPrepRefIdeal.S4x2048x128 .f32) (b : Fin 4) (j : Fin 2048) (h : Fin 128) :
    LSIG P (ix3 b j h) = ls (P (ix3 b j h)) := by
  rw [← ls_ref]
  pointwise [LSIG, ZERO]
  rw [if_neg (not_not.mpr rfl)]
  rfl

theorem ref2_at (X : FVec Ideal Cert.FoxPrepRefIdeal.S4x2048x128 .f32) (B : FVec Ideal Cert.FoxPrepRefIdeal.S1x8 .f32) (b : Fin 4) (j : Fin 2048) (h : Fin 128) :
    REF2 X B (ix3 b j h) = gate X B b h j.val := by
  unfold REF2 gate
  rw [dif_pos j.isLt, lsig_at, pre_at]

/-- Adding up along a list in order is the sum of its members. -/
theorem fold_sum {ι : Type} (l : List ι) (g g' : ι → EReal) (e : ∀ a, g a = g' a) (v : EReal) : l.foldl (fun s a => s + g a) v = v + (l.map g').sum := by
  induction l generalizing v with
  | nil => simp
  | cons a l ih => rw [List.foldl_cons, ih, List.map_cons, List.sum_cons, e a, add_assoc]

/-- A window of all rows that ends at row `j` meets the rows up to `j`. -/
theorem win_sum (f : ℕ → EReal) (j : ℕ) (hj : j < 2048) :
    ∑ n ∈ Finset.range 2048, (if 2047 ≤ j + n then f (j + n - 2047) else 0) = ∑ k ∈ Finset.range (j + 1), f k := by
  have e : 2048 = (2047 - j) + (j + 1) := by omega
  rw [e, Finset.sum_range_add, Finset.sum_eq_zero, zero_add]
  · refine Finset.sum_congr rfl fun k _ => ?_
    rw [if_pos (by omega)]
    congr 1
    omega
  · intro n hn
    rw [Finset.mem_range] at hn
    rw [if_neg (by omega)]

/-- A window of all rows has 2048 entries. -/
theorem count : (⟨3, ![1, 2048, 1]⟩ : Shape).numel = 2048 := by
  show ∏ a : Fin 3, (![1, 2048, 1] : Fin 3 → Nat) a = 2048
  rw [Fin.prod_univ_three]
  rfl

/-- The place of a window's entry: along the middle axis. -/
theorem place (n : Fin (⟨3, ![1, 2048, 1]⟩ : Shape).numel) :
    (⟨3, ![1, 2048, 1]⟩ : Shape).rowMajor.symm n = ix3 (0 : Fin 1) (⟨n.val, lt_of_lt_of_eq n.isLt count⟩ : Fin 2048) (0 : Fin 1) := by
  rw [Equiv.symm_apply_eq]
  apply Fin.ext
  rw [Shape.rowMajor_val_three]
  show n.val = (0 * 2048 + n.val) * 1 + 0
  omega

/-- The window sum along the rows: entry `j` of the result is the sum of the entries up to `j`. -/
theorem win_at (x : (⟨3, ![4, 2048, 128]⟩ : Shape).Idx → EReal) (f : ℕ → EReal) {u : Shape} (init : u.Idx → EReal) (hu : 0 < u.numel) (hi : ∀ i, init i = 0)
    (hw : (⟨3, ![4, 2048, 128]⟩ : Shape).ReduceWindows (![1, 2048, 1] : Fin 3 → Nat) ![1, 1, 1] ![0, 2047, 0] ![0, 0, 0] (⟨3, ![4, 2048, 128]⟩ : Shape))
    (b : Fin 4) (j : Fin 2048) (h : Fin 128) (hx : ∀ k : Fin 2048, x (ix3 b k h) = f k.val) :
    Host.reduceWindow (fun p q : EReal => p + q) (![1, 2048, 1] : Fin 3 → Nat) ![1, 1, 1] ![0, 2047, 0] ![0, 0, 0] x init hw hu (ix3 b j h)
      = ∑ k ∈ Finset.range (j.val + 1), f k := by
  have hj := j.isLt
  have hb := b.isLt
  have hh := h.isLt
  unfold Host.reduceWindow
  refine (fold_sum _ _ (fun n => if 2047 ≤ j.val + n.val then f (j.val + n.val - 2047) else 0) (fun n => ?_) _).trans ?_
  · have hn : n.val < 2048 := lt_of_lt_of_eq n.isLt count
    have spot : ∀ a : Fin 3, ((ix3 b j h : (⟨3, ![4, 2048, 128]⟩ : Shape).Idx) a).val * (![1, 1, 1] : Fin 3 → Nat) a + ((⟨3, ![1, 2048, 1]⟩ : Shape).rowMajor.symm n a).val
        = (![b.val, j.val + n.val, h.val] : Fin 3 → Nat) a := by
      rw [place n]
      intro a
      fin_cases a
      · show b.val * 1 + 0 = b.val
        omega
      · show j.val * 1 + n.val = j.val + n.val
        omega
      · show h.val * 1 + 0 = h.val
        omega
    by_cases hc : 2047 ≤ j.val + n.val
    · have inside : ∀ a : Fin 3, (![0, 2047, 0] : Fin 3 → Nat) a ≤ (![b.val, j.val + n.val, h.val] : Fin 3 → Nat) a
          ∧ (![b.val, j.val + n.val, h.val] : Fin 3 → Nat) a - (![0, 2047, 0] : Fin 3 → Nat) a < (![4, 2048, 128] : Fin 3 → Nat) a := by
        intro a
        fin_cases a
        · exact ⟨Nat.zero_le _, hb⟩
        · exact ⟨hc, by show j.val + n.val - 2047 < 2048; omega⟩
        · exact ⟨Nat.zero_le _, hh⟩
      rw [if_pos hc, ← hx ⟨j.val + n.val - 2047, by omega⟩]
      refine (dif_pos fun a => ?_).trans (congrArg x ?_)
      · have e := inside a
        rw [← spot a] at e
        exact e
      · funext a
        apply Fin.ext
        refine (congrArg (· - (![0, 2047, 0] : Fin 3 → Nat) a) (spot a)).trans ?_
        fin_cases a <;> rfl
    · rw [if_neg hc]
      refine (dif_neg fun inside => hc ?_).trans (hi _)
      exact (inside 1).1.trans_eq (spot 1)
  · rw [hi, zero_add, ← win_sum f j.val hj, ← Fin.sum_univ_def,
      Fin.sum_univ_eq_sum_range (fun n => if 2047 ≤ j.val + n then f (j.val + n - 2047) else 0)]
    rw [count]

/-- The zero the window sum starts from. -/
theorem start (i : Cert.FoxPrepRefIdeal.S_.Idx) :
    (broadcastInDim Cert.FoxPrepRefIdeal.S_ ![] Cert.FoxPrepRefIdeal.Gen.bcast_S_S_ (constant (F := Ideal) Cert.FoxPrepRefIdeal.S_ .f32 0x00000000#32)) i = (0 : EReal) := by
  pointwise []

/-- The window sum is an addition along the window. -/
theorem win_eq {s t u : Shape} (w st lo hi : Fin s.rank → Nat) (x : FVec Ideal s .f32) (init : FVec Ideal u .f32) (h : s.ReduceWindows w st lo hi t) (hu : 0 < u.numel) :
    Host.reduceWindowAdd w st lo hi x init h hu
      = Host.reduceWindow (fun p q : EReal => p + q) w st lo hi x (fun _ : (⟨0, ![]⟩ : Shape).Idx => init (Shape.Idx.first hu)) h := rfl

theorem ref3_at (X : FVec Ideal Cert.FoxPrepRefIdeal.S4x2048x128 .f32) (B : FVec Ideal Cert.FoxPrepRefIdeal.S1x8 .f32) (b : Fin 4) (j : Fin 2048) (h : Fin 128) :
    REF3 X B (ix3 b j h) = run X B b h (j.val + 1) := by
  unfold REF3 run
  rw [win_eq]
  generalize hR : REF2 X B = R
  refine win_at R (gate X B b h) _ _ (fun _ => start _) _ b j h (fun k => ?_)
  rw [← hR]
  exact ref2_at X B b k h

/-! ## The two results -/

/-- The first result array: the reference's gates. -/
theorem final2 (c : Dev nD) : (dats m 0 c).arrAt 2 (cfgs 0).N = REF2 (m ((c : Thread nD τ).loc main_arg0)) (m ((c : Thread nD τ).loc main_arg1)) := by
  refine (dats m 0 c).arrAt_eq_of_covers 2 _ (by decide +kernel) fun t hf y => ?_
  blk_simp
  rw [after0_2]
  idx_vars y
  rw [Fin.eq_zero y0]
  have ht : t.val < 32 := lt_of_lt_of_eq t.isLt N_0
  rw [show ((View.whole main_v3_0).slice (win0_2.rect t)).emb (ix3 (0 : Fin 1) y1 y2)
      = ix3 (⟨t.val / 8, by omega⟩ : Fin 4) (⟨t.val % 8 * 256 + y1.val, by omega⟩ : Fin 2048) y2 by blk_ext [idx t]]
  rw [ref2_at]
  exact pt_gate m c t y1 y2 ⟨t.val / 8, by omega⟩ rfl

/-- The second result array: the reference's running sums. -/
theorem final3 (c : Dev nD) : (dats m 0 c).arrAt 3 (cfgs 0).N = REF3 (m ((c : Thread nD τ).loc main_arg0)) (m ((c : Thread nD τ).loc main_arg1)) := by
  refine (dats m 0 c).arrAt_eq_of_covers 3 _ (by decide +kernel) fun t hf y => ?_
  blk_simp
  rw [after0_3]
  idx_vars y
  rw [Fin.eq_zero y0]
  have ht : t.val < 32 := lt_of_lt_of_eq t.isLt N_0
  rw [show ((View.whole main_v3_1).slice (win0_3.rect t)).emb (ix3 (0 : Fin 1) y1 y2)
      = ix3 (⟨t.val / 8, by omega⟩ : Fin 4) (⟨t.val % 8 * 256 + y1.val, by omega⟩ : Fin 2048) y2 by blk_ext [idx t]]
  rw [ref3_at]
  exact (pt m c y2 t.val t.isLt ⟨t.val / 8, by omega⟩ rfl).1 y1

end Cert.FoxPrepIdeal.Val

end
-- ==== Proof.EvenRun.lean ====
/- The run of the even layer's projection kernel, one grid point at a time. -/
module

public import proofs.«01_k».proof.Proof.Gen.EvenProjIdeal.Frame
public import proofs.«01_k».proof.Proof.Gen.EvenProjIdeal.Skeleton

@[expose] public section

set_option maxRecDepth 16384

noncomputable section

namespace Cert.EvenProjIdeal.Hand

open Cert.EvenProjIdeal Cert.EvenProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev cond0_0 (i : grid0.Coords) : Prop := (Scalar.cmpi .ne (Scalar.extui (Scalar.cmpi .eq (BitVec.ofNat 32 (i 1).val) 0#32)) 0#32) = 1#1
/-- The branch is taken at the first block of columns only. -/
theorem hcond0_0 : ∀ t : Fin cfg0.N, cond0_0 (grid0.coords t) ↔ t.val % 4 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 4 = 0)

abbrev VO0_6 : View sig .tc .vmem S1024x1408 .f32 := (Memref.whole cc0_stg6_0 : Memref sig .tc .vmem S1024x1408 .f32).view
abbrev VO0_7 : View sig .tc .vmem S1024x128 .f32 := (Memref.whole cc0_stg7_0 : Memref sig .tc .vmem S1024x128 .f32).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1408 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1408 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1408 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1408 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x128 .f32 := win0_7.stage (cfg0.slots t 7)
abbrev hs0_7 (t : Fin cfg0.N) : (ms0_7 t).IsWhole := hstage0_7 ((cfg0.slots t 7).cast nbuf0_7)
abbrev scM0_0 : Memref sig .tc .vmem S1024x2048 .bf16 := Memref.whole cc0_scratch0
abbrev VS0_0 : View sig .tc .vmem S1024x2048 .bf16 := scM0_0.view

/-- The launch's invariant: the scratch at anything, and the generator. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 1000000 in
/-- The body at a point that computes the normed rows: what it stores, and its triple. -/
noncomputable def kernelRun0_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1408 .bf16) (harg4 : arg4.IsWhole) (arg5 : Memref sig .tc .vmem S2048x128 .bf16) (harg5 : arg5.IsWhole) (arg6 : Memref sig .tc .vmem S1x1408 .f32) (harg6 : arg6.IsWhole) (arg7 : Memref sig .tc .vmem S1x1408 .f32) (harg7 : arg7.IsWhole) (arg8 : Memref sig .tc .vmem S1024x1408 .f32) (harg8 : arg8.IsWhole) (arg9 : Memref sig .tc .vmem S1024x128 .f32) (harg9 : arg9.IsWhole) (arg10 : Memref sig .tc .vmem S1024x2048 .bf16) (harg10 : arg10.IsWhole) (hc0 : cond0_0 i)
    (x0 : Vec F S1024x2048 .f32) (x1 : Vec F S1x2048 .f32) (x2 : Vec F S2048x1408 .bf16) (x3 : Vec F S2048x128 .bf16) (x4 : Vec F S1x1408 .f32) (x5 : Vec F S1x1408 .f32) :
    Σ' (L6 : List (View.Piece (Elt F) S1024x1408 .f32)), Σ' (L7 : List (View.Piece (Elt F) S1024x128 .f32)), { LS0 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0__proj_body i arg2 harg2 arg3 harg3 arg4 harg4 arg5 harg5 arg6 harg6 arg7 harg7 arg8 harg8 arg9 harg9 arg10 harg10) K } := by
  refine ⟨?_, ?_, ?_, fun E K => ?run⟩
  case run =>
    simp only [cc0__proj_body_eq_skeleton]; unfold cc0__proj_body_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact HS0

set_option maxHeartbeats 1000000 in
/-- The body at any other point: the scratch and the gate block are kept, and only the columns are stored. -/
noncomputable def kernelRun0_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1408 .bf16) (harg4 : arg4.IsWhole) (arg5 : Memref sig .tc .vmem S2048x128 .bf16) (harg5 : arg5.IsWhole) (arg6 : Memref sig .tc .vmem S1x1408 .f32) (harg6 : arg6.IsWhole) (arg7 : Memref sig .tc .vmem S1x1408 .f32) (harg7 : arg7.IsWhole) (arg8 : Memref sig .tc .vmem S1024x1408 .f32) (harg8 : arg8.IsWhole) (arg9 : Memref sig .tc .vmem S1024x128 .f32) (harg9 : arg9.IsWhole) (arg10 : Memref sig .tc .vmem S1024x2048 .bf16) (harg10 : arg10.IsWhole) (hc0 : ¬cond0_0 i)
    (x0 : Vec F S1024x2048 .f32) (x1 : Vec F S1x2048 .f32) (x2 : Vec F S2048x1408 .bf16) (x3 : Vec F S2048x128 .bf16) (x4 : Vec F S1x1408 .f32) (x5 : Vec F S1x1408 .f32) (xo7 : Vec F S1024x128 .f32) (xs0 : Vec F S1024x2048 .bf16) :
    Σ' (L6 : List (View.Piece (Elt F) S1024x1408 .f32)), { LS0 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xo7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xo7 ∗ owns (c : Thread nD τ) arg10 fullShare xs0) -∗ K ⟨⟩))
          ⊢ wp frame (wpE (defs₀ (F := F)) Variants.none c none) E (cc0__proj_body i arg2 harg2 arg3 harg3 arg4 harg4 arg5 harg5 arg6 harg6 arg7 harg7 arg8 harg8 arg9 harg9 arg10 harg10) K } := by
  refine ⟨?_, [], fun E K => ?run⟩
  case run =>
    simp only [cc0__proj_body_eq_skeleton]; unfold cc0__proj_body_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    iexists _; isplitr; · ipureintro; exact harg10.read_unread _
    iexact HS0

end Cert.EvenProjIdeal.Hand

end
-- ==== Proof.EvenFrame.lean ====
/- The frame of the even layer's projection: what its blocks hold point by point, and its run. -/
module

public import proofs.«01_k».proof.Proof.EvenRun
public import Idealize.ShloMosaic.Lib.Claim

@[expose] public section

set_option maxRecDepth 16384

noncomputable section

namespace Cert.EvenProjIdeal.Hand

open Cert.EvenProjIdeal Cert.EvenProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cover0_A_6 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1408 .bf16) (harg4 : arg4.IsWhole) (arg5 : Memref sig .tc .vmem S2048x128 .bf16) (harg5 : arg5.IsWhole) (arg6 : Memref sig .tc .vmem S1x1408 .f32) (harg6 : arg6.IsWhole) (arg7 : Memref sig .tc .vmem S1x1408 .f32) (harg7 : arg7.IsWhole) (arg8 : Memref sig .tc .vmem S1024x1408 .f32) (harg8 : arg8.IsWhole) (arg9 : Memref sig .tc .vmem S1024x128 .f32) (harg9 : arg9.IsWhole) (arg10 : Memref sig .tc .vmem S1024x2048 .bf16) (harg10 : arg10.IsWhole) (hc0 : cond0_0 i)
    (x0 : Vec F S1024x2048 .f32) (x1 : Vec F S1x2048 .f32) (x2 : Vec F S2048x1408 .bf16) (x3 : Vec F S2048x128 .bf16) (x4 : Vec F S1x1408 .f32) (x5 : Vec F S1x1408 .f32) (y : S1024x1408.Idx) :
    ∃ pc ∈ (kernelRun0_A c i arg2 harg2 arg3 harg3 arg4 harg4 arg5 harg5 arg6 harg6 arg7 harg7 arg8 harg8 arg9 harg9 arg10 harg10 hc0 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4 x5).1 S1024x128.size (by sl_kernel_rfl) y

/-- The columns stored at a first point. -/
def out0_A_6 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1408 .bf16) (harg4 : arg4.IsWhole) (arg5 : Memref sig .tc .vmem S2048x128 .bf16) (harg5 : arg5.IsWhole) (arg6 : Memref sig .tc .vmem S1x1408 .f32) (harg6 : arg6.IsWhole) (arg7 : Memref sig .tc .vmem S1x1408 .f32) (harg7 : arg7.IsWhole) (arg8 : Memref sig .tc .vmem S1024x1408 .f32) (harg8 : arg8.IsWhole) (arg9 : Memref sig .tc .vmem S1024x128 .f32) (harg9 : arg9.IsWhole) (arg10 : Memref sig .tc .vmem S1024x2048 .bf16) (harg10 : arg10.IsWhole) (hc0 : cond0_0 i)
    (x0 : Vec F S1024x2048 .f32) (x1 : Vec F S1x2048 .f32) (x2 : Vec F S2048x1408 .bf16) (x3 : Vec F S2048x128 .bf16) (x4 : Vec F S1x1408 .f32) (x5 : Vec F S1x1408 .f32) : Vec F S1024x1408 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 x0 x1 x2 x3 x4 x5).1)

theorem cover0_A_7 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1408 .bf16) (harg4 : arg4.IsWhole) (arg5 : Memref sig .tc .vmem S2048x128 .bf16) (harg5 : arg5.IsWhole) (arg6 : Memref sig .tc .vmem S1x1408 .f32) (harg6 : arg6.IsWhole) (arg7 : Memref sig .tc .vmem S1x1408 .f32) (harg7 : arg7.IsWhole) (arg8 : Memref sig .tc .vmem S1024x1408 .f32) (harg8 : arg8.IsWhole) (arg9 : Memref sig .tc .vmem S1024x128 .f32) (harg9 : arg9.IsWhole) (arg10 : Memref sig .tc .vmem S1024x2048 .bf16) (harg10 : arg10.IsWhole) (hc0 : cond0_0 i)
    (x0 : Vec F S1024x2048 .f32) (x1 : Vec F S1x2048 .f32) (x2 : Vec F S2048x1408 .bf16) (x3 : Vec F S2048x128 .bf16) (x4 : Vec F S1x1408 .f32) (x5 : Vec F S1x1408 .f32) (y : S1024x128.Idx) :
    ∃ pc ∈ (kernelRun0_A c i arg2 harg2 arg3 harg3 arg4 harg4 arg5 harg5 arg6 harg6 arg7 harg7 arg8 harg8 arg9 harg9 arg10 harg10 hc0 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4 x5).2.1 S1024x128.size (by sl_kernel_rfl) y

/-- The gate block stored at a first point. -/
def out0_A_7 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1408 .bf16) (harg4 : arg4.IsWhole) (arg5 : Memref sig .tc .vmem S2048x128 .bf16) (harg5 : arg5.IsWhole) (arg6 : Memref sig .tc .vmem S1x1408 .f32) (harg6 : arg6.IsWhole) (arg7 : Memref sig .tc .vmem S1x1408 .f32) (harg7 : arg7.IsWhole) (arg8 : Memref sig .tc .vmem S1024x1408 .f32) (harg8 : arg8.IsWhole) (arg9 : Memref sig .tc .vmem S1024x128 .f32) (harg9 : arg9.IsWhole) (arg10 : Memref sig .tc .vmem S1024x2048 .bf16) (harg10 : arg10.IsWhole) (hc0 : cond0_0 i)
    (x0 : Vec F S1024x2048 .f32) (x1 : Vec F S1x2048 .f32) (x2 : Vec F S2048x1408 .bf16) (x3 : Vec F S2048x128 .bf16) (x4 : Vec F S1x1408 .f32) (x5 : Vec F S1x1408 .f32) : Vec F S1024x128 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 hc0 x0 x1 x2 x3 x4 x5).2.1)

theorem scover0_A_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1408 .bf16) (harg4 : arg4.IsWhole) (arg5 : Memref sig .tc .vmem S2048x128 .bf16) (harg5 : arg5.IsWhole) (arg6 : Memref sig .tc .vmem S1x1408 .f32) (harg6 : arg6.IsWhole) (arg7 : Memref sig .tc .vmem S1x1408 .f32) (harg7 : arg7.IsWhole) (arg8 : Memref sig .tc .vmem S1024x1408 .f32) (harg8 : arg8.IsWhole) (arg9 : Memref sig .tc .vmem S1024x128 .f32) (harg9 : arg9.IsWhole) (arg10 : Memref sig .tc .vmem S1024x2048 .bf16) (harg10 : arg10.IsWhole) (hc0 : cond0_0 i)
    (x0 : Vec F S1024x2048 .f32) (x1 : Vec F S1x2048 .f32) (x2 : Vec F S2048x1408 .bf16) (x3 : Vec F S2048x128 .bf16) (x4 : Vec F S1x1408 .f32) (x5 : Vec F S1x1408 .f32) (y : S1024x2048.Idx) :
    ∃ pc ∈ (kernelRun0_A c i arg2 harg2 arg3 harg3 arg4 harg4 arg5 harg5 arg6 harg6 arg7 harg7 arg8 harg8 arg9 harg9 arg10 harg10 hc0 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4 x5).2.2.1 S1024x2048.size (by sl_kernel_rfl) y

/-- The scratch stored at a first point. -/
def sout0_A_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1408 .bf16) (harg4 : arg4.IsWhole) (arg5 : Memref sig .tc .vmem S2048x128 .bf16) (harg5 : arg5.IsWhole) (arg6 : Memref sig .tc .vmem S1x1408 .f32) (harg6 : arg6.IsWhole) (arg7 : Memref sig .tc .vmem S1x1408 .f32) (harg7 : arg7.IsWhole) (arg8 : Memref sig .tc .vmem S1024x1408 .f32) (harg8 : arg8.IsWhole) (arg9 : Memref sig .tc .vmem S1024x128 .f32) (harg9 : arg9.IsWhole) (arg10 : Memref sig .tc .vmem S1024x2048 .bf16) (harg10 : arg10.IsWhole) (hc0 : cond0_0 i)
    (x0 : Vec F S1024x2048 .f32) (x1 : Vec F S1x2048 .f32) (x2 : Vec F S2048x1408 .bf16) (x3 : Vec F S2048x128 .bf16) (x4 : Vec F S1x1408 .f32) (x5 : Vec F S1x1408 .f32) : Vec F S1024x2048 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 x0 x1 x2 x3 x4 x5).2.2.1)

theorem cover0_B_6 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1408 .bf16) (harg4 : arg4.IsWhole) (arg5 : Memref sig .tc .vmem S2048x128 .bf16) (harg5 : arg5.IsWhole) (arg6 : Memref sig .tc .vmem S1x1408 .f32) (harg6 : arg6.IsWhole) (arg7 : Memref sig .tc .vmem S1x1408 .f32) (harg7 : arg7.IsWhole) (arg8 : Memref sig .tc .vmem S1024x1408 .f32) (harg8 : arg8.IsWhole) (arg9 : Memref sig .tc .vmem S1024x128 .f32) (harg9 : arg9.IsWhole) (arg10 : Memref sig .tc .vmem S1024x2048 .bf16) (harg10 : arg10.IsWhole) (hc0 : ¬cond0_0 i)
    (x0 : Vec F S1024x2048 .f32) (x1 : Vec F S1x2048 .f32) (x2 : Vec F S2048x1408 .bf16) (x3 : Vec F S2048x128 .bf16) (x4 : Vec F S1x1408 .f32) (x5 : Vec F S1x1408 .f32) (xo7 : Vec F S1024x128 .f32) (xs0 : Vec F S1024x2048 .bf16) (y : S1024x1408.Idx) :
    ∃ pc ∈ (kernelRun0_B c i arg2 harg2 arg3 harg3 arg4 harg4 arg5 harg5 arg6 harg6 arg7 harg7 arg8 harg8 arg9 harg9 arg10 harg10 hc0 x0 x1 x2 x3 x4 x5 xo7 xs0).1, y ∈ pc.1.set :=
  View.cover_of_tiledL (kernelRun0_B c i arg2 harg2 arg3 harg3 arg4 harg4 arg5 harg5 arg6 harg6 arg7 harg7 arg8 harg8 arg9 harg9 arg10 harg10 hc0 x0 x1 x2 x3 x4 x5 xo7 xs0).1 S1024x128.size (by sl_kernel_rfl) y

/-- The columns stored at another point. -/
def out0_B_6 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1408 .bf16) (harg4 : arg4.IsWhole) (arg5 : Memref sig .tc .vmem S2048x128 .bf16) (harg5 : arg5.IsWhole) (arg6 : Memref sig .tc .vmem S1x1408 .f32) (harg6 : arg6.IsWhole) (arg7 : Memref sig .tc .vmem S1x1408 .f32) (harg7 : arg7.IsWhole) (arg8 : Memref sig .tc .vmem S1024x1408 .f32) (harg8 : arg8.IsWhole) (arg9 : Memref sig .tc .vmem S1024x128 .f32) (harg9 : arg9.IsWhole) (arg10 : Memref sig .tc .vmem S1024x2048 .bf16) (harg10 : arg10.IsWhole) (hc0 : ¬cond0_0 i)
    (x0 : Vec F S1024x2048 .f32) (x1 : Vec F S1x2048 .f32) (x2 : Vec F S2048x1408 .bf16) (x3 : Vec F S2048x128 .bf16) (x4 : Vec F S1x1408 .f32) (x5 : Vec F S1x1408 .f32) (xo7 : Vec F S1024x128 .f32) (xs0 : Vec F S1024x2048 .bf16) : Vec F S1024x1408 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 x0 x1 x2 x3 x4 x5 xo7 xs0).1)

/-- The gate block is kept. -/
def out0_B_7 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1408 .bf16) (harg4 : arg4.IsWhole) (arg5 : Memref sig .tc .vmem S2048x128 .bf16) (harg5 : arg5.IsWhole) (arg6 : Memref sig .tc .vmem S1x1408 .f32) (harg6 : arg6.IsWhole) (arg7 : Memref sig .tc .vmem S1x1408 .f32) (harg7 : arg7.IsWhole) (arg8 : Memref sig .tc .vmem S1024x1408 .f32) (harg8 : arg8.IsWhole) (arg9 : Memref sig .tc .vmem S1024x128 .f32) (harg9 : arg9.IsWhole) (arg10 : Memref sig .tc .vmem S1024x2048 .bf16) (harg10 : arg10.IsWhole) (hc0 : ¬cond0_0 i)
    (x0 : Vec F S1024x2048 .f32) (x1 : Vec F S1x2048 .f32) (x2 : Vec F S2048x1408 .bf16) (x3 : Vec F S2048x128 .bf16) (x4 : Vec F S1x1408 .f32) (x5 : Vec F S1x1408 .f32) (xo7 : Vec F S1024x128 .f32) (xs0 : Vec F S1024x2048 .bf16) : Vec F S1024x128 .f32 :=
  xo7

/-- The scratch is kept. -/
def sout0_B_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1408 .bf16) (harg4 : arg4.IsWhole) (arg5 : Memref sig .tc .vmem S2048x128 .bf16) (harg5 : arg5.IsWhole) (arg6 : Memref sig .tc .vmem S1x1408 .f32) (harg6 : arg6.IsWhole) (arg7 : Memref sig .tc .vmem S1x1408 .f32) (harg7 : arg7.IsWhole) (arg8 : Memref sig .tc .vmem S1024x1408 .f32) (harg8 : arg8.IsWhole) (arg9 : Memref sig .tc .vmem S1024x128 .f32) (harg9 : arg9.IsWhole) (arg10 : Memref sig .tc .vmem S1024x2048 .bf16) (harg10 : arg10.IsWhole) (hc0 : ¬cond0_0 i)
    (x0 : Vec F S1024x2048 .f32) (x1 : Vec F S1x2048 .f32) (x2 : Vec F S2048x1408 .bf16) (x3 : Vec F S2048x128 .bf16) (x4 : Vec F S1x1408 .f32) (x5 : Vec F S1x1408 .f32) (xo7 : Vec F S1024x128 .f32) (xs0 : Vec F S1024x2048 .bf16) : Vec F S1024x2048 .bf16 := xs0

/-- What the two result blocks and the scratch hold after each point. -/
def outsAt0 (c : Dev nD) : (n : ℕ) → n < cfg0.N → Vec F S1024x1408 .f32 × Vec F S1024x128 .f32 × Vec F S1024x2048 .bf16
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 4 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2)

theorem outsAt0_A (c : Dev nD) (t : Fin cfg0.N) (h0 : t.val % 4 = 0) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans rfl

theorem outsAt0_B (c : Dev nD) (t : Fin cfg0.N) (h0 : ¬t.val % 4 = 0) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The invariant: before the first point the launch's, later the scratch as the point before left it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-- The proof data of the call. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
/-- The gate block's window stores nothing away from the first block of columns. -/
theorem idle7 (t : Fin cfg0.N) : cfg0.idle 7 (cfg0.grid.coords t) = !decide (t.val % 4 = 0) := by
  show (!(k0_cond1 (grid0.coords t) == 1#1)) = _
  congr 1
  rw [Bool.eq_iff_iff, beq_iff_eq, decide_eq_true_iff]
  exact hcond0_0 t

/-- It is not written back before the last block of columns. -/
theorem noFlush7 (n : ℕ) (hn : n < cfg0.N) (h0 : ¬(n + 1) % 4 = 0) : (cfg0.win 7).flush ⟨n, hn⟩ = false :=
  Bool.eq_false_iff.mpr fun h => by have := (flush0_7 _).mp h; dsimp only at this; omega

/-- So there its buffer still holds what the point before left. -/
theorem keep7 (c : Dev nD) : ∀ (n : ℕ) (hn : n < cfg0.N) (_ : ¬n % 4 = 0) (d),
    (dats m 0 c).before 7 ⟨n, hn⟩ d = (outsAt0 m c (n - 1) (Nat.lt_of_le_of_lt (Nat.sub_le _ _) hn)).2.1
  | 0, hn, h0, d => absurd (Nat.zero_mod _) h0
  | n + 1, hn, h0, d => by
      have hn' : n < cfg0.N := Nat.lt_of_succ_lt hn
      rw [Dat.before_of_pos _ 7 ⟨n + 1, hn⟩ (Nat.succ_ne_zero n) ((cfg0.win 7).fetch_out rfl _),
        show (cfg0.win 7).flush ⟨(⟨n + 1, hn⟩ : Fin cfg0.N).val - 1, Nat.lt_of_le_of_lt (Nat.sub_le _ _) hn⟩ = false from noFlush7 n hn' h0,
        if_neg Bool.false_ne_true]
      show Dat.left (dats m 0 c) 7 ⟨n, hn'⟩ d = _
      unfold Dat.left
      rw [idle7]
      by_cases h : n % 4 = 0
      · rw [decide_eq_true h]
        show Dat.kept (dats m 0 c) 7 ⟨n, hn'⟩ d = _
        unfold Dat.kept
        rw [Pipeline.fill_of_clip_none 7 _ (fun _ => rfl) d ((dats m 0 c).after 7 ⟨n, hn'⟩), Pipeline.Window.fill_cut]
        exact after0_7 m c ⟨n, hn'⟩
      · rw [decide_eq_false h]
        show (dats m 0 c).before 7 ⟨n, hn'⟩ d = _
        rw [keep7 c n hn' h d]
        show _ = (outsAt0 m c n hn').2.1
        rw [show outsAt0 m c n hn' = _ from outsAt0_B m c ⟨n, hn'⟩ h]
        rfl

/-- At a later block of columns the gate block is still what the point before left. -/
theorem before0_7_B (c : Dev nD) (t : Fin cfg0.N) (h0 : ¬t.val % 4 = 0) (d) :
    (dats m 0 c).before 7 t d = (outsAt0 m c (t.val - 1) (Nat.lt_of_le_of_lt (Nat.sub_le _ _) t.isLt)).2.1 :=
  keep7 m c t.val t.isLt h0 d

/-- What the body leaves in the gate block's buffer is what its obligation asks for. -/
theorem leaves7 (c : Dev nD) (t : Fin cfg0.N) :
    owns (c : Thread nD τ) (ms0_7 t) fullShare ((dats m 0 c).after 7 t) ⊢ ((dats m 0 c).leavesExact 7 t : sProp 𝕄) := by
  unfold Dat.leavesExact
  rw [idle7]
  by_cases h : t.val % 4 = 0
  · rw [decide_eq_true h]; exact .rfl
  · rw [decide_eq_false h]
    show _ ⊢ (match (cfg0.win 7).flush t with
      | false => iprop(∃ d, owns (c : Thread nD τ) ((cfg0.win 7).stage (cfg0.slots t 7)) fullShare ((dats m 0 c).before 7 t d))
      | true => owns (c : Thread nD τ) ((cfg0.win 7).stage (cfg0.slots t 7)) fullShare ((dats m 0 c).after 7 t) : sProp 𝕄)
    cases (cfg0.win 7).flush t
    · have e : ∀ d, (dats m 0 c).before 7 t d = (dats m 0 c).after 7 t := fun d => by
        rw [before0_7_B m c t h, after0_7, outsAt0_B m c t h]; rfl
      iintro H
      iexists ((dats m 0 c).after 7 t)
      rw [e]
      iexact H
    · exact .rfl

/-- What the body starts from. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What the body ends with. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 6400000 in
/-- The body's triple at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl, PhiS_succ]
  have hN : t.val < 32 := lt_of_lt_of_eq t.isLt (show cfg0.N = 32 from N_0)
  by_cases h0 : t.val % 4 = 0
  · by_cases hz : t.val = 0
    · rw [PhiS_castSucc m c t, PhiS_zero m c _ _ hz, PhiA0_eq]
      rw [outsAt0_A m c t h0]
      unfold out0_A_6 out0_A_7 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _ _)
    · rw [PhiS_castSucc m c t, PhiS_pos m c _ _ hz]
      rw [outsAt0_A m c t h0]
      unfold out0_A_6 out0_A_7 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexists _; iexact HS0
      iintro ⟨H0, H1, H2, H3, H4, H5, ⟨%e6, H6⟩, ⟨%e7, H7⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _ _)
  · by_cases hz : t.val = 0
    · exfalso; have hN : t.val < 32 := lt_of_lt_of_eq t.isLt (show cfg0.N = 32 from N_0); omega
    · rw [PhiS_castSucc m c t, PhiS_pos m c _ _ hz]
      rw [outsAt0_B m c t h0]
      simp only [before0_7_B m c t h0]
      unfold out0_B_6 out0_B_7 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) _ _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, ⟨%e6, H6⟩, H7, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _)
      iexact H7

theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ =>
    sep_mono .rfl (sep_mono .rfl (sep_mono .rfl (sep_mono .rfl (sep_mono .rfl (sep_mono .rfl (sep_mono .rfl (sep_mono .rfl
      (sep_mono .rfl (leaves7 m c t)))))))))

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)

set_option backward.isDefEq.respectTransparency.types false in
/-- The call's run, with the semaphores back at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The call's run. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they started. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: the arguments unchanged and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

theorem post6 (r : PUnit × MemSt nD τ sig (Elt F)) (h : Pipeline.FramePost cfgs (dats m) 0 (V m) r) (c : Dev nD) :
    r.2.mem ((c : Thread nD τ).loc main_v61_0) = (dats m 0 c).arrAt 6 cfg0.N :=
  (h c).1 6

theorem post7 (r : PUnit × MemSt nD τ sig (Elt F)) (h : Pipeline.FramePost cfgs (dats m) 0 (V m) r) (c : Dev nD) :
    r.2.mem ((c : Thread nD τ).loc main_v61_1) = (dats m 0 c).arrAt 7 cfg0.N :=
  (h c).1 7

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- The run, with each result as the blocks its points wrote. -/
theorem run_blocks : θ_run defs (onTc (τ := τ) (main (F := F))) ⟨m, fun _ => 0, ρ⟩ fun r => ∀ c : Dev nD,
      r.2.mem ((c : Thread nD τ).loc main_v61_0) = (dats m 0 c).arrAt 6 cfg0.N
      ∧ r.2.mem ((c : Thread nD τ).loc main_v61_1) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post6 m r h c,
      post7 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.EvenProjIdeal.Hand

end
-- ==== Proof.EvenWords.lean ====
/- The frame of the even layer's projection over words, from the run over any floats: the two programs have one text. -/
module

public import proofs.«01_k».proof.Defs
public import proofs.«01_k».proof.Proof.EvenFrame
public import proofs.«01_k».proof.Proof.Gen.EvenProj

@[expose] public section

set_option maxRecDepth 16384
set_option maxHeartbeats 4000000

noncomputable section

namespace Cert.EvenProj.Hand

open Idealize.ShloMosaic Idealize.SL.Sem

variable {F : FTy → Type} [FloatOps F]

/-- One body table. -/
theorem body_table : (Cert.EvenProj.defs₀ (F := F)) = Cert.EvenProjIdeal.defs₀ (F := F) := by
  unfold Cert.EvenProj.defs₀ Cert.EvenProjIdeal.defs₀
  congr 1
  funext l a
  match l, a with
  | 0, (t, s) => rfl

/-- One table of the calls. -/
theorem table : (Cert.EvenProj.defs (F := F)) = Cert.EvenProjIdeal.defs (F := F) :=
  congrArg (Idealize.ShloMosaic.Pipeline.defs (Cert.EvenProjIdeal.pcfgs (F := F))) body_table

/-- The frame over words. -/
theorem frame_words : Cert.quiescent_EvenProj := fun m ρ _ => by
  have h := Cert.EvenProjIdeal.Hand.frame (F := Bits) m ρ
  rw [← table] at h
  exact (θ_run _ _ _).mono (fun _ h => h) h

end Cert.EvenProj.Hand

end
-- ==== Proof.EvenArr.lean ====
module

public import proofs.«01_k».proof.Proof.EvenFrame
public import proofs.«01_k».proof.Proof.Gen.EvenProjRefIdeal.Run
public import Idealize.ShloMosaic.Lib.Pipeline.ValueKit
public import Idealize.ShloMosaic.Lib.Pipeline.ReadBack

@[expose] public section

set_option maxRecDepth 16384

noncomputable section

namespace Cert.EvenProjIdeal.Val

open Idealize.ShloMosaic Idealize.ShloMosaic.TcCoe Idealize.SL.Sem
open Idealize.ShloMosaic.Pipeline (Dat)
open Cert.EvenProjIdeal Cert.EvenProjIdeal.Gen Cert.EvenProjIdeal.Hand

variable (m : (ℓ : Loc nD τ sig) → Buf (Elt Ideal) ℓ)

/-- The block index of every window at every grid point. -/
theorem idx : ∀ t : Fin cfg0.N, win0_0.index t = ![t.val / 4, 0] ∧ win0_1.index t = ![0, 0]
    ∧ win0_2.index t = ![0, t.val % 4] ∧ win0_3.index t = ![0, 0] ∧ win0_4.index t = ![0, t.val % 4]
    ∧ win0_5.index t = ![0, t.val % 4] ∧ win0_6.index t = ![t.val / 4, t.val % 4] ∧ win0_7.index t = ![t.val / 4, 0] :=
  (by decide +kernel : ∀ t : Fin grid0.N, _)

/-- The column of the whole weight that a column of the kernel's weight is. -/
def src (n : Fin 5632) : Fin 5664 := if h : n.val < 3072 then ⟨n.val, by omega⟩ else ⟨n.val + 8, by omega⟩

/-- The kernel's weight over the whole weight: its column pieces side by side. -/
def cat (A : FVec Ideal S1x2048x5664 .f32) : FVec Ideal S2048x5632 .bf16 :=
  truncf .bf16 (concatenate S2048x5632 1
    [⟨S2048x1024, extractStridedSlice S2048x1024 ![0, 0] (shapeCast S2048x5664 A shapeCasts_S1x2048x5664_S2048x5664) slices_S2048x5664_S2048x1024_0_0⟩,
     ⟨S2048x1024, extractStridedSlice S2048x1024 ![0, 1024] (shapeCast S2048x5664 A shapeCasts_S1x2048x5664_S2048x5664) slices_S2048x5664_S2048x1024_0_1024⟩,
     ⟨S2048x1024, extractStridedSlice S2048x1024 ![0, 2048] (shapeCast S2048x5664 A shapeCasts_S1x2048x5664_S2048x5664) slices_S2048x5664_S2048x1024_0_2048⟩,
     ⟨S2048x1024, extractStridedSlice S2048x1024 ![0, 3080] (shapeCast S2048x5664 A shapeCasts_S1x2048x5664_S2048x5664) slices_S2048x5664_S2048x1024_0_3080⟩,
     ⟨S2048x256, extractStridedSlice S2048x256 ![0, 4104] (shapeCast S2048x5664 A shapeCasts_S1x2048x5664_S2048x5664) slices_S2048x5664_S2048x256_0_4104⟩,
     ⟨S2048x256, extractStridedSlice S2048x256 ![0, 4360] (shapeCast S2048x5664 A shapeCasts_S1x2048x5664_S2048x5664) slices_S2048x5664_S2048x256_0_4360⟩,
     ⟨S2048x256, extractStridedSlice S2048x256 ![0, 4616] (shapeCast S2048x5664 A shapeCasts_S1x2048x5664_S2048x5664) slices_S2048x5664_S2048x256_0_4616⟩,
     ⟨S2048x256, extractStridedSlice S2048x256 ![0, 4872] (shapeCast S2048x5664 A shapeCasts_S1x2048x5664_S2048x5664) slices_S2048x5664_S2048x256_0_4872⟩,
     ⟨S2048x256, extractStridedSlice S2048x256 ![0, 5128] (shapeCast S2048x5664 A shapeCasts_S1x2048x5664_S2048x5664) slices_S2048x5664_S2048x256_0_5128⟩,
     ⟨S2048x256, extractStridedSlice S2048x256 ![0, 5384] (shapeCast S2048x5664 A shapeCasts_S1x2048x5664_S2048x5664) slices_S2048x5664_S2048x256_0_5384⟩]
    concatenates_S2048x1024_S2048x1024_S2048x1024_S2048x1024_S2048x256_S2048x256_S2048x256_S2048x256_S2048x256_S2048x256_S2048x5632_d1) bitsLt_bf16_f32

/-- The host operations leave that weight. -/
theorem V_cat (c : Dev nD) : V m c main_v18 = cat (m ((c : Thread nD τ).loc main_arg2)) := by
  simp only [V, hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results_simp <;> (try dsimp only [Matrix.cons_val]) <;> (try after_results_simp) <;> rfl

/-- An entry of it: the whole weight's without the gate's first columns. -/
theorem weight (A : FVec Ideal S1x2048x5664 .f32) (k : Fin 2048) (n : Fin 5632) :
    cat A (ix2 k n) = A (ix3 (0 : Fin 1) k (src n)) := by
  pointwise [cat]
  unfold src
  repeat' split
  all_goals first | omega | exact congrArg (fun q => A (ix3 (0 : Fin 1) k q)) (Fin.ext (by first | omega | (dsimp only; omega) | dsimp only))

/-- The gate's weight over the whole weight. -/
def catS (A : FVec Ideal S1x2048x5664 .f32) : FVec Ideal S2048x128 .bf16 :=
  truncf .bf16 (pad S2048x128 ![0, 0] ![0, 96] ![0, 0] (concatenate S2048x32 1 [⟨S2048x8, extractStridedSlice S2048x8 ![0, 3072] (shapeCast S2048x5664 A shapeCasts_S1x2048x5664_S2048x5664) slices_S2048x5664_S2048x8_0_3072⟩, ⟨S2048x24, extractStridedSlice S2048x24 ![0, 5640] (shapeCast S2048x5664 A shapeCasts_S1x2048x5664_S2048x5664) slices_S2048x5664_S2048x24_0_5640⟩] concatenates_S2048x8_S2048x24_S2048x32_d1) (sitofp .f32 (constantI S_ 32 0#32)) pads_S2048x32_S2048x128_000_0960 h_S_) bitsLt_bf16_f32

/-- The host operations leave that weight. -/
theorem V_catS (c : Dev nD) : V m c main_v21 = catS (m ((c : Thread nD τ).loc main_arg2)) := by
  simp only [V, hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results_simp <;> (try dsimp only [Matrix.cons_val]) <;> (try after_results_simp) <;> rfl

/-- The column of the whole weight that a column of the gate's weight is. -/
def srcS (n : Fin 32) : Fin 5664 := if h : n.val < 8 then ⟨3072 + n.val, by omega⟩ else ⟨5632 + n.val, by omega⟩

/-- An entry of it: the gate's columns of the whole weight, then zeros. -/
theorem weightS (A : FVec Ideal S1x2048x5664 .f32) (k : Fin 2048) (n : Fin 128) :
    catS A (ix2 k n) = if h : n.val < 32 then A (ix3 (0 : Fin 1) k (srcS ⟨n.val, h⟩)) else (0 : EReal) := by
  by_cases h : n.val < 32
  · rw [dif_pos h]
    pointwise [catS]
    rw [dif_pos h]
    unfold srcS
    repeat' split
    all_goals first | omega | exact congrArg (fun q => A (ix3 (0 : Fin 1) k q)) (Fin.ext (by first | omega | (dsimp only; omega) | dsimp only))
  · rw [dif_neg h]
    pointwise [catS]
    rw [dif_neg h]
    show (((0#32 : BitVec 32).toInt : ℝ) : EReal) = 0
    simp

/-- A row of gains, once for each of eight heads. -/
def tile8 (G : FVec Ideal S1x128 .f32) : FVec Ideal S1024 .f32 :=
  shapeCast S1024 (broadcastInDim S8x128 ![0, 1] bcast_S1x128_S8x128_0_1 (shapeCast S1x128 (shapeCast S128 G shapeCasts_S1x128_S128) shapeCasts_S128_S1x128)) shapeCasts_S8x128_S1024

/-- An entry of those. -/
theorem tile8_at (G : FVec Ideal S1x128 .f32) (k : Fin 1024) (d : Fin 128) (h : k.val % 128 = d.val) :
    tile8 G (ix1 k) = G (ix2 (0 : Fin 1) d) := by
  pointwise [tile8]
  exact congrArg (fun q => G (ix2 (0 : Fin 1) q)) (Fin.ext h)

/-- A row of gains, once for each of two heads. -/
def tile2 (G : FVec Ideal S1x128 .f32) : FVec Ideal S256 .f32 :=
  shapeCast S256 (broadcastInDim S2x128 ![0, 1] bcast_S1x128_S2x128_0_1 (shapeCast S1x128 (shapeCast S128 G shapeCasts_S1x128_S128) shapeCasts_S128_S1x128)) shapeCasts_S2x128_S256

/-- An entry of those. -/
theorem tile2_at (G : FVec Ideal S1x128 .f32) (k : Fin 256) (d : Fin 128) (h : k.val % 128 = d.val) :
    tile2 G (ix1 k) = G (ix2 (0 : Fin 1) d) := by
  pointwise [tile2]
  exact congrArg (fun q => G (ix2 (0 : Fin 1) q)) (Fin.ext h)

/-- The gains of the columns, over the four arrays of gains: each head's own where it has one, else ones. -/
def gains (G3 G4 G5 : FVec Ideal S1x128 .f32) (G6 : FVec Ideal S1x3x128 .f32) : FVec Ideal S1x5632 .f32 :=
  shapeCast S1x5632 (concatenate S5632 0
    [⟨S1024, tile8 G3⟩,
     ⟨S1024, tile8 G4⟩,
     ⟨S1024, broadcastInDim S1024 ![] bcast_S_S1024 (constant (F := Ideal) S_ .f32 0x3F800000#32)⟩,
     ⟨S1024, tile8 G5⟩,
     ⟨S512, broadcastInDim S512 ![] bcast_S_S512 (constant (F := Ideal) S_ .f32 0x3F800000#32)⟩,
     ⟨S256, tile2 (extractStridedSlice S1x128 ![1, 0] (shapeCast S3x128 G6 shapeCasts_S1x3x128_S3x128) slices_S3x128_S1x128_1_0)⟩,
     ⟨S256, broadcastInDim S256 ![] bcast_S_S256 (constant (F := Ideal) S_ .f32 0x3F800000#32)⟩,
     ⟨S256, tile2 (extractStridedSlice S1x128 ![2, 0] (shapeCast S3x128 G6 shapeCasts_S1x3x128_S3x128) slices_S3x128_S1x128_2_0)⟩,
     ⟨S256, broadcastInDim S256 ![] bcast_S_S256 (constant (F := Ideal) S_ .f32 0x3F800000#32)⟩]
    concatenates_S1024_S1024_S1024_S1024_S512_S256_S256_S256_S256_S5632_d0) shapeCasts_S5632_S1x5632

/-- The host operations leave those. -/
theorem V_gains (c : Dev nD) : V m c main_v55
    = gains (m ((c : Thread nD τ).loc main_arg3)) (m ((c : Thread nD τ).loc main_arg4)) (m ((c : Thread nD τ).loc main_arg5)) (m ((c : Thread nD τ).loc main_arg6)) := by
  simp only [V, hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results_simp <;> (try dsimp only [Matrix.cons_val]) <;> (try after_results_simp) <;> rfl

/-- The gain of a column: `d` is the column's place in its head. -/
def gain (G3 G4 G5 : FVec Ideal S1x128 .f32) (G6 : FVec Ideal S1x3x128 .f32) (n : Fin 5632) (d : Fin 128) : EReal :=
  if n.val < 1024 then G3 (ix2 (0 : Fin 1) d) else if n.val < 2048 then G4 (ix2 (0 : Fin 1) d) else if n.val < 3072 then 1
  else if n.val < 4096 then G5 (ix2 (0 : Fin 1) d) else if n.val < 4608 then 1
  else if n.val < 4864 then G6 (ix3 (0 : Fin 1) (1 : Fin 3) d) else if n.val < 5120 then 1
  else if n.val < 5376 then G6 (ix3 (0 : Fin 1) (2 : Fin 3) d) else 1

/-- An entry of the gains. -/
theorem gains_at (G3 G4 G5 : FVec Ideal S1x128 .f32) (G6 : FVec Ideal S1x3x128 .f32) (n : Fin 5632) (d : Fin 128) (h : n.val % 128 = d.val) :
    gains G3 G4 G5 G6 (ix2 (0 : Fin 1) n) = gain G3 G4 G5 G6 n d := by
  pointwise [gains]
  unfold gain
  by_cases h1024 : n.val < 1024
  · rw [dif_pos (by omega), if_pos h1024]
    exact tile8_at _ _ d (by dsimp only; omega)
  rw [dif_neg (by omega), if_neg h1024]
  by_cases h2048 : n.val < 2048
  · rw [dif_pos (by omega), if_pos h2048]
    exact tile8_at _ _ d (by dsimp only; omega)
  rw [dif_neg (by omega), if_neg h2048]
  by_cases h3072 : n.val < 3072
  · rw [dif_pos (by omega), if_pos h3072]
  rw [dif_neg (by omega), if_neg h3072]
  by_cases h4096 : n.val < 4096
  · rw [dif_pos (by omega), if_pos h4096]
    exact tile8_at _ _ d (by dsimp only; omega)
  rw [dif_neg (by omega), if_neg h4096]
  by_cases h4608 : n.val < 4608
  · rw [dif_pos (by omega), if_pos h4608]
  rw [dif_neg (by omega), if_neg h4608]
  by_cases h4864 : n.val < 4864
  · rw [dif_pos (by omega), if_pos h4864]
    rw [tile2_at _ _ d (by dsimp only; omega)]; pointwise
  rw [dif_neg (by omega), if_neg h4864]
  by_cases h5120 : n.val < 5120
  · rw [dif_pos (by omega), if_pos h5120]
  rw [dif_neg (by omega), if_neg h5120]
  by_cases h5376 : n.val < 5376
  · rw [dif_pos (by omega), if_pos h5376]
    rw [tile2_at _ _ d (by dsimp only; omega)]; pointwise
  rw [dif_neg (by omega), if_neg h5376]

/-- Whether a column's head is normalised: ones and zeros. -/
def flags : FVec Ideal S1x5632 .f32 :=
  shapeCast S1x5632 (concatenate S5632 0
    [⟨S2048, broadcastInDim S2048 ![] bcast_S_S2048 (constant (F := Ideal) S_ .f32 0x3F800000#32)⟩,
     ⟨S1024, broadcastInDim S1024 ![] bcast_S_S1024 (constant (F := Ideal) S_ .f32 0x00000000#32)⟩,
     ⟨S1024, broadcastInDim S1024 ![] bcast_S_S1024 (constant (F := Ideal) S_ .f32 0x3F800000#32)⟩,
     ⟨S512, broadcastInDim S512 ![] bcast_S_S512 (constant (F := Ideal) S_ .f32 0x00000000#32)⟩,
     ⟨S256, broadcastInDim S256 ![] bcast_S_S256 (constant (F := Ideal) S_ .f32 0x3F800000#32)⟩,
     ⟨S256, broadcastInDim S256 ![] bcast_S_S256 (constant (F := Ideal) S_ .f32 0x00000000#32)⟩,
     ⟨S256, broadcastInDim S256 ![] bcast_S_S256 (constant (F := Ideal) S_ .f32 0x3F800000#32)⟩,
     ⟨S256, broadcastInDim S256 ![] bcast_S_S256 (constant (F := Ideal) S_ .f32 0x00000000#32)⟩]
    concatenates_S2048_S1024_S1024_S512_S256_S256_S256_S256_S5632_d0) shapeCasts_S5632_S1x5632

/-- The host operations leave those. -/
theorem V_flags (c : Dev nD) : V m c main_v56 = flags := by
  simp only [V, hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results_simp <;> (try dsimp only [Matrix.cons_val]) <;> (try after_results_simp) <;> rfl

/-- Whether a column's head is normalised. -/
def flag (n : Fin 5632) : EReal :=
  if n.val < 2048 then 1 else if n.val < 3072 then 0 else if n.val < 4096 then 1 else if n.val < 4608 then 0
  else if n.val < 4864 then 1 else if n.val < 5120 then 0 else if n.val < 5376 then 1 else 0

/-- An entry of those. -/
theorem flags_at (n : Fin 5632) : flags (ix2 (0 : Fin 1) n) = flag n := by
  pointwise [flags]
  unfold flag
  repeat' split
  all_goals first | omega | rfl

/-- The input rows, one under the other. -/
def rows (X : FVec Ideal S4x2048x2048 .f32) : FVec Ideal S8192x2048 .f32 :=
  shapeCast S8192x2048 X shapeCasts_S4x2048x2048_S8192x2048

/-- An entry of them. -/
theorem rows_at (X : FVec Ideal S4x2048x2048 .f32) (b : Fin 4) (r : Fin 2048) (R : Fin 8192) (k : Fin 2048)
    (h : R.val = b.val * 2048 + r.val) : rows X (ix2 R k) = X (ix3 b r k) := by
  have e0 : (⟨R.val / 2048, by omega⟩ : Fin 4) = b := Fin.ext (by dsimp only; omega)
  have e1 : (⟨R.val % 2048, by omega⟩ : Fin 2048) = r := Fin.ext (by dsimp only; omega)
  pointwise [rows]
  rw [e0, e1]

/-- The host operations leave the input rows. -/
theorem V_rows (c : Dev nD) : V m c main_v57 = rows (m ((c : Thread nD τ).loc main_arg0)) := by
  simp only [V, hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results_simp <;> rfl

/-- Layer 0's row of the norm weights. -/
def nrow (N : FVec Ideal S2x2048 .f32) : FVec Ideal S1x2048 .f32 :=
  shapeCast S1x2048 (shapeCast S2048 (extractStridedSlice S1x2048 ![0, 0] N slices_S2x2048_S1x2048_0_0) shapeCasts_S1x2048_S2048) shapeCasts_S2048_S1x2048

/-- An entry of it. -/
theorem nrow_at (N : FVec Ideal S2x2048 .f32) (k : Fin 2048) : nrow N (ix2 (0 : Fin 1) k) = N (ix2 (0 : Fin 2) k) := by
  pointwise [nrow]

/-- The host operations leave layer 0's norm weight. -/
theorem V_norm (c : Dev nD) : V m c main_v60 = nrow (m ((c : Thread nD τ).loc main_arg1)) := by
  simp only [V, hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results_simp <;> rfl

/-- Two grid points of one run read the same block of the input rows. -/
theorem iblk0_eq (c : Dev nD) (t s : Fin cfg0.N) (h : t.val / 4 = s.val / 4) : iblk m c 0 t = iblk m c 0 s := by
  funext j
  blk_simp [iblk]
  congr 1
  blk_ext [idx t, idx s]

/-- Any two grid points read the same row of the norm weight. -/
theorem iblk1_eq (c : Dev nD) (t s : Fin cfg0.N) : iblk m c 1 t = iblk m c 1 s := by
  funext j
  blk_simp [iblk]
  congr 1
  blk_ext [idx t, idx s]

/-- Any two grid points read the same gate weight. -/
theorem iblk3_eq (c : Dev nD) (t s : Fin cfg0.N) : iblk m c 3 t = iblk m c 3 s := by
  funext j
  blk_simp [iblk]
  congr 1
  blk_ext [idx t, idx s]

end Cert.EvenProjIdeal.Val

end
-- ==== Proof.EvenHead.lean ====
module

public import proofs.«01_k».proof.Proof.EvenFrame
public import Idealize.ShloMosaic.Lib.Pipeline.ValueKit
public import Idealize.ShloMosaic.Lib.Pipeline.ReadBack

@[expose] public section

set_option maxRecDepth 16384

noncomputable section

namespace Cert.EvenProjIdeal.Val

open Idealize.ShloMosaic Idealize.ShloMosaic.TcCoe Idealize.SL.Sem
open Idealize.ShloMosaic.Pipeline (Dat)
open Cert.EvenProjIdeal Cert.EvenProjIdeal.Gen Cert.EvenProjIdeal.Hand

/-- One entry of a head: where the head is normalised (`f` is one) its root mean square divides it, then its gain. -/
def hv (z : Fin 128 → EReal) (f g : EReal) (d : Fin 128) : EReal :=
  z d * (f * Ideal.rsqrt (Ideal.div (∑ e : Fin 128, z e * z e) (Scalar.ofBits (F := Ideal) .f32 0x43000000#32) + Scalar.ofBits (F := Ideal) .f32 0x358637BD#32) + (1 - f)) * g

/-- A point's block of columns over its product, its flags and its gains. -/
def blk (Z : FVec Ideal S1024x1408 .f32) (f g : FVec Ideal S1x1408 .f32) : FVec Ideal S1024x1408 .f32 := fun y =>
  hv (fun e => Z (ix2 (y 0) (⟨(y 1).val / 128 * 128 + e.val, by have := (y 1).isLt; change (y 1).val < 1408 at this; omega⟩ : Fin 1408)))
    (f (ix2 (0 : Fin 1) (y 1))) (g (ix2 (0 : Fin 1) (y 1))) ⟨(y 1).val % 128, Nat.mod_lt _ (by omega)⟩

/-- One head of a point's block: its columns over their flags and gains. -/
def chain (u : FVec Ideal S1024x128 .f32) (f g : FVec Ideal S1x128 .f32) : FVec Ideal S1024x128 .f32 :=
  mulf (mulf u (addf (mulf (broadcastTo S1024x128 (shapeCast S1x128 f shapeCasts_S1x128_S1x128) broadcasts_S1x128_S1024x128)
        (broadcastTo S1024x128 (rsqrt (addf (divf (shapeCast S1024x1 (multiReduction .add [1] S1024 (mulf u u) 0x00000000#32 reduces_S1024x128_S1024 (.inl rfl) rfl) shapeCasts_S1024_S1024x1) (broadcast S1024x1 (Scalar.ofBits .f32 0x43000000#32))) (broadcast S1024x1 (Scalar.ofBits .f32 0x358637BD#32)))) broadcasts_S1024x1_S1024x128))
      (broadcastTo S1024x128 (subf (broadcast S1x128 (Scalar.ofBits .f32 0x3F800000#32)) (shapeCast S1x128 f shapeCasts_S1x128_S1x128)) broadcasts_S1x128_S1024x128)))
    (broadcastTo S1024x128 (shapeCast S1x128 g shapeCasts_S1x128_S1x128) broadcasts_S1x128_S1024x128)

/-- An entry of it. -/
theorem chain_at (u : FVec Ideal S1024x128 .f32) (f g : FVec Ideal S1x128 .f32) (r : Fin 1024) (d : Fin 128) :
    chain u f g (ix2 r d) = hv (fun e => u (ix2 r e)) (f (ix2 (0 : Fin 1) d)) (g (ix2 (0 : Fin 1) d)) d := by
  pointwise [chain, hv]

/-- The head at a column offset, cut out of the product, the flags and the gains, is the block's there. -/
theorem head_piece (Z : FVec Ideal S1024x1408 .f32) (f g : FVec Ideal S1x1408 .f32) (o : ℕ) (ho : o % 128 = 0)
    (hs : S1024x1408.Slices ![0, o] S1024x128) (hb : ∀ a, (![0, o] : Fin 2 → Nat) a + S1x128.size a ≤ S1x1408.size a) (x : S1024x128.Idx) (y : S1024x1408.Idx)
    (h0 : (y 0).val = 0 + (x 0).val) (h1 : (y 1).val = o + (x 1).val) :
    chain (extractStridedSlice S1024x128 ![0, o] Z hs) (View.ld (Val := Elt Ideal) (e' := .f32) (S := S1x1408) f (Rect.unit (s := S1x1408) ![0, o] S1x128.size hb)) (View.ld (Val := Elt Ideal) (e' := .f32) (S := S1x1408) g (Rect.unit (s := S1x1408) ![0, o] S1x128.size hb)) x
      = blk Z f g y := by
  obtain ⟨r, d, rfl⟩ : ∃ (r : Fin 1024) (d : Fin 128), x = ix2 r d := ⟨x 0, x 1, by funext a; match a with | 0 => rfl | 1 => rfl⟩
  obtain ⟨r', n, rfl⟩ : ∃ (r' : Fin 1024) (n : Fin 1408), y = ix2 r' n := ⟨y 0, y 1, by funext a; match a with | 0 => rfl | 1 => rfl⟩
  change r'.val = 0 + r.val at h0
  change n.val = o + d.val at h1
  obtain rfl : r' = r := Fin.ext (by omega)
  have hz : ∀ e : Fin 128, extractStridedSlice S1024x128 ![0, o] Z hs (ix2 r' e) = Z (ix2 r' (⟨n.val / 128 * 128 + e.val, by omega⟩ : Fin 1408)) := fun e =>
    congrArg Z (funext fun a => Fin.ext (match a with
      | 0 => by show 0 + r'.val = r'.val; omega
      | 1 => by show o + e.val = n.val / 128 * 128 + e.val; omega))
  have hl : ∀ f : FVec Ideal S1x1408 .f32, View.ld (Val := Elt Ideal) (e' := .f32) (S := S1x1408) f (Rect.unit (s := S1x1408) ![0, o] S1x128.size hb) (ix2 (0 : Fin 1) d) = f (ix2 (0 : Fin 1) n) := fun f =>
    View.ld_unit_apply_of (Val := Elt Ideal) (e := .f32) f _ _ _ _ _ (fun a => match a with
      | 0 => rfl
      | 1 => h1)
  have hd : d = (⟨n.val % 128, Nat.mod_lt _ (by omega)⟩ : Fin 128) := Fin.ext (by dsimp only; omega)
  rw [chain_at, hl f, hl g]
  simp only [hz]
  exact congrArg (hv (fun e => Z (ix2 r' (⟨n.val / 128 * 128 + e.val, by omega⟩ : Fin 1408))) (f (ix2 (0 : Fin 1) n)) (g (ix2 (0 : Fin 1) n))) hd

end Cert.EvenProjIdeal.Val

end
-- ==== Proof.EvenRef.lean ====
module

public import proofs.«01_k».proof.Proof.EvenArr
public import proofs.«01_k».proof.Proof.EvenHead
public import proofs.«01_k».proof.Proof.Gen.EvenProjRefIdeal.Run
public import Idealize.ShloMosaic.Lib.Pipeline.ValueKit
public import Idealize.ShloMosaic.Lib.Pipeline.ReadBack

@[expose] public section

set_option maxRecDepth 16384

noncomputable section

namespace Cert.EvenProjIdeal.Val

open Idealize.ShloMosaic Idealize.ShloMosaic.TcCoe Idealize.SL.Sem
open Idealize.ShloMosaic.Pipeline (Dat)
open Cert.EvenProjIdeal Cert.EvenProjIdeal.Gen Cert.EvenProjIdeal.Hand

/-- The reference's normalised rows: its RMS norm of the input under layer 0's norm weight. -/
def H (X : FVec Ideal Cert.EvenProjRefIdeal.S4x2048x2048 .f32) (N : FVec Ideal Cert.EvenProjRefIdeal.S2x2048 .f32) :
    FVec Ideal Cert.EvenProjRefIdeal.S4x2048x2048 .f32 :=
  mulf (mulf X (broadcastInDim Cert.EvenProjRefIdeal.S4x2048x2048 ![0, 1, 2] Cert.EvenProjRefIdeal.Gen.bcast_S4x2048x1_S4x2048x2048_0_1_2 (Host.rsqrt (addf (Host.divf (broadcastInDim Cert.EvenProjRefIdeal.S4x2048x1 ![0, 1] Cert.EvenProjRefIdeal.Gen.bcast_S4x2048_S4x2048x1_0_1 (Host.reduceAdd (mulf X X) (constant Cert.EvenProjRefIdeal.S_ .f32 0x00000000#32) Cert.EvenProjRefIdeal.Gen.reducesTo_S4x2048x2048_S4x2048_d2 Cert.EvenProjRefIdeal.Gen.h_S_)) (broadcastInDim Cert.EvenProjRefIdeal.S4x2048x1 ![] Cert.EvenProjRefIdeal.Gen.bcast_S_S4x2048x1 (constant Cert.EvenProjRefIdeal.S_ .f32 0x45000000#32))) (broadcastInDim Cert.EvenProjRefIdeal.S4x2048x1 ![] Cert.EvenProjRefIdeal.Gen.bcast_S_S4x2048x1 (constant Cert.EvenProjRefIdeal.S_ .f32 0x358637BD#32)))))) (broadcastInDim Cert.EvenProjRefIdeal.S4x2048x2048 ![0, 1, 2] Cert.EvenProjRefIdeal.Gen.bcast_S1x1x2048_S4x2048x2048_0_1_2 (broadcastInDim Cert.EvenProjRefIdeal.S1x1x2048 ![2] Cert.EvenProjRefIdeal.Gen.bcast_S2048_S1x1x2048_2 (shapeCast _ (extractStridedSlice Cert.EvenProjRefIdeal.S1x2048 ![0, 0] N Cert.EvenProjRefIdeal.Gen.slices_S2x2048_S1x2048_0_0) Cert.EvenProjRefIdeal.Gen.shapeCasts_S1x2048_S2048)))

/-- A matrix product of rows with the whole weight. -/
def D (G : FVec Ideal Cert.EvenProjRefIdeal.S4x2048x2048 .f32) (A : FVec Ideal Cert.EvenProjRefIdeal.S1x2048x5664 .f32) :
    FVec Ideal Cert.EvenProjRefIdeal.S4x2048x5664 .f32 :=
  Host.dotGeneral Cert.EvenProjRefIdeal.dot_S4x2048x2048_S2048x5664_S4x2048x5664_2_0_01_1_n_n none G (shapeCast _ A Cert.EvenProjRefIdeal.Gen.shapeCasts_S1x2048x5664_S2048x5664)

/-- A matrix product's entry as the sum over the contracted axis. -/
theorem D_at (G : FVec Ideal Cert.EvenProjRefIdeal.S4x2048x2048 .f32) (A : FVec Ideal Cert.EvenProjRefIdeal.S1x2048x5664 .f32)
    (b : Fin 4) (r : Fin 2048) (n : Fin 5664) :
    D G A (ix3 b r n) = ∑ k : Fin 2048, G (ix3 b r k) * A (ix3 (0 : Fin 1) k n) := by
  pointwise [D]

/-- The reference's norm of eight heads: each divided by its root mean square, then its gain. -/
def norm8 (E : FVec Ideal Cert.EvenProjRefIdeal.S4x2048x8x128 .f32) (g : FVec Ideal Cert.EvenProjRefIdeal.S128 .f32) : FVec Ideal Cert.EvenProjRefIdeal.S4x2048x8x128 .f32 :=
  mulf (mulf E (broadcastInDim Cert.EvenProjRefIdeal.S4x2048x8x128 ![0, 1, 2, 3] Cert.EvenProjRefIdeal.Gen.bcast_S4x2048x8x1_S4x2048x8x128_0_1_2_3 (Host.rsqrt (addf (Host.divf (broadcastInDim Cert.EvenProjRefIdeal.S4x2048x8x1 ![0, 1, 2] Cert.EvenProjRefIdeal.Gen.bcast_S4x2048x8_S4x2048x8x1_0_1_2 (Host.reduceAdd (mulf E E) (constant Cert.EvenProjRefIdeal.S_ .f32 0x00000000#32) Cert.EvenProjRefIdeal.Gen.reducesTo_S4x2048x8x128_S4x2048x8_d3 Cert.EvenProjRefIdeal.Gen.h_S_)) (broadcastInDim Cert.EvenProjRefIdeal.S4x2048x8x1 ![] Cert.EvenProjRefIdeal.Gen.bcast_S_S4x2048x8x1 (constant Cert.EvenProjRefIdeal.S_ .f32 0x43000000#32))) (broadcastInDim Cert.EvenProjRefIdeal.S4x2048x8x1 ![] Cert.EvenProjRefIdeal.Gen.bcast_S_S4x2048x8x1 (constant Cert.EvenProjRefIdeal.S_ .f32 0x358637BD#32))))))
    (broadcastInDim Cert.EvenProjRefIdeal.S4x2048x8x128 ![0, 1, 2, 3] Cert.EvenProjRefIdeal.Gen.bcast_S1x1x1x128_S4x2048x8x128_0_1_2_3 (broadcastInDim Cert.EvenProjRefIdeal.S1x1x1x128 ![3] Cert.EvenProjRefIdeal.Gen.bcast_S128_S1x1x1x128_3 g))

/-- An entry of it. -/
theorem norm8_at (E : FVec Ideal Cert.EvenProjRefIdeal.S4x2048x8x128 .f32) (g : FVec Ideal Cert.EvenProjRefIdeal.S128 .f32) (b : Fin 4) (r : Fin 2048) (h : Fin 8) (d : Fin 128) :
    norm8 E g (ix4 b r h d) = hv (fun e => E (ix4 b r h e)) 1 (g (ix1 d)) d := by
  unfold hv
  rw [EReal.sub_self (by decide) (by decide), add_zero, one_mul]
  pointwise [norm8]

/-- The reference's norm of two heads: each divided by its root mean square, then its gain. -/
def norm2 (E : FVec Ideal Cert.EvenProjRefIdeal.S4x2048x2x128 .f32) (g : FVec Ideal Cert.EvenProjRefIdeal.S128 .f32) : FVec Ideal Cert.EvenProjRefIdeal.S4x2048x2x128 .f32 :=
  mulf (mulf E (broadcastInDim Cert.EvenProjRefIdeal.S4x2048x2x128 ![0, 1, 2, 3] Cert.EvenProjRefIdeal.Gen.bcast_S4x2048x2x1_S4x2048x2x128_0_1_2_3 (Host.rsqrt (addf (Host.divf (broadcastInDim Cert.EvenProjRefIdeal.S4x2048x2x1 ![0, 1, 2] Cert.EvenProjRefIdeal.Gen.bcast_S4x2048x2_S4x2048x2x1_0_1_2 (Host.reduceAdd (mulf E E) (constant Cert.EvenProjRefIdeal.S_ .f32 0x00000000#32) Cert.EvenProjRefIdeal.Gen.reducesTo_S4x2048x2x128_S4x2048x2_d3 Cert.EvenProjRefIdeal.Gen.h_S_)) (broadcastInDim Cert.EvenProjRefIdeal.S4x2048x2x1 ![] Cert.EvenProjRefIdeal.Gen.bcast_S_S4x2048x2x1 (constant Cert.EvenProjRefIdeal.S_ .f32 0x43000000#32))) (broadcastInDim Cert.EvenProjRefIdeal.S4x2048x2x1 ![] Cert.EvenProjRefIdeal.Gen.bcast_S_S4x2048x2x1 (constant Cert.EvenProjRefIdeal.S_ .f32 0x358637BD#32))))))
    (broadcastInDim Cert.EvenProjRefIdeal.S4x2048x2x128 ![0, 1, 2, 3] Cert.EvenProjRefIdeal.Gen.bcast_S1x1x1x128_S4x2048x2x128_0_1_2_3 (broadcastInDim Cert.EvenProjRefIdeal.S1x1x1x128 ![3] Cert.EvenProjRefIdeal.Gen.bcast_S128_S1x1x1x128_3 g))

/-- An entry of it. -/
theorem norm2_at (E : FVec Ideal Cert.EvenProjRefIdeal.S4x2048x2x128 .f32) (g : FVec Ideal Cert.EvenProjRefIdeal.S128 .f32) (b : Fin 4) (r : Fin 2048) (h : Fin 2) (d : Fin 128) :
    norm2 E g (ix4 b r h d) = hv (fun e => E (ix4 b r h e)) 1 (g (ix1 d)) d := by
  unfold hv
  rw [EReal.sub_self (by decide) (by decide), add_zero, one_mul]
  pointwise [norm2]

/-- The reference's columns over its product and its gains: the heads side by side, those with gains normalised. -/
def heads (E : FVec Ideal Cert.EvenProjRefIdeal.S4x2048x5664 .f32) (G3 G4 G5 : FVec Ideal Cert.EvenProjRefIdeal.S1x128 .f32) (G6 : FVec Ideal Cert.EvenProjRefIdeal.S1x3x128 .f32) : FVec Ideal Cert.EvenProjRefIdeal.S8192x5632 .f32 :=
  shapeCast Cert.EvenProjRefIdeal.S8192x5632 (concatenate Cert.EvenProjRefIdeal.S4x2048x44x128 2
    [⟨Cert.EvenProjRefIdeal.S4x2048x8x128, norm8 (shapeCast Cert.EvenProjRefIdeal.S4x2048x8x128 (extractStridedSlice Cert.EvenProjRefIdeal.S4x2048x1024 ![0, 0, 0] E Cert.EvenProjRefIdeal.Gen.slices_S4x2048x5664_S4x2048x1024_0_0_0) Cert.EvenProjRefIdeal.Gen.shapeCasts_S4x2048x1024_S4x2048x8x128) (shapeCast Cert.EvenProjRefIdeal.S128 G3 Cert.EvenProjRefIdeal.Gen.shapeCasts_S1x128_S128)⟩,
     ⟨Cert.EvenProjRefIdeal.S4x2048x8x128, norm8 (shapeCast Cert.EvenProjRefIdeal.S4x2048x8x128 (extractStridedSlice Cert.EvenProjRefIdeal.S4x2048x1024 ![0, 0, 1024] E Cert.EvenProjRefIdeal.Gen.slices_S4x2048x5664_S4x2048x1024_0_0_1024) Cert.EvenProjRefIdeal.Gen.shapeCasts_S4x2048x1024_S4x2048x8x128) (shapeCast Cert.EvenProjRefIdeal.S128 G4 Cert.EvenProjRefIdeal.Gen.shapeCasts_S1x128_S128)⟩,
     ⟨Cert.EvenProjRefIdeal.S4x2048x8x128, shapeCast Cert.EvenProjRefIdeal.S4x2048x8x128 (extractStridedSlice Cert.EvenProjRefIdeal.S4x2048x1024 ![0, 0, 2048] E Cert.EvenProjRefIdeal.Gen.slices_S4x2048x5664_S4x2048x1024_0_0_2048) Cert.EvenProjRefIdeal.Gen.shapeCasts_S4x2048x1024_S4x2048x8x128⟩,
     ⟨Cert.EvenProjRefIdeal.S4x2048x8x128, norm8 (shapeCast Cert.EvenProjRefIdeal.S4x2048x8x128 (extractStridedSlice Cert.EvenProjRefIdeal.S4x2048x1024 ![0, 0, 3080] E Cert.EvenProjRefIdeal.Gen.slices_S4x2048x5664_S4x2048x1024_0_0_3080) Cert.EvenProjRefIdeal.Gen.shapeCasts_S4x2048x1024_S4x2048x8x128) (shapeCast Cert.EvenProjRefIdeal.S128 G5 Cert.EvenProjRefIdeal.Gen.shapeCasts_S1x128_S128)⟩,
     ⟨Cert.EvenProjRefIdeal.S4x2048x2x128, shapeCast Cert.EvenProjRefIdeal.S4x2048x2x128 (extractStridedSlice Cert.EvenProjRefIdeal.S4x2048x256 ![0, 0, 4104] E Cert.EvenProjRefIdeal.Gen.slices_S4x2048x5664_S4x2048x256_0_0_4104) Cert.EvenProjRefIdeal.Gen.shapeCasts_S4x2048x256_S4x2048x2x128⟩,
     ⟨Cert.EvenProjRefIdeal.S4x2048x2x128, shapeCast Cert.EvenProjRefIdeal.S4x2048x2x128 (extractStridedSlice Cert.EvenProjRefIdeal.S4x2048x256 ![0, 0, 4360] E Cert.EvenProjRefIdeal.Gen.slices_S4x2048x5664_S4x2048x256_0_0_4360) Cert.EvenProjRefIdeal.Gen.shapeCasts_S4x2048x256_S4x2048x2x128⟩,
     ⟨Cert.EvenProjRefIdeal.S4x2048x2x128, norm2 (shapeCast Cert.EvenProjRefIdeal.S4x2048x2x128 (extractStridedSlice Cert.EvenProjRefIdeal.S4x2048x256 ![0, 0, 4616] E Cert.EvenProjRefIdeal.Gen.slices_S4x2048x5664_S4x2048x256_0_0_4616) Cert.EvenProjRefIdeal.Gen.shapeCasts_S4x2048x256_S4x2048x2x128) (shapeCast Cert.EvenProjRefIdeal.S128 (extractStridedSlice Cert.EvenProjRefIdeal.S1x1x128 ![0, 1, 0] G6 Cert.EvenProjRefIdeal.Gen.slices_S1x3x128_S1x1x128_0_1_0) Cert.EvenProjRefIdeal.Gen.shapeCasts_S1x1x128_S128)⟩,
     ⟨Cert.EvenProjRefIdeal.S4x2048x2x128, shapeCast Cert.EvenProjRefIdeal.S4x2048x2x128 (extractStridedSlice Cert.EvenProjRefIdeal.S4x2048x256 ![0, 0, 4872] E Cert.EvenProjRefIdeal.Gen.slices_S4x2048x5664_S4x2048x256_0_0_4872) Cert.EvenProjRefIdeal.Gen.shapeCasts_S4x2048x256_S4x2048x2x128⟩,
     ⟨Cert.EvenProjRefIdeal.S4x2048x2x128, norm2 (shapeCast Cert.EvenProjRefIdeal.S4x2048x2x128 (extractStridedSlice Cert.EvenProjRefIdeal.S4x2048x256 ![0, 0, 5128] E Cert.EvenProjRefIdeal.Gen.slices_S4x2048x5664_S4x2048x256_0_0_5128) Cert.EvenProjRefIdeal.Gen.shapeCasts_S4x2048x256_S4x2048x2x128) (shapeCast Cert.EvenProjRefIdeal.S128 (extractStridedSlice Cert.EvenProjRefIdeal.S1x1x128 ![0, 2, 0] G6 Cert.EvenProjRefIdeal.Gen.slices_S1x3x128_S1x1x128_0_2_0) Cert.EvenProjRefIdeal.Gen.shapeCasts_S1x1x128_S128)⟩,
     ⟨Cert.EvenProjRefIdeal.S4x2048x2x128, shapeCast Cert.EvenProjRefIdeal.S4x2048x2x128 (extractStridedSlice Cert.EvenProjRefIdeal.S4x2048x256 ![0, 0, 5384] E Cert.EvenProjRefIdeal.Gen.slices_S4x2048x5664_S4x2048x256_0_0_5384) Cert.EvenProjRefIdeal.Gen.shapeCasts_S4x2048x256_S4x2048x2x128⟩]
    Cert.EvenProjRefIdeal.Gen.concatenates_S4x2048x8x128_S4x2048x8x128_S4x2048x8x128_S4x2048x8x128_S4x2048x2x128_S4x2048x2x128_S4x2048x2x128_S4x2048x2x128_S4x2048x2x128_S4x2048x2x128_S4x2048x44x128_d2) Cert.EvenProjRefIdeal.Gen.shapeCasts_S4x2048x44x128_S8192x5632

/-- The reference's main result over its argument arrays. -/
def REF6 (X : FVec Ideal Cert.EvenProjRefIdeal.S4x2048x2048 .f32) (N : FVec Ideal Cert.EvenProjRefIdeal.S2x2048 .f32) (A : FVec Ideal Cert.EvenProjRefIdeal.S1x2048x5664 .f32) (G3 G4 G5 : FVec Ideal Cert.EvenProjRefIdeal.S1x128 .f32) (G6 : FVec Ideal Cert.EvenProjRefIdeal.S1x3x128 .f32) : FVec Ideal Cert.EvenProjRefIdeal.S8192x5632 .f32 :=
  heads (D (H X N) A) G3 G4 G5 G6

/-- What the reference's run leaves in its main result. -/
theorem ref6 (m' : (ℓ : Loc Cert.EvenProjRefIdeal.nD Cert.EvenProjRefIdeal.τ Cert.EvenProjRefIdeal.sig) → Buf (Elt Ideal) ℓ) (c : Dev Cert.EvenProjRefIdeal.nD) :
    Cert.EvenProjRefIdeal.Value.res_main_v112 m' c = REF6 (m' ((c.tc : Thread Cert.EvenProjRefIdeal.nD Cert.EvenProjRefIdeal.τ).loc Cert.EvenProjRefIdeal.main_arg0)) (m' ((c.tc : Thread Cert.EvenProjRefIdeal.nD Cert.EvenProjRefIdeal.τ).loc Cert.EvenProjRefIdeal.main_arg1)) (m' ((c.tc : Thread Cert.EvenProjRefIdeal.nD Cert.EvenProjRefIdeal.τ).loc Cert.EvenProjRefIdeal.main_arg2)) (m' ((c.tc : Thread Cert.EvenProjRefIdeal.nD Cert.EvenProjRefIdeal.τ).loc Cert.EvenProjRefIdeal.main_arg3)) (m' ((c.tc : Thread Cert.EvenProjRefIdeal.nD Cert.EvenProjRefIdeal.τ).loc Cert.EvenProjRefIdeal.main_arg4)) (m' ((c.tc : Thread Cert.EvenProjRefIdeal.nD Cert.EvenProjRefIdeal.τ).loc Cert.EvenProjRefIdeal.main_arg5)) (m' ((c.tc : Thread Cert.EvenProjRefIdeal.nD Cert.EvenProjRefIdeal.τ).loc Cert.EvenProjRefIdeal.main_arg6)) := by
  unfold Cert.EvenProjRefIdeal.Value.res_main_v112
  rfl

/-- The source of a column before the gate's first columns, and after them. -/
theorem src_val (n : Fin 5632) : (src n).val = if n.val < 3072 then n.val else n.val + 8 := by
  unfold src
  split <;> rfl

/-- A head that is not normalised and has no gain is itself. -/
theorem hv_plain (z : Fin 128 → EReal) (d : Fin 128) : hv z 0 1 d = z d := by
  unfold hv
  rw [zero_mul, zero_add, sub_zero, mul_one, mul_one]

/-- An entry of eight heads cut out of the product and normalised. -/
theorem cut8_at (E : FVec Ideal Cert.EvenProjRefIdeal.S4x2048x5664 .f32) (o : ℕ) (hs : Cert.EvenProjRefIdeal.S4x2048x5664.Slices ![0, 0, o] Cert.EvenProjRefIdeal.S4x2048x1024) (g : FVec Ideal Cert.EvenProjRefIdeal.S128 .f32)
    (b : Fin 4) (r : Fin 2048) (h : Fin 8) (d : Fin 128) (i : Fin 128 → Fin 5664) (hi : ∀ e, (i e).val = o + (h.val * 128 + e.val)) (f y : EReal)
    (hf : f = 1) (hy : y = g (ix1 d)) :
    norm8 (shapeCast Cert.EvenProjRefIdeal.S4x2048x8x128 (extractStridedSlice Cert.EvenProjRefIdeal.S4x2048x1024 ![0, 0, o] E hs) Cert.EvenProjRefIdeal.Gen.shapeCasts_S4x2048x1024_S4x2048x8x128) g (ix4 b r h d)
      = hv (fun e => E (ix3 b r (i e))) f y d := by
  rw [norm8_at, hf, hy]
  refine congrArg (fun z => hv z 1 (g (ix1 d)) d) (funext fun e => ?_)
  pointwise
  exact congrArg (fun q => E (ix3 b r q)) (Fin.ext (hi e).symm)

/-- An entry of two heads cut out of the product and normalised. -/
theorem cut2_at (E : FVec Ideal Cert.EvenProjRefIdeal.S4x2048x5664 .f32) (o : ℕ) (hs : Cert.EvenProjRefIdeal.S4x2048x5664.Slices ![0, 0, o] Cert.EvenProjRefIdeal.S4x2048x256) (g : FVec Ideal Cert.EvenProjRefIdeal.S128 .f32)
    (b : Fin 4) (r : Fin 2048) (h : Fin 2) (d : Fin 128) (i : Fin 128 → Fin 5664) (hi : ∀ e, (i e).val = o + (h.val * 128 + e.val)) (f y : EReal)
    (hf : f = 1) (hy : y = g (ix1 d)) :
    norm2 (shapeCast Cert.EvenProjRefIdeal.S4x2048x2x128 (extractStridedSlice Cert.EvenProjRefIdeal.S4x2048x256 ![0, 0, o] E hs) Cert.EvenProjRefIdeal.Gen.shapeCasts_S4x2048x256_S4x2048x2x128) g (ix4 b r h d)
      = hv (fun e => E (ix3 b r (i e))) f y d := by
  rw [norm2_at, hf, hy]
  refine congrArg (fun z => hv z 1 (g (ix1 d)) d) (funext fun e => ?_)
  pointwise
  exact congrArg (fun q => E (ix3 b r q)) (Fin.ext (hi e).symm)

/-- An entry of a head that is not normalised. -/
theorem plain_at (E : FVec Ideal Cert.EvenProjRefIdeal.S4x2048x5664 .f32) (b : Fin 4) (r : Fin 2048) (i : Fin 5664) (n : Fin 5632)
    (G3 G4 G5 : FVec Ideal Cert.EvenProjRefIdeal.S1x128 .f32) (G6 : FVec Ideal Cert.EvenProjRefIdeal.S1x3x128 .f32) (hf : flag n = 0) (hg : gain G3 G4 G5 G6 n ⟨n.val % 128, by omega⟩ = 1)
    (hi : (src ⟨n.val / 128 * 128 + n.val % 128, by omega⟩).val = i.val) :
    E (ix3 b r i) = hv (fun e => E (ix3 b r (src ⟨n.val / 128 * 128 + e.val, by omega⟩)))
        (flag n) (gain G3 G4 G5 G6 n ⟨n.val % 128, by omega⟩) ⟨n.val % 128, by omega⟩ := by
  rw [hf, hg, hv_plain]
  exact congrArg (fun q => E (ix3 b r q)) (Fin.ext hi.symm)

set_option maxHeartbeats 4000000 in
/-- An entry of the columns: the head's entry with the column's flag and gain. -/
theorem heads_at (E : FVec Ideal Cert.EvenProjRefIdeal.S4x2048x5664 .f32) (G3 G4 G5 : FVec Ideal Cert.EvenProjRefIdeal.S1x128 .f32) (G6 : FVec Ideal Cert.EvenProjRefIdeal.S1x3x128 .f32) (R : Fin 8192) (n : Fin 5632) :
    heads E G3 G4 G5 G6 (ix2 R n)
      = hv (fun e => E (ix3 (⟨R.val / 2048, by omega⟩ : Fin 4) (⟨R.val % 2048, by omega⟩ : Fin 2048) (src ⟨n.val / 128 * 128 + e.val, by omega⟩)))
        (flag n) (gain G3 G4 G5 G6 n ⟨n.val % 128, by omega⟩) ⟨n.val % 128, by omega⟩ := by
  pointwise [heads]
  by_cases h8 : n.val < 1024
  · rw [dif_pos (by omega)]
    exact cut8_at E 0 _ _ _ _ _ _ _ (fun e => by rw [src_val]; dsimp only; split <;> omega) _ _ (by unfold flag; rw [if_pos (by omega)]) (by unfold gain; rw [if_pos (by omega)]; pointwise)
  rw [dif_neg (by omega)]
  by_cases h16 : n.val < 2048
  · rw [dif_pos (by omega)]
    exact cut8_at E 1024 _ _ _ _ _ _ _ (fun e => by rw [src_val]; dsimp only; split <;> omega) _ _ (by unfold flag; rw [if_pos (by omega)]) (by unfold gain; rw [if_neg (by omega), if_pos (by omega)]; pointwise)
  rw [dif_neg (by omega)]
  by_cases h24 : n.val < 3072
  · rw [dif_pos (by omega)]
    exact plain_at E _ _ _ n G3 G4 G5 G6 (by unfold flag; rw [if_neg (by omega), if_pos (by omega)]) (by unfold gain; rw [if_neg (by omega), if_neg (by omega), if_pos (by omega)]) (by rw [src_val]; dsimp only; split <;> omega)
  rw [dif_neg (by omega)]
  by_cases h32 : n.val < 4096
  · rw [dif_pos (by omega)]
    exact cut8_at E 3080 _ _ _ _ _ _ _ (fun e => by rw [src_val]; dsimp only; split <;> omega) _ _ (by unfold flag; rw [if_neg (by omega), if_neg (by omega), if_pos (by omega)]) (by unfold gain; rw [if_neg (by omega), if_neg (by omega), if_neg (by omega), if_pos (by omega)]; pointwise)
  rw [dif_neg (by omega)]
  by_cases h34 : n.val < 4352
  · rw [dif_pos (by omega)]
    exact plain_at E _ _ _ n G3 G4 G5 G6 (by unfold flag; rw [if_neg (by omega), if_neg (by omega), if_neg (by omega), if_pos (by omega)]) (by unfold gain; rw [if_neg (by omega), if_neg (by omega), if_neg (by omega), if_neg (by omega), if_pos (by omega)]) (by rw [src_val]; dsimp only; split <;> omega)
  rw [dif_neg (by omega)]
  by_cases h36 : n.val < 4608
  · rw [dif_pos (by omega)]
    exact plain_at E _ _ _ n G3 G4 G5 G6 (by unfold flag; rw [if_neg (by omega), if_neg (by omega), if_neg (by omega), if_pos (by omega)]) (by unfold gain; rw [if_neg (by omega), if_neg (by omega), if_neg (by omega), if_neg (by omega), if_pos (by omega)]) (by rw [src_val]; dsimp only; split <;> omega)
  rw [dif_neg (by omega)]
  by_cases h38 : n.val < 4864
  · rw [dif_pos (by omega)]
    exact cut2_at E 4616 _ _ _ _ _ _ _ (fun e => by rw [src_val]; dsimp only; split <;> omega) _ _ (by unfold flag; rw [if_neg (by omega), if_neg (by omega), if_neg (by omega), if_neg (by omega), if_pos (by omega)]) (by unfold gain; rw [if_neg (by omega), if_neg (by omega), if_neg (by omega), if_neg (by omega), if_neg (by omega), if_pos (by omega)]; pointwise)
  rw [dif_neg (by omega)]
  by_cases h40 : n.val < 5120
  · rw [dif_pos (by omega)]
    exact plain_at E _ _ _ n G3 G4 G5 G6 (by unfold flag; rw [if_neg (by omega), if_neg (by omega), if_neg (by omega), if_neg (by omega), if_neg (by omega), if_pos (by omega)]) (by unfold gain; rw [if_neg (by omega), if_neg (by omega), if_neg (by omega), if_neg (by omega), if_neg (by omega), if_neg (by omega), if_pos (by omega)]) (by rw [src_val]; dsimp only; split <;> omega)
  rw [dif_neg (by omega)]
  by_cases h42 : n.val < 5376
  · rw [dif_pos (by omega)]
    exact cut2_at E 5128 _ _ _ _ _ _ _ (fun e => by rw [src_val]; dsimp only; split <;> omega) _ _ (by unfold flag; rw [if_neg (by omega), if_neg (by omega), if_neg (by omega), if_neg (by omega), if_neg (by omega), if_neg (by omega), if_pos (by omega)]) (by unfold gain; rw [if_neg (by omega), if_neg (by omega), if_neg (by omega), if_neg (by omega), if_neg (by omega), if_neg (by omega), if_neg (by omega), if_pos (by omega)]; pointwise)
  rw [dif_neg (by omega)]
  exact plain_at E _ _ _ n G3 G4 G5 G6 (by unfold flag; rw [if_neg (by omega), if_neg (by omega), if_neg (by omega), if_neg (by omega), if_neg (by omega), if_neg (by omega), if_neg (by omega)]) (by unfold gain; rw [if_neg (by omega), if_neg (by omega), if_neg (by omega), if_neg (by omega), if_neg (by omega), if_neg (by omega), if_neg (by omega), if_neg (by omega)]) (by rw [src_val]; dsimp only; split <;> omega)

end Cert.EvenProjIdeal.Val

end
-- ==== Proof.EvenVal.lean ====
module

public import proofs.«01_k».proof.Proof.EvenRef
public import proofs.«01_k».proof.Proof.Gen.EvenProjRefIdeal.Run
public import Idealize.ShloMosaic.Lib.Pipeline.ValueKit
public import Idealize.ShloMosaic.Lib.Pipeline.ReadBack

@[expose] public section

set_option maxRecDepth 16384

noncomputable section

namespace Cert.EvenProjIdeal.Val

open Idealize.ShloMosaic Idealize.ShloMosaic.TcCoe Idealize.SL.Sem
open Idealize.ShloMosaic.Pipeline (Dat)
open Cert.EvenProjIdeal Cert.EvenProjIdeal.Gen Cert.EvenProjIdeal.Hand

variable (m : (ℓ : Loc nD τ sig) → Buf (Elt Ideal) ℓ)

/-- After any grid point the gate's block and the carried tile are those of that point's run. -/
theorem carried (c : Dev nD) : ∀ (n : ℕ) (h : n < cfg0.N),
    (outsAt0 m c n h).2.1 = k0_pay5 (iblk m c 0 ⟨n, h⟩) (iblk m c 1 ⟨n, h⟩) (iblk m c 3 ⟨n, h⟩)
      ∧ (outsAt0 m c n h).2.2 = k0_pay4 (iblk m c 0 ⟨n, h⟩) (iblk m c 1 ⟨n, h⟩) := by
  intro n
  induction n with
  | zero =>
    intro h
    rw [outsAt0_A m c ⟨0, h⟩ rfl]
    constructor <;> frame_out
  | succ n ih =>
    intro h
    by_cases h0 : (n + 1) % 4 = 0
    · rw [outsAt0_A m c ⟨n + 1, h⟩ h0]
      constructor <;> frame_out
    · have hn : n < cfg0.N := by omega
      rw [outsAt0_B m c ⟨n + 1, h⟩ h0, iblk0_eq m c ⟨n + 1, h⟩ ⟨n, hn⟩ (by show (n + 1) / 4 = n / 4; omega), iblk1_eq m c ⟨n + 1, h⟩ ⟨n, hn⟩, iblk3_eq m c ⟨n + 1, h⟩ ⟨n, hn⟩]
      exact ih hn

/-- An entry of a point's block of input rows. -/
theorem row_at (c : Dev nD) (t : Fin cfg0.N) (r : Fin 1024) (k : Fin 2048) (b : Fin 4) (r' : Fin 2048)
    (hb : b.val * 2048 + r'.val = t.val / 4 * 1024 + r.val) :
    iblk m c 0 t (ix2 r k) = m ((c : Thread nD τ).loc main_arg0) (ix3 b r' k) := by
  have e : iblk m c 0 t (ix2 r k) = V m c main_v57 (ix2 (⟨b.val * 2048 + r'.val, by omega⟩ : Fin 8192) k) := by
    blk_ext [iblk, idx t]
  rw [e, V_rows]
  exact rows_at _ b r' _ k rfl

/-- An entry of a point's norm weight. -/
theorem nrm_at (c : Dev nD) (t : Fin cfg0.N) (k : Fin 2048) :
    iblk m c 1 t (ix2 (0 : Fin 1) k) = m ((c : Thread nD τ).loc main_arg1) (ix2 (0 : Fin 2) k) := by
  have e : iblk m c 1 t (ix2 (0 : Fin 1) k) = V m c main_v60 (ix2 (0 : Fin 1) k) := by
    blk_ext [iblk, idx t]
  rw [e, V_norm]
  exact nrow_at _ k

/-- The normalised block a grid point's run carries, at an entry: the reference's normalised row there. -/
theorem norm_at (c : Dev nD) (t : Fin cfg0.N) (r : Fin 1024) (k : Fin 2048) (b : Fin 4) (r' : Fin 2048)
    (hb : b.val * 2048 + r'.val = t.val / 4 * 1024 + r.val) :
    k0_pay3 (iblk m c 0 t) (iblk m c 1 t) (ix2 r k)
      = H (m ((c : Thread nD τ).loc main_arg0)) (m ((c : Thread nD τ).loc main_arg1)) (ix3 b r' k) := by
  pointwise [k0_pay3, H]
  simp only [fun k => row_at m c t r k b r' hb, nrm_at m c t]

/-- The kernel's product as the sum over the contracted axis. -/
theorem prod_at (X : FVec Ideal S1024x2048 .f32) (N : FVec Ideal S1x2048 .f32) (W : FVec Ideal S2048x1408 .bf16) (r : Fin 1024) (j : Fin 1408) :
    k0_pay6 (F := Ideal) (k0_pay4 (F := Ideal) X N) W (ix2 r j) = ∑ k : Fin 2048, (k0_pay3 (F := Ideal) X N (ix2 r k) : EReal) * W (ix2 k j) := by
  pointwise [k0_pay6, k0_pay4]

/-- The kernel's product of the carried rows with its weight's tile: the reference's product there. -/
theorem dot (c : Dev nD) (t : Fin cfg0.N) (r : Fin 1024) (j : Fin 1408) (b : Fin 4) (r' : Fin 2048) (n : Fin 5632)
    (hb : b.val * 2048 + r'.val = t.val / 4 * 1024 + r.val) (hn : n.val = t.val % 4 * 1408 + j.val) :
    ∑ k : Fin 2048, k0_pay3 (iblk m c 0 t) (iblk m c 1 t) (ix2 r k) * iblk m c 2 t (ix2 k j)
      = D (H (m ((c : Thread nD τ).loc main_arg0)) (m ((c : Thread nD τ).loc main_arg1))) (m ((c : Thread nD τ).loc main_arg2)) (ix3 b r' (src n)) := by
  rw [D_at]
  refine Finset.sum_congr rfl fun k _ => ?_
  have e : iblk m c 2 t (ix2 k j) = V m c main_v18 (ix2 k n) := by
    blk_ext [iblk, idx t]
  rw [e, V_cat, weight]
  exact congrArg (fun x : EReal => x * _) (norm_at m c t r k b r' hb)

/-- The kernel's product of the normalised rows with the gate's weight: the reference's product there, then zeros. -/
theorem dotS (c : Dev nD) (t : Fin cfg0.N) (r : Fin 1024) (j : Fin 128) (b : Fin 4) (r' : Fin 2048)
    (hb : b.val * 2048 + r'.val = t.val / 4 * 1024 + r.val) :
    ∑ k : Fin 2048, k0_pay3 (iblk m c 0 t) (iblk m c 1 t) (ix2 r k) * iblk m c 3 t (ix2 k j)
      = if h : j.val < 32 then D (H (m ((c : Thread nD τ).loc main_arg0)) (m ((c : Thread nD τ).loc main_arg1))) (m ((c : Thread nD τ).loc main_arg2)) (ix3 b r' (srcS ⟨j.val, h⟩)) else (0 : EReal) := by
  have e : ∀ k : Fin 2048, iblk m c 3 t (ix2 k j) = V m c main_v21 (ix2 k j) := by
    intro k
    blk_ext [iblk, idx t]
  split
  case isTrue h =>
    rw [D_at]
    refine Finset.sum_congr rfl fun k _ => ?_
    rw [e, V_catS, weightS, dif_pos h, norm_at m c t r k b r' hb]
  case isFalse h =>
    refine Finset.sum_eq_zero fun k _ => ?_
    rw [e, V_catS, weightS, dif_neg h]
    exact mul_zero _

/-- The reference's gate columns over its product, then zeros. -/
def gate (E : FVec Ideal Cert.EvenProjRefIdeal.S4x2048x5664 .f32) : FVec Ideal Cert.EvenProjRefIdeal.S8192x128 .f32 :=
  shapeCast Cert.EvenProjRefIdeal.S8192x128 (pad Cert.EvenProjRefIdeal.S4x2048x128 ![0, 0, 0] ![0, 0, 96] ![0, 0, 0] (concatenate Cert.EvenProjRefIdeal.S4x2048x32 2 [⟨Cert.EvenProjRefIdeal.S4x2048x8, extractStridedSlice Cert.EvenProjRefIdeal.S4x2048x8 ![0, 0, 3072] E Cert.EvenProjRefIdeal.Gen.slices_S4x2048x5664_S4x2048x8_0_0_3072⟩, ⟨Cert.EvenProjRefIdeal.S4x2048x24, extractStridedSlice Cert.EvenProjRefIdeal.S4x2048x24 ![0, 0, 5640] E Cert.EvenProjRefIdeal.Gen.slices_S4x2048x5664_S4x2048x24_0_0_5640⟩] Cert.EvenProjRefIdeal.Gen.concatenates_S4x2048x8_S4x2048x24_S4x2048x32_d2) (sitofp .f32 (constantI Cert.EvenProjRefIdeal.S_ 32 0#32)) Cert.EvenProjRefIdeal.Gen.pads_S4x2048x32_S4x2048x128_000_000_0960 Cert.EvenProjRefIdeal.Gen.h_S_) Cert.EvenProjRefIdeal.Gen.shapeCasts_S4x2048x128_S8192x128

/-- An entry of them. -/
theorem gate_at (E : FVec Ideal Cert.EvenProjRefIdeal.S4x2048x5664 .f32) (R : Fin 8192) (j : Fin 128) :
    gate E (ix2 R j) = if h : j.val < 32 then E (ix3 (⟨R.val / 2048, by omega⟩ : Fin 4) (⟨R.val % 2048, by omega⟩ : Fin 2048) (srcS ⟨j.val, h⟩)) else (0 : EReal) := by
  by_cases h : j.val < 32
  · rw [dif_pos h]
    pointwise [gate]
    rw [dif_pos (by omega)]
    unfold srcS
    repeat' split
    all_goals first | omega | exact congrArg (fun q => E (ix3 (⟨R.val / 2048, by omega⟩ : Fin 4) (⟨R.val % 2048, by omega⟩ : Fin 2048) q)) (Fin.ext (by first | omega | (dsimp only; omega) | dsimp only))
  · rw [dif_neg h]
    pointwise [gate]
    refine (dif_neg (by omega)).trans ?_
    show (((0#32 : BitVec 32).toInt : ℝ) : EReal) = 0
    simp

/-- The reference's gate result over its argument arrays. -/
def REF7 (X : FVec Ideal Cert.EvenProjRefIdeal.S4x2048x2048 .f32) (N : FVec Ideal Cert.EvenProjRefIdeal.S2x2048 .f32) (A : FVec Ideal Cert.EvenProjRefIdeal.S1x2048x5664 .f32) (G3 G4 G5 : FVec Ideal Cert.EvenProjRefIdeal.S1x128 .f32) (G6 : FVec Ideal Cert.EvenProjRefIdeal.S1x3x128 .f32) : FVec Ideal Cert.EvenProjRefIdeal.S8192x128 .f32 :=
  gate (D (H X N) A)

/-- An entry of a point's flags. -/
theorem flag_at (c : Dev nD) (t : Fin cfg0.N) (j : Fin 1408) (n : Fin 5632) (hn : n.val = t.val % 4 * 1408 + j.val) :
    iblk m c 5 t (ix2 (0 : Fin 1) j) = flag n := by
  have e : iblk m c 5 t (ix2 (0 : Fin 1) j) = V m c main_v56 (ix2 (0 : Fin 1) n) := by
    blk_ext [iblk, idx t]
  rw [e, V_flags]
  exact flags_at n

/-- An entry of a point's gains. -/
theorem gain_at (c : Dev nD) (t : Fin cfg0.N) (j : Fin 1408) (n : Fin 5632) (hn : n.val = t.val % 4 * 1408 + j.val) :
    iblk m c 4 t (ix2 (0 : Fin 1) j) = gain (m ((c : Thread nD τ).loc main_arg3)) (m ((c : Thread nD τ).loc main_arg4)) (m ((c : Thread nD τ).loc main_arg5)) (m ((c : Thread nD τ).loc main_arg6)) n ⟨n.val % 128, by omega⟩ := by
  have e : iblk m c 4 t (ix2 (0 : Fin 1) j) = V m c main_v55 (ix2 (0 : Fin 1) n) := by
    blk_ext [iblk, idx t]
  rw [e, V_gains]
  exact gains_at _ _ _ _ n _ rfl

/-- The block of columns after any grid point: that point's heads over its product, its flags and its gains. -/
theorem columns (c : Dev nD) (t : Fin cfg0.N) : (outsAt0 m c t.val t.isLt).1
    = blk (k0_pay6 (k0_pay4 (iblk m c 0 t) (iblk m c 1 t)) (iblk m c 2 t)) (iblk m c 5 t) (iblk m c 4 t) := by
  by_cases h0 : t.val % 4 = 0
  · rw [outsAt0_A m c t h0]
    frame_out
    funext y
    canon_tiles x hx
    all_goals exact head_piece _ _ _ _ (by decide) (by decide) (by decide) _ _ (by omega) (by omega)
  · have hn : t.val - 1 < cfg0.N := Nat.lt_of_le_of_lt (Nat.sub_le _ _) t.isLt
    rw [outsAt0_B m c t h0]
    frame_out
    rw [(carried m c _ hn).2, read_unread_whole, iblk0_eq m c ⟨t.val - 1, hn⟩ t (by show (t.val - 1) / 4 = t.val / 4; omega), iblk1_eq m c ⟨t.val - 1, hn⟩ t]
    funext y
    canon_tiles x hx
    all_goals exact head_piece _ _ _ _ (by decide) (by decide) (by decide) _ _ (by omega) (by omega)

/-- The main result array: the reference's result of the seven arguments. -/
theorem final6 (c : Dev nD) : (dats m 0 c).arrAt 6 (cfgs 0).N
    = REF6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 6 _ (by decide +kernel) fun t hf y => ?_
  blk_simp
  rw [after0_6, columns]
  have e0 : (((View.whole main_v61_0).slice (win0_6.rect t)).emb y 0 : ℕ) = t.val / 4 * 1024 + (y 0).val := by blk_simp [idx t]
  have e1 : (((View.whole main_v61_0).slice (win0_6.rect t)).emb y 1 : ℕ) = t.val % 4 * 1408 + (y 1).val := by blk_simp [idx t]
  generalize ((View.whole main_v61_0).slice (win0_6.rect t)).emb y = z at e0 e1
  obtain ⟨R, n, rfl⟩ : ∃ (R : Fin 8192) (n : Fin 5632), z = ix2 R n := ⟨z 0, z 1, by funext d; match d with | 0 => rfl | 1 => rfl⟩
  obtain ⟨r, j, rfl⟩ : ∃ (r : Fin 1024) (j : Fin 1408), y = ix2 r j := ⟨y 0, y 1, by funext d; match d with | 0 => rfl | 1 => rfl⟩
  change R.val = t.val / 4 * 1024 + r.val at e0
  change n.val = t.val % 4 * 1408 + j.val at e1
  unfold REF6
  rw [heads_at]
  have hf5 := flag_at m c t j n e1
  have hf4 := gain_at m c t j n e1
  have hd : (⟨j.val % 128, by omega⟩ : Fin 128) = ⟨n.val % 128, by omega⟩ := Fin.ext (by dsimp only; omega)
  show hv (fun e => k0_pay6 (k0_pay4 (iblk m c 0 t) (iblk m c 1 t)) (iblk m c 2 t) (ix2 r (⟨j.val / 128 * 128 + e.val, by omega⟩ : Fin 1408)))
    (iblk m c 5 t (ix2 (0 : Fin 1) j)) (iblk m c 4 t (ix2 (0 : Fin 1) j)) ⟨j.val % 128, by omega⟩ = _
  rw [hf5, hf4, hd]
  refine congrArg (fun z => hv z _ _ _) (funext fun e => ?_)
  rw [prod_at]
  exact dot m c t r _ _ _ _ (by show _ / 2048 * 2048 + _ % 2048 = _; omega) (by dsimp only; omega)

/-- The gate's result array: the reference's gate result of the seven arguments. -/
theorem final7 (c : Dev nD) : (dats m 0 c).arrAt 7 (cfgs 0).N
    = REF7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  rw [after0_7, (carried m c _ t.isLt).1]
  have e0 : (((View.whole main_v61_1).slice (win0_7.rect t)).emb y 0 : ℕ) = t.val / 4 * 1024 + (y 0).val := by blk_simp [idx t]
  have e1 : (((View.whole main_v61_1).slice (win0_7.rect t)).emb y 1 : ℕ) = (y 1).val := by blk_simp [idx t]
  generalize ((View.whole main_v61_1).slice (win0_7.rect t)).emb y = z at e0 e1
  obtain ⟨R, n, rfl⟩ : ∃ (R : Fin 8192) (n : Fin 128), z = ix2 R n := ⟨z 0, z 1, by funext d; match d with | 0 => rfl | 1 => rfl⟩
  change R.val = _ at e0
  obtain ⟨r, j, rfl⟩ : ∃ (r : Fin 1024) (j : Fin 128), y = ix2 r j := ⟨y 0, y 1, by funext d; match d with | 0 => rfl | 1 => rfl⟩
  change R.val = t.val / 4 * 1024 + r.val at e0
  obtain rfl : n = j := Fin.ext e1
  unfold REF7
  rw [gate_at]
  pointwise [k0_pay5]
  exact dotS m c t r n _ _ (by show _ / 2048 * 2048 + _ % 2048 = _; omega)

end Cert.EvenProjIdeal.Val

end
-- ==== Proof.OddRun.lean ====
/- The run of the odd layer's projection kernel, one grid point at a time. -/
module

public import proofs.«01_k».proof.Proof.Gen.OddProjIdeal.Frame
public import proofs.«01_k».proof.Proof.Gen.OddProjIdeal.Skeleton

@[expose] public section

set_option maxRecDepth 16384

noncomputable section

namespace Cert.OddProjIdeal.Hand

open Cert.OddProjIdeal Cert.OddProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev cond0_0 (i : grid0.Coords) : Prop := (Scalar.cmpi .ne (Scalar.extui (Scalar.cmpi .eq (BitVec.ofNat 32 (i 1).val) 0#32)) 0#32) = 1#1
/-- The branch is taken at the first block of columns only. -/
theorem hcond0_0 : ∀ t : Fin cfg0.N, cond0_0 (grid0.coords t) ↔ t.val % 7 = 0 :=
  (fun t => by
    have ht : t.val < 56 := Nat.lt_of_lt_of_eq t.isLt N_0
    have e0 : (grid0.coords t 0).val = t.val / 7 % 8 := Pipeline.Grid.coords_val t 0 (by decide) rfl
    have e1 : (grid0.coords t 1).val = t.val / 1 % 7 := Pipeline.Grid.coords_val t 1 (by decide) rfl
    simp only [cond0_0, e0, e1]
    word_cmp
   : ∀ t : Fin grid0.N, cond0_0 (grid0.coords t) ↔ t.val % 7 = 0)

abbrev VO0_6 : View sig .tc .vmem S1024x1024 .f32 := (Memref.whole cc0_stg6_0 : Memref sig .tc .vmem S1024x1024 .f32).view
abbrev VO0_7 : View sig .tc .vmem S1024x128 .f32 := (Memref.whole cc0_stg7_0 : Memref sig .tc .vmem S1024x128 .f32).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x128 .f32 := win0_7.stage (cfg0.slots t 7)
abbrev hs0_7 (t : Fin cfg0.N) : (ms0_7 t).IsWhole := hstage0_7 ((cfg0.slots t 7).cast nbuf0_7)
abbrev scM0_0 : Memref sig .tc .vmem S1024x2048 .bf16 := Memref.whole cc0_scratch0
abbrev VS0_0 : View sig .tc .vmem S1024x2048 .bf16 := scM0_0.view

/-- The launch's invariant: the scratch at anything, and the generator. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 1000000 in
/-- The body at a point that computes the normed rows: what it stores, and its triple. -/
noncomputable def kernelRun0_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole) (arg10 : Memref sig .tc .vmem S1024x2048 .bf16) (harg10 : arg10.IsWhole) (hc0 : cond0_0 i)
    (x0 : Vec F S1024x2048 .f32) (x1 : Vec F S1x2048 .f32) (x2 : Vec F S2048x1024 .bf16) (x3 : Vec F S2048x128 .bf16) (x4 : Vec F S1x1024 .f32) (x5 : Vec F S1x1024 .f32) :
    Σ' (L6 : List (View.Piece (Elt F) S1024x1024 .f32)), Σ' (L7 : List (View.Piece (Elt F) S1024x128 .f32)), { LS0 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0__proj_body i arg2 harg2 arg3 harg3 arg4 harg4 arg5 harg5 arg6 harg6 arg7 harg7 arg8 harg8 arg9 harg9 arg10 harg10) K } := by
  refine ⟨?_, ?_, ?_, fun E K => ?run⟩
  case run =>
    simp only [cc0__proj_body_eq_skeleton]; unfold cc0__proj_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact HS0

set_option maxHeartbeats 1000000 in
/-- The body at any other point: the scratch and the gate block are kept, and only the columns are stored. -/
noncomputable def kernelRun0_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole) (arg10 : Memref sig .tc .vmem S1024x2048 .bf16) (harg10 : arg10.IsWhole) (hc0 : ¬cond0_0 i)
    (x0 : Vec F S1024x2048 .f32) (x1 : Vec F S1x2048 .f32) (x2 : Vec F S2048x1024 .bf16) (x3 : Vec F S2048x128 .bf16) (x4 : Vec F S1x1024 .f32) (x5 : Vec F S1x1024 .f32) (xo7 : Vec F S1024x128 .f32) (xs0 : Vec F S1024x2048 .bf16) :
    Σ' (L6 : List (View.Piece (Elt F) S1024x1024 .f32)), { LS0 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xo7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xo7 ∗ owns (c : Thread nD τ) arg10 fullShare xs0) -∗ K ⟨⟩))
          ⊢ wp frame (wpE (defs₀ (F := F)) Variants.none c none) E (cc0__proj_body i arg2 harg2 arg3 harg3 arg4 harg4 arg5 harg5 arg6 harg6 arg7 harg7 arg8 harg8 arg9 harg9 arg10 harg10) K } := by
  refine ⟨?_, [], fun E K => ?run⟩
  case run =>
    simp only [cc0__proj_body_eq_skeleton]; unfold cc0__proj_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    iexists _; isplitr; · ipureintro; exact harg10.read_unread _
    iexact HS0

end Cert.OddProjIdeal.Hand

end
-- ==== Proof.OddFrame.lean ====
/- The frame of the odd layer's projection: what its blocks hold point by point, and its run. -/
module

public import proofs.«01_k».proof.Proof.OddRun
public import Idealize.ShloMosaic.Lib.Claim

@[expose] public section

set_option maxRecDepth 16384

noncomputable section

namespace Cert.OddProjIdeal.Hand

open Cert.OddProjIdeal Cert.OddProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cover0_A_6 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole) (arg10 : Memref sig .tc .vmem S1024x2048 .bf16) (harg10 : arg10.IsWhole) (hc0 : cond0_0 i)
    (x0 : Vec F S1024x2048 .f32) (x1 : Vec F S1x2048 .f32) (x2 : Vec F S2048x1024 .bf16) (x3 : Vec F S2048x128 .bf16) (x4 : Vec F S1x1024 .f32) (x5 : Vec F S1x1024 .f32) (y : S1024x1024.Idx) :
    ∃ pc ∈ (kernelRun0_A c i arg2 harg2 arg3 harg3 arg4 harg4 arg5 harg5 arg6 harg6 arg7 harg7 arg8 harg8 arg9 harg9 arg10 harg10 hc0 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4 x5).1 S1024x1024.size (by sl_kernel_rfl) y

/-- The columns stored at a first point. -/
def out0_A_6 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole) (arg10 : Memref sig .tc .vmem S1024x2048 .bf16) (harg10 : arg10.IsWhole) (hc0 : cond0_0 i)
    (x0 : Vec F S1024x2048 .f32) (x1 : Vec F S1x2048 .f32) (x2 : Vec F S2048x1024 .bf16) (x3 : Vec F S2048x128 .bf16) (x4 : Vec F S1x1024 .f32) (x5 : Vec F S1x1024 .f32) : Vec F S1024x1024 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 x0 x1 x2 x3 x4 x5).1)

theorem cover0_A_7 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole) (arg10 : Memref sig .tc .vmem S1024x2048 .bf16) (harg10 : arg10.IsWhole) (hc0 : cond0_0 i)
    (x0 : Vec F S1024x2048 .f32) (x1 : Vec F S1x2048 .f32) (x2 : Vec F S2048x1024 .bf16) (x3 : Vec F S2048x128 .bf16) (x4 : Vec F S1x1024 .f32) (x5 : Vec F S1x1024 .f32) (y : S1024x128.Idx) :
    ∃ pc ∈ (kernelRun0_A c i arg2 harg2 arg3 harg3 arg4 harg4 arg5 harg5 arg6 harg6 arg7 harg7 arg8 harg8 arg9 harg9 arg10 harg10 hc0 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4 x5).2.1 S1024x128.size (by sl_kernel_rfl) y

/-- The gate block stored at a first point. -/
def out0_A_7 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole) (arg10 : Memref sig .tc .vmem S1024x2048 .bf16) (harg10 : arg10.IsWhole) (hc0 : cond0_0 i)
    (x0 : Vec F S1024x2048 .f32) (x1 : Vec F S1x2048 .f32) (x2 : Vec F S2048x1024 .bf16) (x3 : Vec F S2048x128 .bf16) (x4 : Vec F S1x1024 .f32) (x5 : Vec F S1x1024 .f32) : Vec F S1024x128 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 hc0 x0 x1 x2 x3 x4 x5).2.1)

theorem scover0_A_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole) (arg10 : Memref sig .tc .vmem S1024x2048 .bf16) (harg10 : arg10.IsWhole) (hc0 : cond0_0 i)
    (x0 : Vec F S1024x2048 .f32) (x1 : Vec F S1x2048 .f32) (x2 : Vec F S2048x1024 .bf16) (x3 : Vec F S2048x128 .bf16) (x4 : Vec F S1x1024 .f32) (x5 : Vec F S1x1024 .f32) (y : S1024x2048.Idx) :
    ∃ pc ∈ (kernelRun0_A c i arg2 harg2 arg3 harg3 arg4 harg4 arg5 harg5 arg6 harg6 arg7 harg7 arg8 harg8 arg9 harg9 arg10 harg10 hc0 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4 x5).2.2.1 S1024x2048.size (by sl_kernel_rfl) y

/-- The scratch stored at a first point. -/
def sout0_A_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole) (arg10 : Memref sig .tc .vmem S1024x2048 .bf16) (harg10 : arg10.IsWhole) (hc0 : cond0_0 i)
    (x0 : Vec F S1024x2048 .f32) (x1 : Vec F S1x2048 .f32) (x2 : Vec F S2048x1024 .bf16) (x3 : Vec F S2048x128 .bf16) (x4 : Vec F S1x1024 .f32) (x5 : Vec F S1x1024 .f32) : Vec F S1024x2048 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 x0 x1 x2 x3 x4 x5).2.2.1)

theorem cover0_B_6 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole) (arg10 : Memref sig .tc .vmem S1024x2048 .bf16) (harg10 : arg10.IsWhole) (hc0 : ¬cond0_0 i)
    (x0 : Vec F S1024x2048 .f32) (x1 : Vec F S1x2048 .f32) (x2 : Vec F S2048x1024 .bf16) (x3 : Vec F S2048x128 .bf16) (x4 : Vec F S1x1024 .f32) (x5 : Vec F S1x1024 .f32) (xo7 : Vec F S1024x128 .f32) (xs0 : Vec F S1024x2048 .bf16) (y : S1024x1024.Idx) :
    ∃ pc ∈ (kernelRun0_B c i arg2 harg2 arg3 harg3 arg4 harg4 arg5 harg5 arg6 harg6 arg7 harg7 arg8 harg8 arg9 harg9 arg10 harg10 hc0 x0 x1 x2 x3 x4 x5 xo7 xs0).1, y ∈ pc.1.set :=
  View.cover_of_tiledL (kernelRun0_B c i arg2 harg2 arg3 harg3 arg4 harg4 arg5 harg5 arg6 harg6 arg7 harg7 arg8 harg8 arg9 harg9 arg10 harg10 hc0 x0 x1 x2 x3 x4 x5 xo7 xs0).1 S1024x1024.size (by sl_kernel_rfl) y

/-- The columns stored at another point. -/
def out0_B_6 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole) (arg10 : Memref sig .tc .vmem S1024x2048 .bf16) (harg10 : arg10.IsWhole) (hc0 : ¬cond0_0 i)
    (x0 : Vec F S1024x2048 .f32) (x1 : Vec F S1x2048 .f32) (x2 : Vec F S2048x1024 .bf16) (x3 : Vec F S2048x128 .bf16) (x4 : Vec F S1x1024 .f32) (x5 : Vec F S1x1024 .f32) (xo7 : Vec F S1024x128 .f32) (xs0 : Vec F S1024x2048 .bf16) : Vec F S1024x1024 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 x0 x1 x2 x3 x4 x5 xo7 xs0).1)

/-- The gate block is kept. -/
def out0_B_7 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole) (arg10 : Memref sig .tc .vmem S1024x2048 .bf16) (harg10 : arg10.IsWhole) (hc0 : ¬cond0_0 i)
    (x0 : Vec F S1024x2048 .f32) (x1 : Vec F S1x2048 .f32) (x2 : Vec F S2048x1024 .bf16) (x3 : Vec F S2048x128 .bf16) (x4 : Vec F S1x1024 .f32) (x5 : Vec F S1x1024 .f32) (xo7 : Vec F S1024x128 .f32) (xs0 : Vec F S1024x2048 .bf16) : Vec F S1024x128 .f32 :=
  xo7

/-- The scratch is kept. -/
def sout0_B_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x128 .f32) (harg9 : arg9.IsWhole) (arg10 : Memref sig .tc .vmem S1024x2048 .bf16) (harg10 : arg10.IsWhole) (hc0 : ¬cond0_0 i)
    (x0 : Vec F S1024x2048 .f32) (x1 : Vec F S1x2048 .f32) (x2 : Vec F S2048x1024 .bf16) (x3 : Vec F S2048x128 .bf16) (x4 : Vec F S1x1024 .f32) (x5 : Vec F S1x1024 .f32) (xo7 : Vec F S1024x128 .f32) (xs0 : Vec F S1024x2048 .bf16) : Vec F S1024x2048 .bf16 := xs0

/-- What the two result blocks and the scratch hold after each point. -/
def outsAt0 (c : Dev nD) : (n : ℕ) → n < cfg0.N → Vec F S1024x1024 .f32 × Vec F S1024x128 .f32 × Vec F S1024x2048 .bf16
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 7 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2)

theorem outsAt0_A (c : Dev nD) (t : Fin cfg0.N) (h0 : t.val % 7 = 0) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans rfl

theorem outsAt0_B (c : Dev nD) (t : Fin cfg0.N) (h0 : ¬t.val % 7 = 0) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The invariant: before the first point the launch's, later the scratch as the point before left it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-- The proof data of the call. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
/-- The gate block's window stores nothing away from the first block of columns. -/
theorem idle7 (t : Fin cfg0.N) : cfg0.idle 7 (cfg0.grid.coords t) = !decide (t.val % 7 = 0) := by
  show (!(k0_cond1 (grid0.coords t) == 1#1)) = _
  congr 1
  rw [Bool.eq_iff_iff, beq_iff_eq, decide_eq_true_iff]
  exact hcond0_0 t

/-- It is not written back before the last block of columns. -/
theorem noFlush7 (n : ℕ) (hn : n < cfg0.N) (h0 : ¬(n + 1) % 7 = 0) : (cfg0.win 7).flush ⟨n, hn⟩ = false :=
  Bool.eq_false_iff.mpr fun h => by have := (flush0_7 _).mp h; dsimp only at this; omega

/-- So there its buffer still holds what the point before left. -/
theorem keep7 (c : Dev nD) : ∀ (n : ℕ) (hn : n < cfg0.N) (_ : ¬n % 7 = 0) (d),
    (dats m 0 c).before 7 ⟨n, hn⟩ d = (outsAt0 m c (n - 1) (Nat.lt_of_le_of_lt (Nat.sub_le _ _) hn)).2.1
  | 0, hn, h0, d => absurd (Nat.zero_mod _) h0
  | n + 1, hn, h0, d => by
      have hn' : n < cfg0.N := Nat.lt_of_succ_lt hn
      rw [Dat.before_of_pos _ 7 ⟨n + 1, hn⟩ (Nat.succ_ne_zero n) ((cfg0.win 7).fetch_out rfl _),
        show (cfg0.win 7).flush ⟨(⟨n + 1, hn⟩ : Fin cfg0.N).val - 1, Nat.lt_of_le_of_lt (Nat.sub_le _ _) hn⟩ = false from noFlush7 n hn' h0,
        if_neg Bool.false_ne_true]
      show Dat.left (dats m 0 c) 7 ⟨n, hn'⟩ d = _
      unfold Dat.left
      rw [idle7]
      by_cases h : n % 7 = 0
      · rw [decide_eq_true h]
        show Dat.kept (dats m 0 c) 7 ⟨n, hn'⟩ d = _
        unfold Dat.kept
        rw [Pipeline.fill_of_clip_none 7 _ (fun _ => rfl) d ((dats m 0 c).after 7 ⟨n, hn'⟩), Pipeline.Window.fill_cut]
        exact after0_7 m c ⟨n, hn'⟩
      · rw [decide_eq_false h]
        show (dats m 0 c).before 7 ⟨n, hn'⟩ d = _
        rw [keep7 c n hn' h d]
        show _ = (outsAt0 m c n hn').2.1
        rw [show outsAt0 m c n hn' = _ from outsAt0_B m c ⟨n, hn'⟩ h]
        rfl

/-- At a later block of columns the gate block is still what the point before left. -/
theorem before0_7_B (c : Dev nD) (t : Fin cfg0.N) (h0 : ¬t.val % 7 = 0) (d) :
    (dats m 0 c).before 7 t d = (outsAt0 m c (t.val - 1) (Nat.lt_of_le_of_lt (Nat.sub_le _ _) t.isLt)).2.1 :=
  keep7 m c t.val t.isLt h0 d

/-- What the body leaves in the gate block's buffer is what its obligation asks for. -/
theorem leaves7 (c : Dev nD) (t : Fin cfg0.N) :
    owns (c : Thread nD τ) (ms0_7 t) fullShare ((dats m 0 c).after 7 t) ⊢ ((dats m 0 c).leavesExact 7 t : sProp 𝕄) := by
  unfold Dat.leavesExact
  rw [idle7]
  by_cases h : t.val % 7 = 0
  · rw [decide_eq_true h]; exact .rfl
  · rw [decide_eq_false h]
    show _ ⊢ (match (cfg0.win 7).flush t with
      | false => iprop(∃ d, owns (c : Thread nD τ) ((cfg0.win 7).stage (cfg0.slots t 7)) fullShare ((dats m 0 c).before 7 t d))
      | true => owns (c : Thread nD τ) ((cfg0.win 7).stage (cfg0.slots t 7)) fullShare ((dats m 0 c).after 7 t) : sProp 𝕄)
    cases (cfg0.win 7).flush t
    · have e : ∀ d, (dats m 0 c).before 7 t d = (dats m 0 c).after 7 t := fun d => by
        rw [before0_7_B m c t h, after0_7, outsAt0_B m c t h]; rfl
      iintro H
      iexists ((dats m 0 c).after 7 t)
      rw [e]
      iexact H
    · exact .rfl

/-- What the body starts from. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What the body ends with. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 6400000 in
/-- The body's triple at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl, PhiS_succ]
  have hN : t.val < 56 := lt_of_lt_of_eq t.isLt (show cfg0.N = 56 from N_0)
  by_cases h0 : t.val % 7 = 0
  · by_cases hz : t.val = 0
    · rw [PhiS_castSucc m c t, PhiS_zero m c _ _ hz, PhiA0_eq]
      rw [outsAt0_A m c t h0]
      unfold out0_A_6 out0_A_7 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _ _)
    · rw [PhiS_castSucc m c t, PhiS_pos m c _ _ hz]
      rw [outsAt0_A m c t h0]
      unfold out0_A_6 out0_A_7 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexists _; iexact HS0
      iintro ⟨H0, H1, H2, H3, H4, H5, ⟨%e6, H6⟩, ⟨%e7, H7⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _ _)
  · by_cases hz : t.val = 0
    · exfalso; have hN : t.val < 56 := lt_of_lt_of_eq t.isLt (show cfg0.N = 56 from N_0); omega
    · rw [PhiS_castSucc m c t, PhiS_pos m c _ _ hz]
      rw [outsAt0_B m c t h0]
      simp only [before0_7_B m c t h0]
      unfold out0_B_6 out0_B_7 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) _ _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, ⟨%e6, H6⟩, H7, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _)
      iexact H7

theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ =>
    sep_mono .rfl (sep_mono .rfl (sep_mono .rfl (sep_mono .rfl (sep_mono .rfl (sep_mono .rfl (sep_mono .rfl (sep_mono .rfl
      (sep_mono .rfl (leaves7 m c t)))))))))

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 56 := N_0; omega)

set_option backward.isDefEq.respectTransparency.types false in
/-- The call's run, with the semaphores back at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The call's run. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they started. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the arguments unchanged and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

theorem post6 (r : PUnit × MemSt nD τ sig (Elt F)) (h : Pipeline.FramePost cfgs (dats m) 0 (V m) r) (c : Dev nD) :
    r.2.mem ((c : Thread nD τ).loc main_v23_0) = (dats m 0 c).arrAt 6 cfg0.N :=
  (h c).1 6

theorem post7 (r : PUnit × MemSt nD τ sig (Elt F)) (h : Pipeline.FramePost cfgs (dats m) 0 (V m) r) (c : Dev nD) :
    r.2.mem ((c : Thread nD τ).loc main_v23_1) = (dats m 0 c).arrAt 7 cfg0.N :=
  (h c).1 7

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The run, with each result as the blocks its points wrote. -/
theorem run_blocks : θ_run defs (onTc (τ := τ) (main (F := F))) ⟨m, fun _ => 0, ρ⟩ fun r => ∀ c : Dev nD,
      r.2.mem ((c : Thread nD τ).loc main_v23_0) = (dats m 0 c).arrAt 6 cfg0.N
      ∧ r.2.mem ((c : Thread nD τ).loc main_v23_1) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post6 m r h c,
      post7 m r h c,
      kept_main_arg0 m r h c,
      kept_main_arg1 m r h c,
      kept_main_arg2 m r h c⟩)
    (run_main m ρ)

end Cert.OddProjIdeal.Hand

end
-- ==== Proof.OddWords.lean ====
/- The frame of the odd layer's projection over words, from the run over any floats: the two programs have one text. -/
module

public import proofs.«01_k».proof.Defs
public import proofs.«01_k».proof.Proof.OddFrame
public import proofs.«01_k».proof.Proof.Gen.OddProj

@[expose] public section

set_option maxRecDepth 16384

noncomputable section

namespace Cert.OddProj.Hand

open Idealize.ShloMosaic Idealize.SL.Sem

variable {F : FTy → Type} [FloatOps F]

/-- One body table. -/
theorem body_table : (Cert.OddProj.defs₀ (F := F)) = Cert.OddProjIdeal.defs₀ (F := F) := by
  unfold Cert.OddProj.defs₀ Cert.OddProjIdeal.defs₀
  congr 1
  funext l a
  match l, a with
  | 0, (t, s) => rfl

/-- One table of the calls. -/
theorem table : (Cert.OddProj.defs (F := F)) = Cert.OddProjIdeal.defs (F := F) :=
  congrArg (Idealize.ShloMosaic.Pipeline.defs (Cert.OddProjIdeal.pcfgs (F := F))) body_table

/-- The frame over words. -/
theorem frame_words : Cert.quiescent_OddProj := fun m ρ _ => by
  have h := Cert.OddProjIdeal.Hand.frame (F := Bits) m ρ
  rw [← table] at h
  exact (θ_run _ _ _).mono (fun _ h => h) h

end Cert.OddProj.Hand

end
-- ==== Proof.OddVal.lean ====
module

public import proofs.«01_k».proof.Proof.OddFrame
public import proofs.«01_k».proof.Proof.Gen.OddProjRefIdeal.Run
public import Idealize.ShloMosaic.Lib.Pipeline.ValueKit
public import Idealize.ShloMosaic.Lib.Pipeline.ReadBack

@[expose] public section

set_option maxRecDepth 16384

noncomputable section

namespace Cert.OddProjIdeal.Val

open Idealize.ShloMosaic Idealize.ShloMosaic.TcCoe Idealize.SL.Sem
open Idealize.ShloMosaic.Pipeline (Dat)
open Cert.OddProjIdeal Cert.OddProjIdeal.Gen Cert.OddProjIdeal.Hand

variable (m : (ℓ : Loc nD τ sig) → Buf (Elt Ideal) ℓ)

/-- The block index of every window at every grid point. -/
theorem idx : ∀ t : Fin cfg0.N, win0_0.index t = ![t.val / 7, 0] ∧ win0_1.index t = ![0, 0]
    ∧ win0_2.index t = ![0, t.val % 7] ∧ win0_3.index t = ![0, 0]
    ∧ win0_4.index t = ![0, t.val % 7] ∧ win0_6.index t = ![t.val / 7, t.val % 7] ∧ win0_7.index t = ![t.val / 7, 0] :=
  (by decide +kernel : ∀ t : Fin grid0.N, _)

/-- The column of the whole weight that a column of the kernel's weight is. -/
def src (n : Fin 7168) : Fin 7184 := if h : n.val < 2048 then ⟨n.val, by omega⟩ else ⟨n.val + 16, by omega⟩

/-- The kernel's weight over the whole weight: its column pieces side by side. -/
def cat (A : FVec Ideal S1x2048x7184 .f32) : FVec Ideal S2048x7168 .bf16 :=
  truncf .bf16 (concatenate S2048x7168 1
    [⟨S2048x512, extractStridedSlice S2048x512 ![0, 0] (shapeCast S2048x7184 A shapeCasts_S1x2048x7184_S2048x7184) slices_S2048x7184_S2048x512_0_0⟩,
     ⟨S2048x512, extractStridedSlice S2048x512 ![0, 512] (shapeCast S2048x7184 A shapeCasts_S1x2048x7184_S2048x7184) slices_S2048x7184_S2048x512_0_512⟩,
     ⟨S2048x1024, extractStridedSlice S2048x1024 ![0, 1024] (shapeCast S2048x7184 A shapeCasts_S1x2048x7184_S2048x7184) slices_S2048x7184_S2048x1024_0_1024⟩,
     ⟨S2048x1024, extractStridedSlice S2048x1024 ![0, 2064] (shapeCast S2048x7184 A shapeCasts_S1x2048x7184_S2048x7184) slices_S2048x7184_S2048x1024_0_2064⟩,
     ⟨S2048x1024, extractStridedSlice S2048x1024 ![0, 3088] (shapeCast S2048x7184 A shapeCasts_S1x2048x7184_S2048x7184) slices_S2048x7184_S2048x1024_0_3088⟩,
     ⟨S2048x1024, extractStridedSlice S2048x1024 ![0, 4112] (shapeCast S2048x7184 A shapeCasts_S1x2048x7184_S2048x7184) slices_S2048x7184_S2048x1024_0_4112⟩,
     ⟨S2048x1024, extractStridedSlice S2048x1024 ![0, 5136] (shapeCast S2048x7184 A shapeCasts_S1x2048x7184_S2048x7184) slices_S2048x7184_S2048x1024_0_5136⟩,
     ⟨S2048x1024, extractStridedSlice S2048x1024 ![0, 6160] (shapeCast S2048x7184 A shapeCasts_S1x2048x7184_S2048x7184) slices_S2048x7184_S2048x1024_0_6160⟩]
    concatenates_S2048x512_S2048x512_S2048x1024_S2048x1024_S2048x1024_S2048x1024_S2048x1024_S2048x1024_S2048x7168_d1) bitsLt_bf16_f32

/-- The host operations leave that weight. -/
theorem V_cat (c : Dev nD) : V m c main_v11 = cat (m ((c : Thread nD τ).loc main_arg2)) := by
  simp only [V, hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results_simp <;> (try dsimp only [Matrix.cons_val]) <;> (try after_results_simp) <;> rfl

/-- An entry of it: the whole weight's without the gate's columns. -/
theorem weight (A : FVec Ideal S1x2048x7184 .f32) (k : Fin 2048) (n : Fin 7168) :
    cat A (ix2 k n) = A (ix3 (0 : Fin 1) k (src n)) := by
  pointwise [cat]
  unfold src
  repeat' split
  all_goals first | omega | exact congrArg (fun q => A (ix3 (0 : Fin 1) k q)) (Fin.ext (by first | omega | (dsimp only; omega) | dsimp only))

/-- The gate's weight over the whole weight. -/
def catS (A : FVec Ideal S1x2048x7184 .f32) : FVec Ideal S2048x128 .bf16 :=
  truncf .bf16 (pad S2048x128 ![0, 0] ![0, 112] ![0, 0] (extractStridedSlice S2048x16 ![0, 2048] (shapeCast S2048x7184 A shapeCasts_S1x2048x7184_S2048x7184) slices_S2048x7184_S2048x16_0_2048) (sitofp .f32 (constantI S_ 32 0#32)) pads_S2048x16_S2048x128_000_01120 h_S_) bitsLt_bf16_f32

/-- The host operations leave that weight. -/
theorem V_catS (c : Dev nD) : V m c main_v13 = catS (m ((c : Thread nD τ).loc main_arg2)) := by
  simp only [V, hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results_simp <;> rfl

/-- An entry of it: a gate column of the whole weight, then zeros. -/
theorem weightS (A : FVec Ideal S1x2048x7184 .f32) (k : Fin 2048) (n : Fin 128) :
    catS A (ix2 k n) = if h : n.val < 16 then A (ix3 (0 : Fin 1) k (⟨2048 + n.val, by omega⟩ : Fin 7184)) else (0 : EReal) := by
  pointwise [catS]
  split
  · rfl
  · show (((0#32 : BitVec 32).toInt : ℝ) : EReal) = 0
    simp

/-- The columns' factors. -/
def facs : FVec Ideal S1x7168 .f32 :=
  shapeCast S1x7168 (concatenate S7168 0 [⟨S512, broadcastInDim S512 ![] bcast_S_S512 (constant (F := Ideal) S_ .f32 0x3DB504F3#32)⟩, ⟨S6656, broadcastInDim S6656 ![] bcast_S_S6656 (constant (F := Ideal) S_ .f32 0x3F800000#32)⟩] concatenates_S512_S6656_S7168_d0) shapeCasts_S7168_S1x7168

/-- The host operations leave those. -/
theorem V_facs (c : Dev nD) : V m c main_v17 = facs := by
  simp only [V, hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results_simp <;> rfl

/-- An entry of them. -/
theorem fac_at (n : Fin 7168) :
    facs (ix2 (0 : Fin 1) n) = if n.val < 512 then Scalar.ofBits (F := Ideal) .f32 0x3DB504F3#32 else 1 := by
  pointwise [facs]
  split <;> rfl

/-- The input rows, one under the other. -/
def rows (X : FVec Ideal S4x2048x2048 .f32) : FVec Ideal S8192x2048 .f32 :=
  shapeCast S8192x2048 X shapeCasts_S4x2048x2048_S8192x2048

/-- An entry of them. -/
theorem rows_at (X : FVec Ideal S4x2048x2048 .f32) (b : Fin 4) (r : Fin 2048) (R : Fin 8192) (k : Fin 2048)
    (h : R.val = b.val * 2048 + r.val) : rows X (ix2 R k) = X (ix3 b r k) := by
  have e0 : (⟨R.val / 2048, by omega⟩ : Fin 4) = b := Fin.ext (by dsimp only; omega)
  have e1 : (⟨R.val % 2048, by omega⟩ : Fin 2048) = r := Fin.ext (by dsimp only; omega)
  pointwise [rows]
  rw [e0, e1]

/-- The host operations leave the input rows. -/
theorem V_rows (c : Dev nD) : V m c main_v19 = rows (m ((c : Thread nD τ).loc main_arg0)) := by
  simp only [V, hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results_simp <;> rfl

/-- Layer 1's row of the norm weights. -/
def nrow (N : FVec Ideal S2x2048 .f32) : FVec Ideal S1x2048 .f32 :=
  shapeCast S1x2048 (shapeCast S2048 (extractStridedSlice S1x2048 ![1, 0] N slices_S2x2048_S1x2048_1_0) shapeCasts_S1x2048_S2048) shapeCasts_S2048_S1x2048

/-- An entry of it. -/
theorem nrow_at (N : FVec Ideal S2x2048 .f32) (k : Fin 2048) : nrow N (ix2 (0 : Fin 1) k) = N (ix2 (1 : Fin 2) k) := by
  pointwise [nrow]

/-- The host operations leave layer 1's norm weight. -/
theorem V_norm (c : Dev nD) : V m c main_v22 = nrow (m ((c : Thread nD τ).loc main_arg1)) := by
  simp only [V, hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results_simp <;> rfl

/-- Two grid points of one run read the same block of the input rows. -/
theorem iblk0_eq (c : Dev nD) (t s : Fin cfg0.N) (h : t.val / 7 = s.val / 7) : iblk m c 0 t = iblk m c 0 s := by
  funext j
  blk_simp [iblk]
  congr 1
  blk_ext [idx t, idx s]

/-- Any two grid points read the same row of the norm weight. -/
theorem iblk1_eq (c : Dev nD) (t s : Fin cfg0.N) : iblk m c 1 t = iblk m c 1 s := by
  funext j
  blk_simp [iblk]
  congr 1
  blk_ext [idx t, idx s]

/-- Any two grid points read the same gate weight. -/
theorem iblk3_eq (c : Dev nD) (t s : Fin cfg0.N) : iblk m c 3 t = iblk m c 3 s := by
  funext j
  blk_simp [iblk]
  congr 1
  blk_ext [idx t, idx s]

/-- After any grid point the gate's block and the carried tile are those of that point's run. -/
theorem carried (c : Dev nD) : ∀ (n : ℕ) (h : n < cfg0.N),
    (outsAt0 m c n h).2.1 = k0_pay3 (iblk m c 0 ⟨n, h⟩) (iblk m c 1 ⟨n, h⟩) (iblk m c 3 ⟨n, h⟩)
      ∧ (outsAt0 m c n h).2.2 = k0_pay2 (iblk m c 0 ⟨n, h⟩) (iblk m c 1 ⟨n, h⟩) := by
  intro n
  induction n with
  | zero =>
    intro h
    rw [outsAt0_A m c ⟨0, h⟩ rfl]
    constructor <;> frame_out
  | succ n ih =>
    intro h
    by_cases h0 : (n + 1) % 7 = 0
    · rw [outsAt0_A m c ⟨n + 1, h⟩ h0]
      constructor <;> frame_out
    · have hn : n < cfg0.N := by omega
      rw [outsAt0_B m c ⟨n + 1, h⟩ h0, iblk0_eq m c ⟨n + 1, h⟩ ⟨n, hn⟩ (by show (n + 1) / 7 = n / 7; omega), iblk1_eq m c ⟨n + 1, h⟩ ⟨n, hn⟩, iblk3_eq m c ⟨n + 1, h⟩ ⟨n, hn⟩]
      exact ih hn

/-- The reference's normalised rows: its RMS norm of the input under layer 1's norm weight. -/
def H (X : FVec Ideal Cert.OddProjRefIdeal.S4x2048x2048 .f32) (N : FVec Ideal Cert.OddProjRefIdeal.S2x2048 .f32) :
    FVec Ideal Cert.OddProjRefIdeal.S4x2048x2048 .f32 :=
  mulf (mulf X (broadcastInDim Cert.OddProjRefIdeal.S4x2048x2048 ![0, 1, 2] Cert.OddProjRefIdeal.Gen.bcast_S4x2048x1_S4x2048x2048_0_1_2 (Host.rsqrt (addf (Host.divf (broadcastInDim Cert.OddProjRefIdeal.S4x2048x1 ![0, 1] Cert.OddProjRefIdeal.Gen.bcast_S4x2048_S4x2048x1_0_1 (Host.reduceAdd (mulf X X) (constant Cert.OddProjRefIdeal.S_ .f32 0x00000000#32) Cert.OddProjRefIdeal.Gen.reducesTo_S4x2048x2048_S4x2048_d2 Cert.OddProjRefIdeal.Gen.h_S_)) (broadcastInDim Cert.OddProjRefIdeal.S4x2048x1 ![] Cert.OddProjRefIdeal.Gen.bcast_S_S4x2048x1 (constant Cert.OddProjRefIdeal.S_ .f32 0x45000000#32))) (broadcastInDim Cert.OddProjRefIdeal.S4x2048x1 ![] Cert.OddProjRefIdeal.Gen.bcast_S_S4x2048x1 (constant Cert.OddProjRefIdeal.S_ .f32 0x358637BD#32)))))) (broadcastInDim Cert.OddProjRefIdeal.S4x2048x2048 ![0, 1, 2] Cert.OddProjRefIdeal.Gen.bcast_S1x1x2048_S4x2048x2048_0_1_2 (broadcastInDim Cert.OddProjRefIdeal.S1x1x2048 ![2] Cert.OddProjRefIdeal.Gen.bcast_S2048_S1x1x2048_2 (shapeCast _ (extractStridedSlice Cert.OddProjRefIdeal.S1x2048 ![1, 0] N Cert.OddProjRefIdeal.Gen.slices_S2x2048_S1x2048_1_0) Cert.OddProjRefIdeal.Gen.shapeCasts_S1x2048_S2048)))

/-- An entry of a point's block of input rows. -/
theorem row_at (c : Dev nD) (t : Fin cfg0.N) (r : Fin 1024) (k : Fin 2048) (b : Fin 4) (r' : Fin 2048)
    (hb : b.val * 2048 + r'.val = t.val / 7 * 1024 + r.val) :
    iblk m c 0 t (ix2 r k) = m ((c : Thread nD τ).loc main_arg0) (ix3 b r' k) := by
  have e : iblk m c 0 t (ix2 r k) = V m c main_v19 (ix2 (⟨b.val * 2048 + r'.val, by omega⟩ : Fin 8192) k) := by
    blk_ext [iblk, idx t]
  rw [e, V_rows]
  exact rows_at _ b r' _ k rfl

/-- An entry of a point's norm weight. -/
theorem nrm_at (c : Dev nD) (t : Fin cfg0.N) (k : Fin 2048) :
    iblk m c 1 t (ix2 (0 : Fin 1) k) = m ((c : Thread nD τ).loc main_arg1) (ix2 (1 : Fin 2) k) := by
  have e : iblk m c 1 t (ix2 (0 : Fin 1) k) = V m c main_v22 (ix2 (0 : Fin 1) k) := by
    blk_ext [iblk, idx t]
  rw [e, V_norm]
  exact nrow_at _ k

/-- The normalised block a grid point's run carries, at an entry: the reference's normalised row there. -/
theorem norm_at (c : Dev nD) (t : Fin cfg0.N) (r : Fin 1024) (k : Fin 2048) (b : Fin 4) (r' : Fin 2048)
    (hb : b.val * 2048 + r'.val = t.val / 7 * 1024 + r.val) :
    k0_pay1 (iblk m c 0 t) (iblk m c 1 t) (ix2 r k)
      = H (m ((c : Thread nD τ).loc main_arg0)) (m ((c : Thread nD τ).loc main_arg1)) (ix3 b r' k) := by
  pointwise [k0_pay1, H]
  simp only [fun k => row_at m c t r k b r' hb, nrm_at m c t]

/-- A matrix product of rows with the whole weight. -/
def D (G : FVec Ideal Cert.OddProjRefIdeal.S4x2048x2048 .f32) (A : FVec Ideal Cert.OddProjRefIdeal.S1x2048x7184 .f32) :
    FVec Ideal Cert.OddProjRefIdeal.S4x2048x7184 .f32 :=
  Host.dotGeneral Cert.OddProjRefIdeal.dot_S4x2048x2048_S2048x7184_S4x2048x7184_2_0_01_1_n_n none G (shapeCast _ A Cert.OddProjRefIdeal.Gen.shapeCasts_S1x2048x7184_S2048x7184)

/-- A matrix product's entry as the sum over the contracted axis. -/
theorem D_at (G : FVec Ideal Cert.OddProjRefIdeal.S4x2048x2048 .f32) (A : FVec Ideal Cert.OddProjRefIdeal.S1x2048x7184 .f32)
    (b : Fin 4) (r : Fin 2048) (n : Fin 7184) :
    D G A (ix3 b r n) = ∑ k : Fin 2048, G (ix3 b r k) * A (ix3 (0 : Fin 1) k n) := by
  pointwise [D]

/-- The kernel's product of the carried rows with its weight's tile: the reference's product there. -/
theorem dot (c : Dev nD) (t : Fin cfg0.N) (r j : Fin 1024) (b : Fin 4) (r' : Fin 2048) (n : Fin 7168)
    (hb : b.val * 2048 + r'.val = t.val / 7 * 1024 + r.val) (hn : n.val = t.val % 7 * 1024 + j.val) :
    ∑ k : Fin 2048, k0_pay1 (iblk m c 0 t) (iblk m c 1 t) (ix2 r k) * iblk m c 2 t (ix2 k j)
      = D (H (m ((c : Thread nD τ).loc main_arg0)) (m ((c : Thread nD τ).loc main_arg1))) (m ((c : Thread nD τ).loc main_arg2)) (ix3 b r' (src n)) := by
  rw [D_at]
  refine Finset.sum_congr rfl fun k _ => ?_
  have e : iblk m c 2 t (ix2 k j) = V m c main_v11 (ix2 k n) := by
    blk_ext [iblk, idx t]
  rw [e, V_cat, weight]
  exact congrArg (fun x : EReal => x * _) (norm_at m c t r k b r' hb)

/-- The kernel's product of the normalised rows with the gate's weight: the reference's product there, then zeros. -/
theorem dotS (c : Dev nD) (t : Fin cfg0.N) (r : Fin 1024) (j : Fin 128) (b : Fin 4) (r' : Fin 2048)
    (hb : b.val * 2048 + r'.val = t.val / 7 * 1024 + r.val) :
    ∑ k : Fin 2048, k0_pay1 (iblk m c 0 t) (iblk m c 1 t) (ix2 r k) * iblk m c 3 t (ix2 k j)
      = if h : j.val < 16 then D (H (m ((c : Thread nD τ).loc main_arg0)) (m ((c : Thread nD τ).loc main_arg1))) (m ((c : Thread nD τ).loc main_arg2)) (ix3 b r' (⟨2048 + j.val, by omega⟩ : Fin 7184)) else (0 : EReal) := by
  have e : ∀ k : Fin 2048, iblk m c 3 t (ix2 k j) = V m c main_v13 (ix2 k j) := by
    intro k
    blk_ext [iblk, idx t]
  split
  case isTrue h =>
    rw [D_at]
    refine Finset.sum_congr rfl fun k _ => ?_
    rw [e, V_catS, weightS, dif_pos h, norm_at m c t r k b r' hb]
  case isFalse h =>
    refine Finset.sum_eq_zero fun k _ => ?_
    rw [e, V_catS, weightS, dif_neg h]
    exact mul_zero _

/-- The reference's main result over its argument arrays. -/
def REF6 (X : FVec Ideal Cert.OddProjRefIdeal.S4x2048x2048 .f32) (N : FVec Ideal Cert.OddProjRefIdeal.S2x2048 .f32)
    (A : FVec Ideal Cert.OddProjRefIdeal.S1x2048x7184 .f32) : FVec Ideal Cert.OddProjRefIdeal.S8192x7168 .f32 :=
  shapeCast _ (concatenate Cert.OddProjRefIdeal.S4x2048x7168 2
    [⟨Cert.OddProjRefIdeal.S4x2048x512, mulf (extractStridedSlice Cert.OddProjRefIdeal.S4x2048x512 ![0, 0, 0] (D (H X N) A) Cert.OddProjRefIdeal.Gen.slices_S4x2048x7184_S4x2048x512_0_0_0) (broadcastInDim Cert.OddProjRefIdeal.S4x2048x512 ![] Cert.OddProjRefIdeal.Gen.bcast_S_S4x2048x512 (constant Cert.OddProjRefIdeal.S_ .f32 0x3DB504F3#32))⟩,
     ⟨Cert.OddProjRefIdeal.S4x2048x512, extractStridedSlice Cert.OddProjRefIdeal.S4x2048x512 ![0, 0, 512] (D (H X N) A) Cert.OddProjRefIdeal.Gen.slices_S4x2048x7184_S4x2048x512_0_0_512⟩,
     ⟨Cert.OddProjRefIdeal.S4x2048x1024, extractStridedSlice Cert.OddProjRefIdeal.S4x2048x1024 ![0, 0, 1024] (D (H X N) A) Cert.OddProjRefIdeal.Gen.slices_S4x2048x7184_S4x2048x1024_0_0_1024⟩,
     ⟨Cert.OddProjRefIdeal.S4x2048x1024, extractStridedSlice Cert.OddProjRefIdeal.S4x2048x1024 ![0, 0, 2064] (D (H X N) A) Cert.OddProjRefIdeal.Gen.slices_S4x2048x7184_S4x2048x1024_0_0_2064⟩,
     ⟨Cert.OddProjRefIdeal.S4x2048x1024, extractStridedSlice Cert.OddProjRefIdeal.S4x2048x1024 ![0, 0, 3088] (D (H X N) A) Cert.OddProjRefIdeal.Gen.slices_S4x2048x7184_S4x2048x1024_0_0_3088⟩,
     ⟨Cert.OddProjRefIdeal.S4x2048x1024, extractStridedSlice Cert.OddProjRefIdeal.S4x2048x1024 ![0, 0, 4112] (D (H X N) A) Cert.OddProjRefIdeal.Gen.slices_S4x2048x7184_S4x2048x1024_0_0_4112⟩,
     ⟨Cert.OddProjRefIdeal.S4x2048x1024, extractStridedSlice Cert.OddProjRefIdeal.S4x2048x1024 ![0, 0, 5136] (D (H X N) A) Cert.OddProjRefIdeal.Gen.slices_S4x2048x7184_S4x2048x1024_0_0_5136⟩,
     ⟨Cert.OddProjRefIdeal.S4x2048x1024, extractStridedSlice Cert.OddProjRefIdeal.S4x2048x1024 ![0, 0, 6160] (D (H X N) A) Cert.OddProjRefIdeal.Gen.slices_S4x2048x7184_S4x2048x1024_0_0_6160⟩]
    Cert.OddProjRefIdeal.Gen.concatenates_S4x2048x512_S4x2048x512_S4x2048x1024_S4x2048x1024_S4x2048x1024_S4x2048x1024_S4x2048x1024_S4x2048x1024_S4x2048x7168_d2) Cert.OddProjRefIdeal.Gen.shapeCasts_S4x2048x7168_S8192x7168

/-- An entry of it: the product's entry at the column's source, times the column's factor. -/
theorem REF6_at (X : FVec Ideal Cert.OddProjRefIdeal.S4x2048x2048 .f32) (N : FVec Ideal Cert.OddProjRefIdeal.S2x2048 .f32)
    (A : FVec Ideal Cert.OddProjRefIdeal.S1x2048x7184 .f32) (R : Fin 8192) (n : Fin 7168) :
    REF6 X N A (ix2 R n) = D (H X N) A (ix3 (⟨R.val / 2048, by omega⟩ : Fin 4) (⟨R.val % 2048, by omega⟩ : Fin 2048) (src n))
      * (if n.val < 512 then Scalar.ofBits (F := Ideal) .f32 0x3DB504F3#32 else 1) := by
  by_cases h : n.val < 512
  · rw [if_pos h]
    pointwise [REF6]
    rw [dif_pos h]
    unfold src
    rw [dif_pos (by omega)]
  · rw [if_neg h, mul_one]
    pointwise [REF6]
    rw [dif_neg h]
    unfold src
    repeat' split
    all_goals first | omega | exact congrArg (fun q => D (H X N) A (ix3 (⟨R.val / 2048, by omega⟩ : Fin 4) (⟨R.val % 2048, by omega⟩ : Fin 2048) q)) (Fin.ext (by first | omega | (dsimp only; omega) | dsimp only))

/-- The reference's gate result over its argument arrays. -/
def REF7 (X : FVec Ideal Cert.OddProjRefIdeal.S4x2048x2048 .f32) (N : FVec Ideal Cert.OddProjRefIdeal.S2x2048 .f32)
    (A : FVec Ideal Cert.OddProjRefIdeal.S1x2048x7184 .f32) : FVec Ideal Cert.OddProjRefIdeal.S8192x128 .f32 :=
  shapeCast _ (pad Cert.OddProjRefIdeal.S4x2048x128 ![0, 0, 0] ![0, 0, 112] ![0, 0, 0] (extractStridedSlice Cert.OddProjRefIdeal.S4x2048x16 ![0, 0, 2048] (D (H X N) A) Cert.OddProjRefIdeal.Gen.slices_S4x2048x7184_S4x2048x16_0_0_2048) (sitofp .f32 (constantI Cert.OddProjRefIdeal.S_ 32 0#32)) Cert.OddProjRefIdeal.Gen.pads_S4x2048x16_S4x2048x128_000_000_01120 Cert.OddProjRefIdeal.Gen.h_S_) Cert.OddProjRefIdeal.Gen.shapeCasts_S4x2048x128_S8192x128

/-- An entry of it: the product's entry at the gate's column, then zeros. -/
theorem REF7_at (X : FVec Ideal Cert.OddProjRefIdeal.S4x2048x2048 .f32) (N : FVec Ideal Cert.OddProjRefIdeal.S2x2048 .f32)
    (A : FVec Ideal Cert.OddProjRefIdeal.S1x2048x7184 .f32) (R : Fin 8192) (j : Fin 128) :
    REF7 X N A (ix2 R j) = if h : j.val < 16 then D (H X N) A (ix3 (⟨R.val / 2048, by omega⟩ : Fin 4) (⟨R.val % 2048, by omega⟩ : Fin 2048) (⟨2048 + j.val, by omega⟩ : Fin 7184)) else (0 : EReal) := by
  unfold REF7
  generalize D (H X N) A = E
  by_cases h : j.val < 16
  · rw [dif_pos h]
    pointwise
    exact dif_pos (by omega)
  · rw [dif_neg h]
    pointwise
    refine (dif_neg (by omega)).trans ?_
    show (((0#32 : BitVec 32).toInt : ℝ) : EReal) = 0
    simp

/-- The main result array: the reference's result of the three arguments. -/
theorem final6 (c : Dev nD) : (dats m 0 c).arrAt 6 (cfgs 0).N
    = REF6 (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  have key : (outsAt0 m c t.val t.isLt).1 = k0_pay4 (k0_pay2 (iblk m c 0 t) (iblk m c 1 t)) (iblk m c 2 t) (iblk m c 4 t) := by
    by_cases h0 : t.val % 7 = 0
    · rw [outsAt0_A m c t h0]
      frame_out
    · rw [outsAt0_B m c t h0]
      frame_out
      have hn : t.val - 1 < cfg0.N := Nat.lt_of_le_of_lt (Nat.sub_le _ _) t.isLt
      rw [(carried m c _ hn).2, read_unread_whole, iblk0_eq m c ⟨t.val - 1, hn⟩ t (by show (t.val - 1) / 7 = t.val / 7; omega), iblk1_eq m c ⟨t.val - 1, hn⟩ t]
  rw [key]
  have e0 : (((View.whole main_v23_0).slice (win0_6.rect t)).emb y 0 : ℕ) = t.val / 7 * 1024 + (y 0).val := by blk_simp [idx t]
  have e1 : (((View.whole main_v23_0).slice (win0_6.rect t)).emb y 1 : ℕ) = t.val % 7 * 1024 + (y 1).val := by blk_simp [idx t]
  generalize ((View.whole main_v23_0).slice (win0_6.rect t)).emb y = z at e0 e1
  obtain ⟨R, n, rfl⟩ : ∃ (R : Fin 8192) (n : Fin 7168), z = ix2 R n := ⟨z 0, z 1, by funext d; match d with | 0 => rfl | 1 => rfl⟩
  change R.val = _ at e0
  change n.val = _ at e1
  rw [REF6_at]
  pointwise [k0_pay4, k0_pay2]
  have hfac : iblk m c 4 t (ix2 (0 : Fin 1) (y 1)) = V m c main_v17 (ix2 (0 : Fin 1) n) := by
    blk_ext [iblk, idx t]
  have hf' := hfac.trans (by rw [V_facs, fac_at])
  exact congrArg₂ (fun x y : EReal => x * y) (dot m c t _ _ _ _ _ (by show _ / 2048 * 2048 + _ % 2048 = _; omega) e1) hf'

/-- The gate's result array: the reference's gate result of the three arguments. -/
theorem final7 (c : Dev nD) : (dats m 0 c).arrAt 7 (cfgs 0).N
    = REF7 (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7, (carried m c _ t.isLt).1]
  have e0 : (((View.whole main_v23_1).slice (win0_7.rect t)).emb y 0 : ℕ) = t.val / 7 * 1024 + (y 0).val := by blk_simp [idx t]
  have e1 : (((View.whole main_v23_1).slice (win0_7.rect t)).emb y 1 : ℕ) = (y 1).val := by blk_simp [idx t]
  generalize ((View.whole main_v23_1).slice (win0_7.rect t)).emb y = z at e0 e1
  obtain ⟨R, n, rfl⟩ : ∃ (R : Fin 8192) (n : Fin 128), z = ix2 R n := ⟨z 0, z 1, by funext d; match d with | 0 => rfl | 1 => rfl⟩
  change R.val = _ at e0
  obtain ⟨r, j, rfl⟩ : ∃ (r : Fin 1024) (j : Fin 128), y = ix2 r j := ⟨y 0, y 1, by funext d; match d with | 0 => rfl | 1 => rfl⟩
  change R.val = t.val / 7 * 1024 + r.val at e0
  obtain rfl : n = j := Fin.ext e1
  rw [REF7_at]
  pointwise [k0_pay3]
  exact dotS m c t r n _ _ (by show _ / 2048 * 2048 + _ % 2048 = _; omega)

/-- What the reference's run leaves in its main result. -/
theorem ref6 (m' : (ℓ : Loc Cert.OddProjRefIdeal.nD Cert.OddProjRefIdeal.τ Cert.OddProjRefIdeal.sig) → Buf (Elt Ideal) ℓ) (c : Dev Cert.OddProjRefIdeal.nD) :
    Cert.OddProjRefIdeal.Value.res_main_v29 m' c = REF6 (m' ((c.tc : Thread Cert.OddProjRefIdeal.nD Cert.OddProjRefIdeal.τ).loc Cert.OddProjRefIdeal.main_arg0)) (m' ((c.tc : Thread Cert.OddProjRefIdeal.nD Cert.OddProjRefIdeal.τ).loc Cert.OddProjRefIdeal.main_arg1)) (m' ((c.tc : Thread Cert.OddProjRefIdeal.nD Cert.OddProjRefIdeal.τ).loc Cert.OddProjRefIdeal.main_arg2)) := by
  unfold Cert.OddProjRefIdeal.Value.res_main_v29
  rfl

end Cert.OddProjIdeal.Val

end
-- ==== Proof.FfnDownS.lean ====
module

public import proofs.«01_k».proof.Proof.Gen.FfnDownSIdeal.Value
public import proofs.«01_k».proof.Proof.Gen.FfnDownSRefIdeal.Run
public import Idealize.ShloMosaic.Lib.Pipeline.ValueKit
public import Idealize.ShloMosaic.Lib.Pipeline.ReadBack

@[expose] public section

set_option maxRecDepth 16384

noncomputable section

namespace Cert.FfnDownSIdeal.Val

open Idealize.ShloMosaic Idealize.ShloMosaic.TcCoe Idealize.SL.Sem
open Idealize.ShloMosaic.Pipeline (Dat)
open Cert.FfnDownSIdeal Cert.FfnDownSIdeal.Gen

variable (m : (ℓ : Loc nD τ sig) → Buf (Elt Ideal) ℓ)

/-- The block index of every window at every grid point: all the rows, one column tile a point. -/
theorem idx : ∀ t : Fin cfg0.N, win0_0.index t = ![0, 0] ∧ win0_1.index t = ![1, 0, t.val]
    ∧ win0_2.index t = ![0, t.val] ∧ win0_3.index t = ![0, t.val] :=
  (by decide +kernel : ∀ t : Fin grid0.N, _)

/-- The reference's result term over its argument arrays. -/
def REF (U : FVec Ideal Cert.FfnDownSRefIdeal.S256x5632 .bf16) (W : FVec Ideal Cert.FfnDownSRefIdeal.S2x5632x2048 .f32)
    (X : FVec Ideal Cert.FfnDownSRefIdeal.S256x2048 .f32) : FVec Ideal Cert.FfnDownSRefIdeal.S256x2048 .f32 :=
  addf X (Host.dotGeneral Cert.FfnDownSRefIdeal.dot_S256x5632_S5632x2048_S256x2048_1_0_0_1_n_n none (extf .f32 U Cert.FfnDownSRefIdeal.Gen.bitsLt_bf16_f32) (shapeCast _ (extractStridedSlice Cert.FfnDownSRefIdeal.S1x5632x2048 ![1, 0, 0] W Cert.FfnDownSRefIdeal.Gen.slices_S2x5632x2048_S1x5632x2048_1_0_0) Cert.FfnDownSRefIdeal.Gen.shapeCasts_S1x5632x2048_S5632x2048))

/-- The result array: every point stores its weight tile and uses it at once. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  frame_out
  pointwise [k0_pay2, k0_pay1, REF]
  blk_point [iblk, V, idx t]

end Cert.FfnDownSIdeal.Val

end
-- ==== Proof.FoxPrepS.lean ====
module

public import proofs.«01_k».proof.Proof.Gen.FoxPrepSIdeal.Value
public import proofs.«01_k».proof.Proof.Gen.FoxPrepSRefIdeal.Run
public import proofs.«01_k».proof.Proof.FoxPrep

@[expose] public section

set_option maxRecDepth 16384

noncomputable section

namespace Cert.FoxPrepSIdeal.Val

open Idealize.ShloMosaic Idealize.ShloMosaic.TcCoe Idealize.SL.Sem
open Idealize.ShloMosaic.Pipeline (Dat)
open Cert.FoxPrepSIdeal Cert.FoxPrepSIdeal.Gen
open Cert.FoxPrepIdeal.Val (ls ls_ref bias pad_zero)

variable (m : (ℓ : Loc nD τ sig) → Buf (Elt Ideal) ℓ)

/-- The padded bias the launch makes. -/
theorem V_bias (c : Dev nD) : V m c main_v2 = pad (α := EReal) S1x128 ![0, 0] ![0, 120] ![0, 0] (shapeCast S1x8 (shapeCast S8 (m ((c : Thread nD τ).loc main_arg1)) shapeCasts_S1x8_S8) shapeCasts_S8_S1x8) (sitofp (F := Ideal) .f32 (constantI S_ 32 0#32)) pads_S1x8_S1x128_000_01200 h_S_ := by
  simp only [V, hostOps0, hostOps0_1, List.flatten_cons, List.flatten_nil, List.append_nil, List.cons_append, List.nil_append, StableHlo.TRef.binary, StableHlo.TRef.unary, StableHlo.TRef.toBuf, StableHlo.TRef.ofBuf, cast_eq]
  after_results_simp <;> (try dsimp only [Matrix.cons_val]) <;> (try after_results_simp) <;> rfl

theorem bias_at (c : Dev nD) (h : Fin 128) : V m c main_v2 (ix2 (0 : Fin 1) h) = bias (m ((c : Thread nD τ).loc main_arg1)) h := by
  rw [V_bias]
  pointwise [bias]
  rw [pad_zero]

/-- The one block of every window. -/
theorem idx : ∀ t : Fin cfg0.N, win0_0.index t = ![0, 0, 0] ∧ win0_1.index t = ![0, 0] ∧ win0_2.index t = ![0, 0, 0] :=
  (by decide +kernel : ∀ t : Fin grid0.N, _)

/-- The scores that come in. -/
theorem in_at (c : Dev nD) (t : Fin cfg0.N) (r : Fin 256) (h : Fin 128) :
    iblk m c 0 t (ix3 (0 : Fin 1) r h) = m ((c : Thread nD τ).loc main_arg0) (ix3 (0 : Fin 1) r h) := by
  rw [← V_main_arg0 m c]
  blk_ext [iblk, idx t]

theorem in_bias (c : Dev nD) (t : Fin cfg0.N) (h : Fin 128) :
    iblk m c 1 t (ix2 (0 : Fin 1) h) = bias (m ((c : Thread nD τ).loc main_arg1)) h := by
  have e : iblk m c 1 t (ix2 (0 : Fin 1) h) = V m c main_v2 (ix2 (0 : Fin 1) h) := by blk_ext [iblk, idx t]
  rw [e, bias_at]

/-- The one point's gates. -/
theorem pt_gate (c : Dev nD) (t : Fin cfg0.N) (r : Fin 256) (h : Fin 128) :
    (outsAt0 m c t).1 (ix3 (0 : Fin 1) r h)
      = ls (@HAdd.hAdd EReal EReal EReal _ (m ((c : Thread nD τ).loc main_arg0) (ix3 (0 : Fin 1) r h)) (bias (m ((c : Thread nD τ).loc main_arg1)) h)) := by
  rw [← in_at m c t r h, ← in_bias m c t h]
  unfold outsAt0
  frame_out
  pointwise [k0_pay1]
  exact Cert.FoxPrepIdeal.Val.gate_at _ _ r h

/-- The reference's biased scores. -/
def PRE (X : FVec Ideal Cert.FoxPrepSRefIdeal.S1x256x128 .f32) (B : FVec Ideal Cert.FoxPrepSRefIdeal.S1x8 .f32) : FVec Ideal Cert.FoxPrepSRefIdeal.S1x256x128 .f32 :=
  addf X (broadcastInDim Cert.FoxPrepSRefIdeal.S1x256x128 ![0, 1, 2] Cert.FoxPrepSRefIdeal.Gen.bcast_S1x1x128_S1x256x128_0_1_2 (broadcastInDim Cert.FoxPrepSRefIdeal.S1x1x128 ![2] Cert.FoxPrepSRefIdeal.Gen.bcast_S128_S1x1x128_2 (pad Cert.FoxPrepSRefIdeal.S128 ![0] ![120] ![0] (shapeCast _ B Cert.FoxPrepSRefIdeal.Gen.shapeCasts_S1x8_S8) (sitofp .f32 (constantI Cert.FoxPrepSRefIdeal.S_ 32 0#32)) Cert.FoxPrepSRefIdeal.Gen.pads_S8_S128_01200 Cert.FoxPrepSRefIdeal.Gen.h_S_)))

/-- The zeros the reference compares with and adds. -/
def ZERO : FVec Ideal Cert.FoxPrepSRefIdeal.S1x256x128 .f32 :=
  broadcastInDim Cert.FoxPrepSRefIdeal.S1x256x128 ![] Cert.FoxPrepSRefIdeal.Gen.bcast_S_S1x256x128 (constant Cert.FoxPrepSRefIdeal.S_ .f32 0x00000000#32)

/-- The reference's logarithm, over its biased scores. -/
def LSIG (P : FVec Ideal Cert.FoxPrepSRefIdeal.S1x256x128 .f32) : FVec Ideal Cert.FoxPrepSRefIdeal.S1x256x128 .f32 :=
  Host.negf (select (cmpf .une (subf (Host.negf P) ZERO) (subf (Host.negf P) ZERO)) (addf (Host.negf P) ZERO)
    (addf (maximumf (Host.negf P) ZERO) (Host.log1p (Host.exp (Host.negf (Host.absf (subf (Host.negf P) ZERO)))))))

/-- The reference's result: the sample's forget gates. -/
def REF (X : FVec Ideal Cert.FoxPrepSRefIdeal.S1x256x128 .f32) (B : FVec Ideal Cert.FoxPrepSRefIdeal.S1x8 .f32) : FVec Ideal Cert.FoxPrepSRefIdeal.S1x256x128 .f32 :=
  LSIG (PRE X B)

theorem pre_at (X : FVec Ideal Cert.FoxPrepSRefIdeal.S1x256x128 .f32) (B : FVec Ideal Cert.FoxPrepSRefIdeal.S1x8 .f32) (r : Fin 256) (h : Fin 128) :
    PRE X B (ix3 (0 : Fin 1) r h) = X (ix3 (0 : Fin 1) r h) + bias B h := by
  pointwise [PRE, bias]
  rw [pad_zero]

theorem ref_at (X : FVec Ideal Cert.FoxPrepSRefIdeal.S1x256x128 .f32) (B : FVec Ideal Cert.FoxPrepSRefIdeal.S1x8 .f32) (r : Fin 256) (h : Fin 128) :
    REF X B (ix3 (0 : Fin 1) r h) = ls (X (ix3 (0 : Fin 1) r h) + bias B h) := by
  unfold REF
  rw [← pre_at, ← ls_ref]
  pointwise [LSIG, ZERO]
  rw [if_neg (not_not.mpr rfl)]
  rfl

/-- The gates' array: the reference's gates. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2]
  idx_vars y
  rw [Fin.eq_zero y0]
  rw [show ((View.whole main_v3_0).slice (win0_2.rect t)).emb (ix3 (0 : Fin 1) y1 y2) = ix3 (0 : Fin 1) y1 y2 by blk_ext [idx t]]
  rw [ref_at]
  exact pt_gate m c t y1 y2

end Cert.FoxPrepSIdeal.Val

end
-- ==== Proof.Cases.lean ====
module

public import proofs.«01_k».proof.Proof.Gen.KernelIdeal.Value
public import proofs.«01_k».proof.Proof.Gen.ReferenceIdeal.Run
public import Idealize.ShloMosaic.Lib.Pipeline.ValueKit
public import Idealize.ShloMosaic.Lib.Pipeline.ReadBack
public import proofs.«01_k».proof.Proof.FoxMath

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen

open Cert.FoxMath

/-- The scaled query block at a point. -/
theorem q_at (v3 : Vec Ideal S1x512x128 .f32) (r : Fin 512) (d : Fin 128) :
    k0_pay28 v3 (ix2 r d) = v3 (ix3 (0 : Fin 1) r d) * (((Real.sqrt 128)⁻¹ * (Real.log 2)⁻¹ : ℝ) : EReal) := by
  pointwise [k0_pay28]
  rw [IdealRules.named_const.ideal_named_scalar _ _ _ _ rfl]

/-- The causal mask of a diagonal block: the score where the key is at or before the query, the bottom elsewhere. -/
theorem mask_at (OFF A : BitVec 32) (a b : ℕ) (hO : OFF = BitVec.ofNat 32 b) (hA : A = BitVec.ofNat 32 a) (ha : a < 4096) (hb : b < 4096)
    (x r : Fin 512) (s : EReal) :
    Scalar.select (IntOp.cmpi CmpIPredicate.sle (IntOp.addi A (BitVec.ofNat 32 x.val)) (IntOp.addi OFF (BitVec.ofNat 32 r.val)))
      s (Named.named (F := Ideal) κ "neg" (φ := .f32) 0xF149F2CA#32) = if a + x.val ≤ b + r.val then s else ⊥ := by
  have hx := x.isLt
  have hr := r.isLt
  rw [IdealRules.named_const.ideal_named_scalar _ _ _ _ rfl, hO, hA]
  rw [show IntOp.addi (BitVec.ofNat 32 a) (BitVec.ofNat 32 x.val) = BitVec.ofNat 32 (a + x.val) from (BitVec.ofNat_add _ _).symm,
    show IntOp.addi (BitVec.ofNat 32 b) (BitVec.ofNat 32 r.val) = BitVec.ofNat 32 (b + r.val) from (BitVec.ofNat_add _ _).symm,
    WordCmp.cmpi_sle_ofNat (by omega) (by omega), WordCmp.select_ofBool]
  simp

section
variable {q : Fin 128 → ℝ} {K : Fin 2048 → Fin 128 → ℝ} {C : Fin 2048 → ℝ} {V : Fin 2048 → Fin 128 → ℝ}

/-- The score of real data in base two, from a scaled query, a block of keys and a block of shifts. -/
theorem score_at {Q : FVec Ideal S512x128 .bf16} {r : Fin 512} (hQ : ∀ d, Q (ix2 r d) = (q d : EReal) * (((Real.sqrt 128)⁻¹ * (Real.log 2)⁻¹ : ℝ) : EReal))
    {b : Fin 4} {kb : Vec Ideal S512x128 .bf16} (hK : ∀ x d, kb (ix2 x d) = (K (bk b x) d : EReal))
    {cb : Vec Ideal S1x1x512 .f32} (hC : ∀ x, cb (ix3 (0 : Fin 1) (0 : Fin 1) x) = (C (bk b x) : EReal)) (x : Fin 512) :
    (∑ d, Q (ix2 r d) * kb (ix2 x d) - cb (ix3 (0 : Fin 1) (0 : Fin 1) x) * Named.named (F := Ideal) κ "log2e" (φ := .f32) 0x3FB8AA3B#32 : EReal)
      = ((alpha q K C (bk b x) * (Real.log 2)⁻¹ : ℝ) : EReal) := by
  rw [IdealRules.named_const.ideal_named_scalar _ _ _ _ rfl]
  simp only [hQ, hK, hC]
  exact score_eq q (K (bk b x)) (C (bk b x))

theorem sc4_at (Q : FVec Ideal S512x128 .bf16) (kb : Vec Ideal S512x128 .bf16) (cb : Vec Ideal S1x1x512 .f32) (r x : Fin 512) :
    k0_pay4 Q kb cb (ix2 r x) = ∑ d, Q (ix2 r d) * kb (ix2 x d) - cb (ix3 (0 : Fin 1) (0 : Fin 1) x) * Named.named (F := Ideal) κ "log2e" (φ := .f32) 0x3FB8AA3B#32 := by
  pointwise [k0_pay4]

theorem sc10_at (Q : FVec Ideal S512x128 .bf16) (kb : Vec Ideal S512x128 .bf16) (cb : Vec Ideal S1x1x512 .f32) (r x : Fin 512) :
    k0_pay10 Q kb cb (ix2 r x) = ∑ d, Q (ix2 r d) * kb (ix2 x d) - cb (ix3 (0 : Fin 1) (0 : Fin 1) x) * Named.named (F := Ideal) κ "log2e" (φ := .f32) 0x3FB8AA3B#32 := by
  pointwise [k0_pay10]

theorem sc11_at (Q : FVec Ideal S512x128 .bf16) (kb : Vec Ideal S512x128 .bf16) (cb : Vec Ideal S1x1x512 .f32) (r x : Fin 512) :
    k0_pay11 Q kb cb (ix2 r x) = ∑ d, Q (ix2 r d) * kb (ix2 x d) - cb (ix3 (0 : Fin 1) (0 : Fin 1) x) * Named.named (F := Ideal) κ "log2e" (φ := .f32) 0x3FB8AA3B#32 := by
  pointwise [k0_pay11]

theorem sc15_at (Q : FVec Ideal S512x128 .bf16) (kb : Vec Ideal S512x128 .bf16) (cb : Vec Ideal S1x1x512 .f32) (r x : Fin 512) :
    k0_pay15 Q kb cb (ix2 r x) = ∑ d, Q (ix2 r d) * kb (ix2 x d) - cb (ix3 (0 : Fin 1) (0 : Fin 1) x) * Named.named (F := Ideal) κ "log2e" (φ := .f32) 0x3FB8AA3B#32 := by
  pointwise [k0_pay15]

theorem sc16_at (Q : FVec Ideal S512x128 .bf16) (kb : Vec Ideal S512x128 .bf16) (cb : Vec Ideal S1x1x512 .f32) (r x : Fin 512) :
    k0_pay16 Q kb cb (ix2 r x) = ∑ d, Q (ix2 r d) * kb (ix2 x d) - cb (ix3 (0 : Fin 1) (0 : Fin 1) x) * Named.named (F := Ideal) κ "log2e" (φ := .f32) 0x3FB8AA3B#32 := by
  pointwise [k0_pay16]

theorem sc17_at (Q : FVec Ideal S512x128 .bf16) (kb : Vec Ideal S512x128 .bf16) (cb : Vec Ideal S1x1x512 .f32) (r x : Fin 512) :
    k0_pay17 Q kb cb (ix2 r x) = ∑ d, Q (ix2 r d) * kb (ix2 x d) - cb (ix3 (0 : Fin 1) (0 : Fin 1) x) * Named.named (F := Ideal) κ "log2e" (φ := .f32) 0x3FB8AA3B#32 := by
  pointwise [k0_pay17]

theorem sc18_at (Q : FVec Ideal S512x128 .bf16) (kb : Vec Ideal S512x128 .bf16) (cb : Vec Ideal S1x1x512 .f32) (r x : Fin 512) :
    k0_pay18 Q kb cb (ix2 r x) = ∑ d, Q (ix2 r d) * kb (ix2 x d) - cb (ix3 (0 : Fin 1) (0 : Fin 1) x) * Named.named (F := Ideal) κ "log2e" (φ := .f32) 0x3FB8AA3B#32 := by
  pointwise [k0_pay18]

theorem sc5_at (Q : FVec Ideal S512x128 .bf16) (OFF : BitVec 32) (kb : Vec Ideal S512x128 .bf16) (cb : Vec Ideal S1x1x512 .f32) (r x : Fin 512) :
    k0_pay5 Q OFF kb cb (ix2 r x)
      = Scalar.select (IntOp.cmpi CmpIPredicate.sle (IntOp.addi 512#32 (BitVec.ofNat 32 x.val)) (IntOp.addi OFF (BitVec.ofNat 32 r.val)))
        (∑ d, Q (ix2 r d) * kb (ix2 x d) - cb (ix3 (0 : Fin 1) (0 : Fin 1) x) * Named.named (F := Ideal) κ "log2e" (φ := .f32) 0x3FB8AA3B#32)
        (Named.named (F := Ideal) κ "neg" (φ := .f32) 0xF149F2CA#32) := by
  pointwise [k0_pay5]

theorem sc12_at (Q : FVec Ideal S512x128 .bf16) (OFF : BitVec 32) (kb : Vec Ideal S512x128 .bf16) (cb : Vec Ideal S1x1x512 .f32) (r x : Fin 512) :
    k0_pay12 Q OFF kb cb (ix2 r x)
      = Scalar.select (IntOp.cmpi CmpIPredicate.sle (IntOp.addi 1024#32 (BitVec.ofNat 32 x.val)) (IntOp.addi OFF (BitVec.ofNat 32 r.val)))
        (∑ d, Q (ix2 r d) * kb (ix2 x d) - cb (ix3 (0 : Fin 1) (0 : Fin 1) x) * Named.named (F := Ideal) κ "log2e" (φ := .f32) 0x3FB8AA3B#32)
        (Named.named (F := Ideal) κ "neg" (φ := .f32) 0xF149F2CA#32) := by
  pointwise [k0_pay12]

theorem sc19_at (OFF : BitVec 32) (s : FVec Ideal S512x512 .f32) (r x : Fin 512) :
    k0_pay19 (F := Ideal) OFF s (ix2 r x)
      = Scalar.select (IntOp.cmpi CmpIPredicate.sle (IntOp.addi 1536#32 (BitVec.ofNat 32 x.val)) (IntOp.addi OFF (BitVec.ofNat 32 r.val)))
        (s (ix2 r x)) (Named.named (F := Ideal) κ "neg" (φ := .f32) 0xF149F2CA#32) := by
  pointwise [k0_pay19]

/-- The kernel's block for the first 512 queries: attention over one block of keys. -/
theorem caseA (i : grid0.Coords) (hi : (i 2).val = 0) {v3 : Vec Ideal S1x512x128 .f32} {r : Fin 512}
    (hq : ∀ d, v3 (ix3 (0 : Fin 1) r d) = (q d : EReal))
    {kb0 vb0 : Vec Ideal S512x128 .bf16} {cb0 : Vec Ideal S1x1x512 .f32} (hK0 : ∀ x d, kb0 (ix2 x d) = (K (bk 0 x) d : EReal))
    (hC0 : ∀ x, cb0 (ix3 (0 : Fin 1) (0 : Fin 1) x) = (C (bk 0 x) : EReal)) (hV0 : ∀ x d, vb0 (ix2 x d) = (V (bk 0 x) d : EReal)) (d : Fin 128) :
    k0_pay29 i v3 kb0 cb0 vb0 (ix3 (0 : Fin 1) r d) = ((attn q K C (0 * 512 + r.val) (fun k => V k d) : ℝ) : EReal) := by
  have hQ : ∀ d, k0_pay28 v3 (ix2 r d) = (q d : EReal) * (((Real.sqrt 128)⁻¹ * (Real.log 2)⁻¹ : ℝ) : EReal) := fun d => by rw [q_at, hq]
  have hs : ∀ x, Sc (Scalar.select (IntOp.cmpi CmpIPredicate.sle (IntOp.addi 0#32 (BitVec.ofNat 32 x.val))
        (IntOp.addi (IntOp.addi 0#32 (IntOp.muli (BitVec.ofNat 32 (i 2).val) 512#32)) (BitVec.ofNat 32 r.val)))
        (∑ d, k0_pay28 v3 (ix2 r d) * kb0 (ix2 x d) - cb0 (ix3 (0 : Fin 1) (0 : Fin 1) x) * Named.named (F := Ideal) κ "log2e" (φ := .f32) 0x3FB8AA3B#32)
        (Named.named (F := Ideal) κ "neg" (φ := .f32) 0xF149F2CA#32)) (wt q K C (0 * 512 + r.val) (bk 0 x)) := fun x => by
    refine sc_mask _ _ _ _ _ ?_
    rw [mask_at _ _ 0 0 (by rw [hi]; rfl) rfl (by decide) (by decide), score_at hQ hK0 hC0]
    rfl
  rw [attn_eq1 _ _ _ _ (by omega)]
  refine Eq.trans ?_ (avg1 (Sc.fold_real hs 0 (wt_first _ _ _ _)) hs (fun x => hV0 x d) (wt_ne1 _ _ _ _ (by omega)))
  pointwise [k0_pay29]
  rfl

/-- The kernel's block for the second 512 queries: attention over two blocks of keys. -/
theorem caseB {Q : FVec Ideal S512x128 .bf16} {r : Fin 512} {OFF : BitVec 32} (hO : OFF = BitVec.ofNat 32 512)
    (hQ : ∀ d, Q (ix2 r d) = (q d : EReal) * (((Real.sqrt 128)⁻¹ * (Real.log 2)⁻¹ : ℝ) : EReal))
    {kb0 vb0 : Vec Ideal S512x128 .bf16} {cb0 : Vec Ideal S1x1x512 .f32} (hK0 : ∀ x d, kb0 (ix2 x d) = (K (bk 0 x) d : EReal))
    (hC0 : ∀ x, cb0 (ix3 (0 : Fin 1) (0 : Fin 1) x) = (C (bk 0 x) : EReal)) (hV0 : ∀ x d, vb0 (ix2 x d) = (V (bk 0 x) d : EReal))
    {kb1 vb1 : Vec Ideal S512x128 .bf16} {cb1 : Vec Ideal S1x1x512 .f32} (hK1 : ∀ x d, kb1 (ix2 x d) = (K (bk 1 x) d : EReal))
    (hC1 : ∀ x, cb1 (ix3 (0 : Fin 1) (0 : Fin 1) x) = (C (bk 1 x) : EReal)) (hV1 : ∀ x d, vb1 (ix2 x d) = (V (bk 1 x) d : EReal)) (d : Fin 128) :
    k0_pay1 (k0_pay5 Q OFF kb1 cb1) (k0_pay6 Q OFF kb0 cb0 kb1 cb1) (k0_pay8 Q OFF kb0 cb0 kb1 cb1) (k0_pay9 Q OFF kb0 cb0 kb1 cb1)
      vb0 vb1 (ix3 (0 : Fin 1) r d) = ((attn q K C (1 * 512 + r.val) (fun k => V k d) : ℝ) : EReal) := by
  have h0 : ∀ x, Sc (k0_pay4 Q kb0 cb0 (ix2 r x)) (wt q K C (1 * 512 + r.val) (bk 0 x)) := fun x =>
    sc_full _ _ _ _ _ (by show 0 * 512 + x.val ≤ (1 * 512 + r.val); omega) (by rw [sc4_at, score_at hQ hK0 hC0])
  have h1 : ∀ x, Sc (k0_pay5 Q OFF kb1 cb1 (ix2 r x)) (wt q K C (1 * 512 + r.val) (bk 1 x)) := fun x => by
    refine sc_mask _ _ _ _ _ ?_
    rw [sc5_at, mask_at _ _ 512 512 hO rfl (by decide) (by decide), score_at hQ hK1 hC1]
    rfl
  have hM : ∃ μ : ℝ, k0_pay6 Q OFF kb0 cb0 kb1 cb1 (ix2 r (0 : Fin 1)) = (μ : EReal) := by
    obtain ⟨μ, hμ⟩ := max_real (Sc.fold_real h0 0 (wt_first _ _ _ _)) (Sc.fold_ne_top h1)
    refine ⟨μ, ?_⟩
    pointwise [k0_pay6]
    exact hμ
  rw [attn_eq2 _ _ _ _ (by omega)]
  refine Eq.trans ?_ (avg2 hM h0 h1 (fun x => hV0 x d) (fun x => hV1 x d) (wt_ne2 _ _ _ _ (by omega)))
  pointwise [k0_pay1, k0_pay7, k0_pay8, k0_pay9]
  rfl

/-- The kernel's block for the third 512 queries: attention over three blocks of keys. -/
theorem caseC {Q : FVec Ideal S512x128 .bf16} {r : Fin 512} {OFF : BitVec 32} (hO : OFF = BitVec.ofNat 32 1024)
    (hQ : ∀ d, Q (ix2 r d) = (q d : EReal) * (((Real.sqrt 128)⁻¹ * (Real.log 2)⁻¹ : ℝ) : EReal))
    {kb0 vb0 : Vec Ideal S512x128 .bf16} {cb0 : Vec Ideal S1x1x512 .f32} (hK0 : ∀ x d, kb0 (ix2 x d) = (K (bk 0 x) d : EReal))
    (hC0 : ∀ x, cb0 (ix3 (0 : Fin 1) (0 : Fin 1) x) = (C (bk 0 x) : EReal)) (hV0 : ∀ x d, vb0 (ix2 x d) = (V (bk 0 x) d : EReal))
    {kb1 vb1 : Vec Ideal S512x128 .bf16} {cb1 : Vec Ideal S1x1x512 .f32} (hK1 : ∀ x d, kb1 (ix2 x d) = (K (bk 1 x) d : EReal))
    (hC1 : ∀ x, cb1 (ix3 (0 : Fin 1) (0 : Fin 1) x) = (C (bk 1 x) : EReal)) (hV1 : ∀ x d, vb1 (ix2 x d) = (V (bk 1 x) d : EReal))
    {kb2 vb2 : Vec Ideal S512x128 .bf16} {cb2 : Vec Ideal S1x1x512 .f32} (hK2 : ∀ x d, kb2 (ix2 x d) = (K (bk 2 x) d : EReal))
    (hC2 : ∀ x, cb2 (ix3 (0 : Fin 1) (0 : Fin 1) x) = (C (bk 2 x) : EReal)) (hV2 : ∀ x d, vb2 (ix2 x d) = (V (bk 2 x) d : EReal)) (d : Fin 128) :
    k0_pay2 (k0_pay14 (k0_pay10 Q kb0 cb0) (k0_pay11 Q kb1 cb1) (k0_pay12 Q OFF kb2 cb2) (k0_pay13 Q kb0 cb0) vb0 vb1 vb2)
      (ix3 (0 : Fin 1) r d) = ((attn q K C (2 * 512 + r.val) (fun k => V k d) : ℝ) : EReal) := by
  have h0 : ∀ x, Sc (k0_pay10 Q kb0 cb0 (ix2 r x)) (wt q K C (2 * 512 + r.val) (bk 0 x)) := fun x =>
    sc_full _ _ _ _ _ (by show 0 * 512 + x.val ≤ (2 * 512 + r.val); omega) (by rw [sc10_at, score_at hQ hK0 hC0])
  have h1 : ∀ x, Sc (k0_pay11 Q kb1 cb1 (ix2 r x)) (wt q K C (2 * 512 + r.val) (bk 1 x)) := fun x =>
    sc_full _ _ _ _ _ (by show 1 * 512 + x.val ≤ (2 * 512 + r.val); omega) (by rw [sc11_at, score_at hQ hK1 hC1])
  have h2 : ∀ x, Sc (k0_pay12 Q OFF kb2 cb2 (ix2 r x)) (wt q K C (2 * 512 + r.val) (bk 2 x)) := fun x => by
    refine sc_mask _ _ _ _ _ ?_
    rw [sc12_at, mask_at _ _ 1024 1024 hO rfl (by decide) (by decide), score_at hQ hK2 hC2]
    rfl
  have e : k0_pay13 Q kb0 cb0 (ix2 r (0 : Fin 1)) = Finset.fold max (Ideal.ofBits .f32 0xFF800000#32) (fun x => k0_pay10 Q kb0 cb0 (ix2 r x)) Finset.univ := by
    pointwise [k0_pay13]
  rw [attn_eq3 _ _ _ _ (by omega)]
  refine Eq.trans ?_ (avg3 (max_real (max_real (Sc.fold_real h0 0 (wt_first _ _ _ _)) (Sc.fold_ne_top h1)) (Sc.fold_ne_top h2)) h0 h1 h2
    (fun x => hV0 x d) (fun x => hV1 x d) (fun x => hV2 x d) (wt_ne3 _ _ _ _ (by omega)))
  rw [← e]
  pointwise [k0_pay2, k0_pay14]
  rfl

/-- The kernel's block for the last 512 queries: attention over four blocks of keys. -/
theorem caseD {Q : FVec Ideal S512x128 .bf16} {r : Fin 512} {OFF : BitVec 32} (hO : OFF = BitVec.ofNat 32 1536)
    (hQ : ∀ d, Q (ix2 r d) = (q d : EReal) * (((Real.sqrt 128)⁻¹ * (Real.log 2)⁻¹ : ℝ) : EReal))
    {kb0 vb0 : Vec Ideal S512x128 .bf16} {cb0 : Vec Ideal S1x1x512 .f32} (hK0 : ∀ x d, kb0 (ix2 x d) = (K (bk 0 x) d : EReal))
    (hC0 : ∀ x, cb0 (ix3 (0 : Fin 1) (0 : Fin 1) x) = (C (bk 0 x) : EReal)) (hV0 : ∀ x d, vb0 (ix2 x d) = (V (bk 0 x) d : EReal))
    {kb1 vb1 : Vec Ideal S512x128 .bf16} {cb1 : Vec Ideal S1x1x512 .f32} (hK1 : ∀ x d, kb1 (ix2 x d) = (K (bk 1 x) d : EReal))
    (hC1 : ∀ x, cb1 (ix3 (0 : Fin 1) (0 : Fin 1) x) = (C (bk 1 x) : EReal)) (hV1 : ∀ x d, vb1 (ix2 x d) = (V (bk 1 x) d : EReal))
    {kb2 vb2 : Vec Ideal S512x128 .bf16} {cb2 : Vec Ideal S1x1x512 .f32} (hK2 : ∀ x d, kb2 (ix2 x d) = (K (bk 2 x) d : EReal))
    (hC2 : ∀ x, cb2 (ix3 (0 : Fin 1) (0 : Fin 1) x) = (C (bk 2 x) : EReal)) (hV2 : ∀ x d, vb2 (ix2 x d) = (V (bk 2 x) d : EReal))
    {kb3 vb3 : Vec Ideal S512x128 .bf16} {cb3 : Vec Ideal S1x1x512 .f32} (hK3 : ∀ x d, kb3 (ix2 x d) = (K (bk 3 x) d : EReal))
    (hC3 : ∀ x, cb3 (ix3 (0 : Fin 1) (0 : Fin 1) x) = (C (bk 3 x) : EReal)) (hV3 : ∀ x d, vb3 (ix2 x d) = (V (bk 3 x) d : EReal)) (d : Fin 128) :
    k0_pay3 (k0_pay19 OFF (k0_pay18 Q kb3 cb3))
      (k0_pay20 OFF (k0_pay15 Q kb0 cb0) (k0_pay16 Q kb1 cb1) (k0_pay17 Q kb2 cb2) (k0_pay18 Q kb3 cb3))
      (k0_pay23 OFF (k0_pay15 Q kb0 cb0) (k0_pay16 Q kb1 cb1) (k0_pay17 Q kb2 cb2) (k0_pay18 Q kb3 cb3))
      (k0_pay24 OFF (k0_pay15 Q kb0 cb0) (k0_pay16 Q kb1 cb1) (k0_pay17 Q kb2 cb2) (k0_pay18 Q kb3 cb3) vb0 vb1)
      (k0_pay25 OFF (k0_pay15 Q kb0 cb0) (k0_pay16 Q kb1 cb1) (k0_pay17 Q kb2 cb2) (k0_pay18 Q kb3 cb3)) vb2 vb3
      (ix3 (0 : Fin 1) r d) = ((attn q K C (3 * 512 + r.val) (fun k => V k d) : ℝ) : EReal) := by
  have h0 : ∀ x, Sc (k0_pay15 Q kb0 cb0 (ix2 r x)) (wt q K C (3 * 512 + r.val) (bk 0 x)) := fun x =>
    sc_full _ _ _ _ _ (by show 0 * 512 + x.val ≤ (3 * 512 + r.val); omega) (by rw [sc15_at, score_at hQ hK0 hC0])
  have h1 : ∀ x, Sc (k0_pay16 Q kb1 cb1 (ix2 r x)) (wt q K C (3 * 512 + r.val) (bk 1 x)) := fun x =>
    sc_full _ _ _ _ _ (by show 1 * 512 + x.val ≤ (3 * 512 + r.val); omega) (by rw [sc16_at, score_at hQ hK1 hC1])
  have h2 : ∀ x, Sc (k0_pay17 Q kb2 cb2 (ix2 r x)) (wt q K C (3 * 512 + r.val) (bk 2 x)) := fun x =>
    sc_full _ _ _ _ _ (by show 2 * 512 + x.val ≤ (3 * 512 + r.val); omega) (by rw [sc17_at, score_at hQ hK2 hC2])
  have h3 : ∀ x, Sc (k0_pay19 OFF (k0_pay18 Q kb3 cb3) (ix2 r x)) (wt q K C (3 * 512 + r.val) (bk 3 x)) := fun x => by
    refine sc_mask _ _ _ _ _ ?_
    rw [sc19_at, mask_at _ _ 1536 1536 hO rfl (by decide) (by decide), sc18_at, score_at hQ hK3 hC3]
    rfl
  have hM : ∃ μ : ℝ, k0_pay20 OFF (k0_pay15 Q kb0 cb0) (k0_pay16 Q kb1 cb1) (k0_pay17 Q kb2 cb2) (k0_pay18 Q kb3 cb3) (ix2 r (0 : Fin 1)) = (μ : EReal) := by
    obtain ⟨μ, hμ⟩ := max_real (max_real (max_real (Sc.fold_real h0 0 (wt_first _ _ _ _)) (Sc.fold_ne_top h1)) (Sc.fold_ne_top h2))
      (Sc.fold_ne_top h3)
    refine ⟨μ, ?_⟩
    pointwise [k0_pay20]
    exact hμ
  rw [attn_eq4]
  refine Eq.trans ?_ (avg4 hM h0 h1 h2 h3 (fun x => hV0 x d) (fun x => hV1 x d) (fun x => hV2 x d) (fun x => hV3 x d) (wt_ne4 _ _ _ _))
  pointwise [k0_pay3, k0_pay21, k0_pay22, k0_pay23, k0_pay24, k0_pay25]
  rfl

end

end Cert.KernelIdeal.Val

end
-- ==== Proof.FoxRef.lean ====
module

public import proofs.«01_k».proof.Proof.FoxMath
public import proofs.«01_k».proof.Proof.Gen.ReferenceIdeal.Run
public import Idealize.ShloMosaic.Lib.Pipeline.ValueKit
public import Idealize.ShloMosaic.Lib.WordCmp

@[expose] public section

set_option maxRecDepth 16384

noncomputable section

namespace Cert.ReferenceIdeal.Val

open Idealize.ShloMosaic Idealize.ShloMosaic.TcCoe Idealize.SL.Sem
open Cert.ReferenceIdeal Cert.ReferenceIdeal.Gen
open Cert.FoxMath

/-- The reference's masked scores: the scaled products of queries and keys with the forget bias, minus infinity past the query. -/
def SC (X : FVec Ideal S4x2048x5632 .f32) (C : FVec Ideal S4x2048x128 .f32) : FVec Ideal S4x8x2048x2048 .f32 :=
  select (broadcastInDim S4x8x2048x2048 ![2, 3] bcast_S2048x2048_S4x8x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (subf (addf (Host.divf (Host.dotGeneral dot_S4x2048x8x128_S4x2048x8x128_S4x8x2048x2048_3_3_1_1_02_02 none (shapeCast _ (extractStridedSlice S4x2048x1024 ![0, 0, 0] X slices_S4x2048x5632_S4x2048x1024_0_0_0) shapeCasts_S4x2048x1024_S4x2048x8x128) (shapeCast _ (extractStridedSlice S4x2048x1024 ![0, 0, 1024] X slices_S4x2048x5632_S4x2048x1024_0_0_1024) shapeCasts_S4x2048x1024_S4x2048x8x128)) (broadcastInDim S4x8x2048x2048 ![] bcast_S_S4x8x2048x2048 (Host.sqrt (constant S_ .f32 0x43000000#32)))) (broadcastInDim S4x8x2048x2048 ![0, 1, 2, 3] bcast_S4x8x2048x1_S4x8x2048x2048_0_1_2_3 (broadcastInDim S4x8x2048x1 ![0, 1, 2] bcast_S4x8x2048_S4x8x2048x1_0_1_2 (transpose S4x8x2048 [0, 2, 1] (extractStridedSlice S4x2048x8 ![0, 0, 0] C slices_S4x2048x128_S4x2048x8_0_0_0) transposes_S4x2048x8_S4x8x2048_0_2_1)))) (broadcastInDim S4x8x2048x2048 ![0, 1, 2, 3] bcast_S4x8x1x2048_S4x8x2048x2048_0_1_2_3 (broadcastInDim S4x8x1x2048 ![0, 1, 3] bcast_S4x8x2048_S4x8x1x2048_0_1_3 (transpose S4x8x2048 [0, 2, 1] (extractStridedSlice S4x2048x8 ![0, 0, 0] C slices_S4x2048x128_S4x2048x8_0_0_0) transposes_S4x2048x8_S4x8x2048_0_2_1)))) (broadcastInDim S4x8x2048x2048 ![] bcast_S_S4x8x2048x2048 (id (constant S_ .f32 0xFF800000#32)))

/-- Each row's maximum. -/
def MR (s : FVec Ideal S4x8x2048x2048 .f32) : FVec Ideal S4x8x2048 .f32 :=
  Host.reduce FloatOps.maximumf s (constant S_ .f32 0xFF800000#32) reducesTo_S4x8x2048x2048_S4x8x2048_d3 h_S_

/-- A row value, not below minus infinity, along the row. -/
def MB (r : FVec Ideal S4x8x2048 .f32) : FVec Ideal S4x8x2048x2048 .f32 :=
  broadcastInDim S4x8x2048x2048 ![0, 1, 2, 3] bcast_S4x8x2048x1_S4x8x2048x2048_0_1_2_3 (broadcastInDim S4x8x2048x1 ![0, 1, 2] bcast_S4x8x2048_S4x8x2048x1_0_1_2 (maximumf (broadcastInDim S4x8x2048 ![] bcast_S_S4x8x2048 (constant S_ .f32 0xFF800000#32)) r))

/-- Each row's maximum, along the row. -/
def MX (s : FVec Ideal S4x8x2048x2048 .f32) : FVec Ideal S4x8x2048x2048 .f32 := MB (MR s)

/-- The exponentials of scores less their row's maximum. -/
def EX (s : FVec Ideal S4x8x2048x2048 .f32) : FVec Ideal S4x8x2048x2048 .f32 :=
  Host.exp (subf s (MX s))

/-- Each entry over its row's sum. -/
def PR (e : FVec Ideal S4x8x2048x2048 .f32) : FVec Ideal S4x8x2048x2048 .f32 :=
  Host.divf e (broadcastInDim S4x8x2048x2048 ![0, 1, 2, 3] bcast_S4x8x2048x1_S4x8x2048x2048_0_1_2_3 (broadcastInDim S4x8x2048x1 ![0, 1, 2] bcast_S4x8x2048_S4x8x2048x1_0_1_2 (Host.reduceAdd e (constant S_ .f32 0x00000000#32) reducesTo_S4x8x2048x2048_S4x8x2048_d3 h_S_)))

/-- The reference's result term over its argument arrays. -/
def REF (X : FVec Ideal S4x2048x5632 .f32) (C : FVec Ideal S4x2048x128 .f32) : FVec Ideal S4x2048x1024 .bf16 :=
  truncf .bf16 (shapeCast _ (transpose S4x2048x8x128 [0, 3, 1, 2] (Host.dotGeneral dot_S4x2048x8x128_S4x8x2048x2048_S4x8x128x2048_1_3_3_2_02_01 none (shapeCast _ (extractStridedSlice S4x2048x1024 ![0, 0, 2048] X slices_S4x2048x5632_S4x2048x1024_0_0_2048) shapeCasts_S4x2048x1024_S4x2048x8x128) (PR (EX (SC X C)))) transposes_S4x8x128x2048_S4x2048x8x128_0_3_1_2) shapeCasts_S4x2048x8x128_S4x2048x1024) bitsLt_bf16_f32

/-- The run's result is that term. -/
theorem res_eq (m : (ℓ : Loc nD τ sig) → Buf (Elt Ideal) ℓ) (c : Dev nD) :
    Cert.ReferenceIdeal.Value.res_out0 m c = REF (m ((c.tc : Thread nD τ).loc main_arg0)) (m ((c.tc : Thread nD τ).loc main_arg1)) := rfl

/-- The head width's word denotes 128. -/
theorem c128 : Ideal.ofBits .f32 0x43000000#32 = ((128 : ℝ) : EReal) := by
  simp [Ideal.ofBits, Ideal.ieee]
  rw [← EReal.coe_mul]
  norm_num

/-- A host maximum over the last of four axes, at an entry: the fold of `max` from the initial value. -/
theorem hostMax {n0 n1 n2 n3 : ℕ} {u : Shape} (h : (⟨4, ![n0, n1, n2, n3]⟩ : Shape).ReducesTo [3] ⟨3, ![n0, n1, n2]⟩)
    (hu : 0 < u.numel) (v : FVec Ideal ⟨4, ![n0, n1, n2, n3]⟩ .f32) (c : FVec Ideal u .f32) (a : Fin n0) (b : Fin n1) (t : Fin n2) :
    Host.reduce FloatOps.maximumf v c h hu (ix3 a b t)
      = Finset.univ.fold max (c (Shape.Idx.first hu)) fun k : Fin n3 => v (ix4 a b t k) := by
  simp only [pointwise]

theorem mr_open (s : FVec Ideal S4x8x2048x2048 .f32) (b : Fin 4) (h : Fin 8) (t : Fin 2048) :
    MR s (ix3 b h t) = Host.reduce FloatOps.maximumf s (constant S_ .f32 0xFF800000#32) reducesTo_S4x8x2048x2048_S4x8x2048_d3 h_S_ (ix3 b h t) := rfl

theorem mr_fold (s : FVec Ideal S4x8x2048x2048 .f32) (b : Fin 4) (h : Fin 8) (t : Fin 2048) :
    Host.reduce FloatOps.maximumf s (constant S_ .f32 0xFF800000#32) reducesTo_S4x8x2048x2048_S4x8x2048_d3 h_S_ (ix3 b h t) = Finset.univ.fold max ((constant S_ .f32 0xFF800000#32 : FVec Ideal S_ .f32) (Shape.Idx.first h_S_)) fun k : Fin 2048 => s (ix4 b h t k) := hostMax reducesTo_S4x8x2048x2048_S4x8x2048_d3 h_S_ s _ b h t

theorem mr_bot (s : FVec Ideal S4x8x2048x2048 .f32) (b : Fin 4) (h : Fin 8) (t : Fin 2048) :
    (Finset.univ.fold max ((constant S_ .f32 0xFF800000#32 : FVec Ideal S_ .f32) (Shape.Idx.first h_S_)) fun k : Fin 2048 => s (ix4 b h t k)) = Finset.fold max (⊥ : EReal) (fun x => s (ix4 b h t x)) Finset.univ := by
  have e : (constant S_ .f32 0xFF800000#32 : FVec Ideal S_ .f32) (Shape.Idx.first h_S_) = (⊥ : EReal) := ninf
  rw [e]

theorem MR_at (s : FVec Ideal S4x8x2048x2048 .f32) (b : Fin 4) (h : Fin 8) (t : Fin 2048) :
    MR s (ix3 b h t) = Finset.fold max (⊥ : EReal) (fun x => s (ix4 b h t x)) Finset.univ :=
  (mr_open s b h t).trans ((mr_fold s b h t).trans (mr_bot s b h t))

theorem MB_at (r : FVec Ideal S4x8x2048 .f32) (b : Fin 4) (h : Fin 8) (t k : Fin 2048) : MB r (ix4 b h t k) = r (ix3 b h t) := by
  pointwise [MB]
  rw [ninf]
  exact max_eq_right bot_le

theorem MX_at (s : FVec Ideal S4x8x2048x2048 .f32) (b : Fin 4) (h : Fin 8) (t k : Fin 2048) :
    MX s (ix4 b h t k) = Finset.fold max (⊥ : EReal) (fun x => s (ix4 b h t x)) Finset.univ :=
  (MB_at (MR s) b h t k).trans (MR_at s b h t)

theorem EX_at (s : FVec Ideal S4x8x2048x2048 .f32) (b : Fin 4) (h : Fin 8) (t k : Fin 2048) :
    EX s (ix4 b h t k) = Ideal.exp (s (ix4 b h t k) - MX s (ix4 b h t k)) := by
  pointwise [EX]

theorem PR_at (e : FVec Ideal S4x8x2048x2048 .f32) (b : Fin 4) (h : Fin 8) (t k : Fin 2048) :
    PR e (ix4 b h t k) = Ideal.div (e (ix4 b h t k)) (∑ x, e (ix4 b h t x)) := by
  pointwise [PR]

theorem SC_at (X : FVec Ideal S4x2048x5632 .f32) (C : FVec Ideal S4x2048x128 .f32) (b : Fin 4) (h : Fin 8) (t k : Fin 2048) :
    SC X C (ix4 b h t k) = Scalar.select (IntOp.cmpi CmpIPredicate.sle (BitVec.ofNat 32 k.val) (BitVec.ofNat 32 t.val))
      (Ideal.div (∑ x : Fin 128, X (ix3 b t ⟨h.val * 128 + x.val, by omega⟩) * X (ix3 b k ⟨1024 + (h.val * 128 + x.val), by omega⟩))
            (Ideal.sqrt (Ideal.ofBits FTy.f32 0x43000000#32)) +
          C (ix3 b t ⟨h.val, by omega⟩) - C (ix3 b k ⟨h.val, by omega⟩))
      (id (constant (F := Ideal) S_ FTy.f32 0xFF800000#32) ix0) := by
  pointwise [SC]

theorem REF_at (X : FVec Ideal S4x2048x5632 .f32) (C : FVec Ideal S4x2048x128 .f32) (b : Fin 4) (t : Fin 2048) (n : Fin 1024) :
    REF X C (ix3 b t n) = ∑ x : Fin 2048, X (ix3 b x ⟨2048 + n.val, by omega⟩) * PR (EX (SC X C)) (ix4 b ⟨n.val / 128, by omega⟩ t x) := by
  pointwise [REF]

/-- The reference's attention of real data: the causal weights' average of the values. -/
theorem REF_real (x : Fin 4 → Fin 2048 → Fin 5632 → ℝ) (cr : Fin 4 → Fin 2048 → Fin 128 → ℝ)
    (X : FVec Ideal S4x2048x5632 .f32) (C : FVec Ideal S4x2048x128 .f32) (hX : ∀ b t n, X (ix3 b t n) = (x b t n : EReal))
    (hC : ∀ b t n, C (ix3 b t n) = (cr b t n : EReal)) (b : Fin 4) (t : Fin 2048) (h : Fin 8) (d : Fin 128) :
    REF X C (ix3 b t ⟨h.val * 128 + d.val, by omega⟩)
      = ((attn (fun e => x b t ⟨h.val * 128 + e.val, by omega⟩) (fun k e => x b k ⟨1024 + (h.val * 128 + e.val), by omega⟩)
          (fun k => cr b k ⟨h.val, by omega⟩) t.val (fun k => x b k ⟨2048 + (h.val * 128 + d.val), by omega⟩) : ℝ) : EReal) := by
  set q : Fin 128 → ℝ := fun e => x b t ⟨h.val * 128 + e.val, by omega⟩ with hq
  set K : Fin 2048 → Fin 128 → ℝ := fun k e => x b k ⟨1024 + (h.val * 128 + e.val), by omega⟩ with hK
  set cc : Fin 2048 → ℝ := fun k => cr b k ⟨h.val, by omega⟩ with hcc
  have hs : ∀ k : Fin 2048, SC X C (ix4 b h t k) = if k.val ≤ t.val then ((alpha q K cc k + cc t : ℝ) : EReal) else ⊥ := fun k => by
    have hk := k.isLt
    have ht := t.isLt
    rw [SC_at, WordCmp.cmpi_sle_ofNat (by omega) (by omega), WordCmp.select_ofBool]
    have hb : (id (constant (F := Ideal) S_ FTy.f32 0xFF800000#32) ix0 : EReal) = ⊥ := ninf
    rw [hb]
    simp only [decide_eq_true_eq]
    split
    · simp only [hX, hC, ← EReal.coe_mul]
      rw [coe_sum, c128, Ideal.sqrt_coe, if_neg (by norm_num), Ideal.div_coe (by positivity), ← EReal.coe_mul, ← EReal.coe_add, ← EReal.coe_sub]
      congr 1
      show _ = (∑ e, q e * K k e) * (Real.sqrt 128)⁻¹ - cc k + cc t
      rw [one_div]
      ring
    · rfl
  obtain ⟨μ, hμ⟩ : ∃ μ : ℝ, Finset.fold max (⊥ : EReal) (fun k => SC X C (ix4 b h t k)) Finset.univ = μ := by
    refine fold_real _ (fun k => ?_) t ?_
    · rw [hs]
      split
      · exact EReal.coe_ne_top _
      · exact bot_ne_top
    · rw [hs, if_pos le_rfl]
      exact EReal.coe_ne_bot _
  have he : ∀ k : Fin 2048, EX (SC X C) (ix4 b h t k) = ((Real.exp (cc t - μ) * wt q K cc t.val k : ℝ) : EReal) := fun k => by
    rw [EX_at, MX_at, hμ, hs]
    unfold wt
    split
    · rw [← EReal.coe_sub, Ideal.exp_coe, ← Real.exp_add]
      congr 2
      ring
    · rw [mul_zero, show (⊥ : EReal) - (μ : EReal) = ⊥ from rfl]
      simp
  have hp : ∀ k : Fin 2048, PR (EX (SC X C)) (ix4 b h t k) = ((wt q K cc t.val k / ∑ k, wt q K cc t.val k : ℝ) : EReal) := fun k => by
    rw [PR_at]
    simp only [he]
    rw [coe_sum, ← Finset.mul_sum, div_scaled _ _ _ (Real.exp_ne_zero _) (wt_sum_ne q K cc t.val)]
  have hh : (⟨(h.val * 128 + d.val) / 128, by omega⟩ : Fin 8) = h := Fin.ext (by show (h.val * 128 + d.val) / 128 = h.val; omega)
  rw [REF_at]
  show ∑ k : Fin 2048, X (ix3 b k ⟨2048 + (h.val * 128 + d.val), _⟩) * PR (EX (SC X C)) (ix4 b ⟨(h.val * 128 + d.val) / 128, _⟩ t k) = _
  rw [hh]
  simp only [hp, hX, ← EReal.coe_mul]
  rw [coe_sum]
  congr 1
  unfold attn
  rw [Finset.sum_div]
  refine Finset.sum_congr rfl fun k _ => ?_
  ring

end Cert.ReferenceIdeal.Val

end
-- ==== Proof.Flash.lean ====
module

public import proofs.«01_k».proof.Proof.Gen.KernelIdeal.Value
public import proofs.«01_k».proof.Proof.Gen.ReferenceIdeal.Run
public import Idealize.ShloMosaic.Lib.Pipeline.ValueKit
public import Idealize.ShloMosaic.Lib.Pipeline.ReadBack
public import proofs.«01_k».proof.Proof.FoxMath
public import proofs.«01_k».proof.Proof.Cases
public import proofs.«01_k».proof.Proof.FoxRef

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen

open Cert.FoxMath

variable (m : (ℓ : Loc nD τ sig) → Buf (Elt Ideal) ℓ)

/-- The block index of every window at every grid point. -/
theorem idx : ∀ t : Fin cfg0.N, win0_0.index t = ![t.val / 32, t.val % 4, t.val / 4 % 8] ∧ win0_1.index t = ![t.val / 32, 0, 8 + t.val / 4 % 8]
    ∧ win0_2.index t = ![t.val / 32, 0, 16 + t.val / 4 % 8] ∧ win0_3.index t = ![t.val / 4, 0, 0] ∧ win0_4.index t = ![t.val / 32, t.val % 4, t.val / 4 % 8] :=
  (by decide +kernel : ∀ t : Fin grid0.N, _)

/-- The query offset's word at a grid point. -/
theorem offs : ∀ t : Fin cfg0.N, (grid0.coords t 2).val = t.val % 4 := (by decide +kernel : ∀ t : Fin grid0.N, _)

/-- Two grid points of one sequence and head read the same keys. -/
theorem iblk1_eq (c : Dev nD) (t s : Fin cfg0.N) (h : t.val / 4 = s.val / 4) : iblk m c 1 t = iblk m c 1 s := by
  funext j
  blk_simp [iblk]
  congr 1
  blk_ext [idx t, idx s]

/-- Two grid points of one sequence and head read the same values. -/
theorem iblk2_eq (c : Dev nD) (t s : Fin cfg0.N) (h : t.val / 4 = s.val / 4) : iblk m c 2 t = iblk m c 2 s := by
  funext j
  blk_simp [iblk]
  congr 1
  blk_ext [idx t, idx s]

theorem scrB (c : Dev nD) (t : Fin cfg0.N) (h0 : ¬t.val % 4 = 0) (hn : t.val - 1 < cfg0.N) : (outsAt0 m c t.val t.isLt).2 = (outsAt0 m c (t.val - 1) hn).2 := by
  rcases (by omega : t.val % 4 = 1 ∨ t.val % 4 = 2 ∨ t.val % 4 = 3) with h | h | h
  · rw [outsAt0_B m c t (by omega) (by omega) (by omega) (by omega) (by omega)]
    exact Prod.ext rfl rfl
  · rw [outsAt0_C m c t (by omega) (by omega) (by omega) (by omega) (by omega)]
    exact Prod.ext rfl rfl
  · rw [outsAt0_D m c t (by omega) (by omega) (by omega) (by omega) (by omega)]
    exact Prod.ext rfl rfl

theorem scrA (c : Dev nD) (t : Fin cfg0.N) (h0 : t.val % 4 = 0) : (outsAt0 m c t.val t.isLt).2 = (k0_pay26 (iblk m c 1 t), k0_pay27 (iblk m c 2 t)) := by
  rw [outsAt0_A m c t (by omega) (by omega) (by omega) (by omega) (by omega)]
  frame_out

theorem rdK (c : Dev nD) (t : Fin cfg0.N) (k : Fin 2048) (d : Fin 128) (bb : Fin 4) (n : Fin 5632) (hb : bb.val = t.val / 32)
    (hn : n.val = 1024 + (t.val / 4 % 8 * 128 + d.val)) :
    k0_pay26 (iblk m c 1 t) (ix2 k d) = m ((c : Thread nD τ).loc main_arg0) (ix3 bb k n) := by
  pointwise [k0_pay26]
  blk_ext [iblk, V, idx t]

theorem rdV (c : Dev nD) (t : Fin cfg0.N) (k : Fin 2048) (d : Fin 128) (bb : Fin 4) (n : Fin 5632) (hb : bb.val = t.val / 32)
    (hn : n.val = 2048 + (t.val / 4 % 8 * 128 + d.val)) :
    k0_pay27 (iblk m c 2 t) (ix2 k d) = m ((c : Thread nD τ).loc main_arg0) (ix3 bb k n) := by
  pointwise [k0_pay27]
  blk_ext [iblk, V, idx t]

theorem rdQ (c : Dev nD) (t : Fin cfg0.N) (r : Fin 512) (d : Fin 128) (bb : Fin 4) (k : Fin 2048) (n : Fin 5632) (hb : bb.val = t.val / 32)
    (hk : k.val = t.val % 4 * 512 + r.val) (hn : n.val = t.val / 4 % 8 * 128 + d.val) :
    iblk m c 0 t (ix3 (0 : Fin 1) r d) = m ((c : Thread nD τ).loc main_arg0) (ix3 bb k n) := by
  blk_ext [iblk, V, idx t]

/-- Two rank-three indices with equal coordinates are equal. -/
theorem ix3_congr {n0 n1 n2 : ℕ} {a a' : Fin n0} {b b' : Fin n1} {d d' : Fin n2} (h0 : a.val = a'.val) (h1 : b.val = b'.val) (h2 : d.val = d'.val) :
    ix3 a b d = ix3 a' b' d' := by
  rw [Fin.ext h0, Fin.ext h1, Fin.ext h2]

theorem rdC (c : Dev nD) (t : Fin cfg0.N) (b : Fin 4) (x : Fin 512) (bb : Fin 4) (k : Fin 2048) (n : Fin 128) (hb : bb.val = t.val / 32)
    (hk : k.val = b.val * 512 + x.val) (hn : n.val = t.val / 4 % 8) :
    iblk m c 3 t (ix3 (0 : Fin 1) b x) = m ((c : Thread nD τ).loc main_arg1) (ix3 bb k n) := by
  blk_simp [iblk]
  entry_read
  pointwise
  have e0 : (((View.whole main_v2).slice (win0_3.rect t)).emb (ix3 (0 : Fin 1) b x) 0 : ℕ) = t.val / 4 := by
    blk_simp [idx t]
    exact Nat.add_zero _
  have e1 : (((View.whole main_v2).slice (win0_3.rect t)).emb (ix3 (0 : Fin 1) b x) 1 : ℕ) = b.val := by blk_simp [idx t]
  have e2 : (((View.whole main_v2).slice (win0_3.rect t)).emb (ix3 (0 : Fin 1) b x) 2 : ℕ) = x.val := by blk_simp [idx t]
  refine congrArg (m ((c : Thread nD τ).loc main_arg1)) (ix3_congr ?_ ?_ ?_)
  · show _ / 8 = bb.val
    rw [e0]; omega
  · show _ * 512 + _ = k.val
    rw [e1, e2]; omega
  · show _ % 8 = n.val
    rw [e0]; omega

theorem ldK0 (Z : FVec Ideal S2048x128 .bf16) (x : Fin 512) (d : Fin 128) :
    View.ld (Val := Elt Ideal) (e' := .bf16) Z (Rect.unit ![0, 0] ![512, 128] inb_S2048x128_S512x128_0_0) (ix2 x d) = Z (ix2 (bk 0 x) d) := by
  refine congrArg Z (funext fun a => Fin.ext ?_)
  refine (Rect.idx_unit_val _ _ _ _ a).trans ?_
  match a with
  | ⟨0, _⟩ => rfl
  | ⟨1, _⟩ => exact Nat.zero_add _

theorem ldC0 (Z : FVec Ideal S1x4x512 .f32) (x : Fin 512) :
    View.ld (Val := Elt Ideal) (e' := .f32) Z (Rect.unit ![0, 0, 0] ![1, 1, 512] inb_S1x4x512_S1x1x512_0_0_0) (ix3 (0 : Fin 1) (0 : Fin 1) x) = Z (ix3 (0 : Fin 1) (0 : Fin 4) x) := by
  refine congrArg Z (funext fun a => Fin.ext ?_)
  refine (Rect.idx_unit_val _ _ _ _ a).trans ?_
  match a with
  | ⟨0, _⟩ => rfl
  | ⟨1, _⟩ => rfl
  | ⟨2, _⟩ => exact Nat.zero_add _

theorem ldK1 (Z : FVec Ideal S2048x128 .bf16) (x : Fin 512) (d : Fin 128) :
    View.ld (Val := Elt Ideal) (e' := .bf16) Z (Rect.unit ![512, 0] ![512, 128] inb_S2048x128_S512x128_512_0) (ix2 x d) = Z (ix2 (bk 1 x) d) := by
  refine congrArg Z (funext fun a => Fin.ext ?_)
  refine (Rect.idx_unit_val _ _ _ _ a).trans ?_
  match a with
  | ⟨0, _⟩ => rfl
  | ⟨1, _⟩ => exact Nat.zero_add _

theorem ldC1 (Z : FVec Ideal S1x4x512 .f32) (x : Fin 512) :
    View.ld (Val := Elt Ideal) (e' := .f32) Z (Rect.unit ![0, 1, 0] ![1, 1, 512] inb_S1x4x512_S1x1x512_0_1_0) (ix3 (0 : Fin 1) (0 : Fin 1) x) = Z (ix3 (0 : Fin 1) (1 : Fin 4) x) := by
  refine congrArg Z (funext fun a => Fin.ext ?_)
  refine (Rect.idx_unit_val _ _ _ _ a).trans ?_
  match a with
  | ⟨0, _⟩ => rfl
  | ⟨1, _⟩ => rfl
  | ⟨2, _⟩ => exact Nat.zero_add _

theorem ldK2 (Z : FVec Ideal S2048x128 .bf16) (x : Fin 512) (d : Fin 128) :
    View.ld (Val := Elt Ideal) (e' := .bf16) Z (Rect.unit ![1024, 0] ![512, 128] inb_S2048x128_S512x128_1024_0) (ix2 x d) = Z (ix2 (bk 2 x) d) := by
  refine congrArg Z (funext fun a => Fin.ext ?_)
  refine (Rect.idx_unit_val _ _ _ _ a).trans ?_
  match a with
  | ⟨0, _⟩ => rfl
  | ⟨1, _⟩ => exact Nat.zero_add _

theorem ldC2 (Z : FVec Ideal S1x4x512 .f32) (x : Fin 512) :
    View.ld (Val := Elt Ideal) (e' := .f32) Z (Rect.unit ![0, 2, 0] ![1, 1, 512] inb_S1x4x512_S1x1x512_0_2_0) (ix3 (0 : Fin 1) (0 : Fin 1) x) = Z (ix3 (0 : Fin 1) (2 : Fin 4) x) := by
  refine congrArg Z (funext fun a => Fin.ext ?_)
  refine (Rect.idx_unit_val _ _ _ _ a).trans ?_
  match a with
  | ⟨0, _⟩ => rfl
  | ⟨1, _⟩ => rfl
  | ⟨2, _⟩ => exact Nat.zero_add _

theorem ldK3 (Z : FVec Ideal S2048x128 .bf16) (x : Fin 512) (d : Fin 128) :
    View.ld (Val := Elt Ideal) (e' := .bf16) Z (Rect.unit ![1536, 0] ![512, 128] inb_S2048x128_S512x128_1536_0) (ix2 x d) = Z (ix2 (bk 3 x) d) := by
  refine congrArg Z (funext fun a => Fin.ext ?_)
  refine (Rect.idx_unit_val _ _ _ _ a).trans ?_
  match a with
  | ⟨0, _⟩ => rfl
  | ⟨1, _⟩ => exact Nat.zero_add _

theorem ldC3 (Z : FVec Ideal S1x4x512 .f32) (x : Fin 512) :
    View.ld (Val := Elt Ideal) (e' := .f32) Z (Rect.unit ![0, 3, 0] ![1, 1, 512] inb_S1x4x512_S1x1x512_0_3_0) (ix3 (0 : Fin 1) (0 : Fin 1) x) = Z (ix3 (0 : Fin 1) (3 : Fin 4) x) := by
  refine congrArg Z (funext fun a => Fin.ext ?_)
  refine (Rect.idx_unit_val _ _ _ _ a).trans ?_
  match a with
  | ⟨0, _⟩ => rfl
  | ⟨1, _⟩ => rfl
  | ⟨2, _⟩ => exact Nat.zero_add _

/-- What the two scratch tiles hold after any grid point: the whole sequence's keys and values of that point's head. -/
theorem scr (c : Dev nD) : ∀ (n : ℕ) (h : n < cfg0.N),
    (outsAt0 m c n h).2 = (k0_pay26 (iblk m c 1 ⟨n, h⟩), k0_pay27 (iblk m c 2 ⟨n, h⟩)) := by
  intro n
  induction n with
  | zero =>
    intro h
    exact scrA m c ⟨0, h⟩ rfl
  | succ n ih =>
    intro h
    by_cases h0 : (n + 1) % 4 = 0
    · exact scrA m c ⟨n + 1, h⟩ h0
    · have hn : n < cfg0.N := by omega
      have e := scrB m c ⟨n + 1, h⟩ h0 hn
      rw [show (outsAt0 m c (n + 1) h).2 = (outsAt0 m c n hn).2 from e, ih hn,
        iblk1_eq m c ⟨n + 1, h⟩ ⟨n, hn⟩ (by show (n + 1) / 4 = n / 4; omega), iblk2_eq m c ⟨n + 1, h⟩ ⟨n, hn⟩ (by show (n + 1) / 4 = n / 4; omega)]

/-- The tiles read at a point that does not fill them. -/
theorem scr_prev (c : Dev nD) (t : Fin cfg0.N) (h0 : ¬t.val % 4 = 0) (hn : t.val - 1 < cfg0.N) :
    (outsAt0 m c (t.val - 1) hn).2 = (k0_pay26 (iblk m c 1 t), k0_pay27 (iblk m c 2 t)) := by
  rw [← scrB m c t h0 hn, scr m c t.val t.isLt]

/-- A grid point's output entry of real data: attention at its sequence, head, query and lane. -/
theorem point (c : Dev nD) (x : Fin 4 → Fin 2048 → Fin 5632 → ℝ) (cr : Fin 4 → Fin 2048 → Fin 128 → ℝ)
    (hX : ∀ b t n, m ((c : Thread nD τ).loc main_arg0) (ix3 b t n) = (x b t n : EReal))
    (hC : ∀ b t n, m ((c : Thread nD τ).loc main_arg1) (ix3 b t n) = (cr b t n : EReal))
    (t : Fin cfg0.N) (b : Fin 4) (h : Fin 8) (hb : b.val = t.val / 32) (hh : h.val = t.val / 4 % 8) (r : Fin 512) (d : Fin 128)
    (T : Fin 2048) (hT : T.val = t.val % 4 * 512 + r.val) :
    (outsAt0 m c t.val t.isLt).1 (ix3 (0 : Fin 1) r d)
      = ((attn (fun e => x b T ⟨h.val * 128 + e.val, by omega⟩) (fun k e => x b k ⟨1024 + (h.val * 128 + e.val), by omega⟩)
          (fun k => cr b k ⟨h.val, by omega⟩) T.val (fun k => x b k ⟨2048 + (h.val * 128 + d.val), by omega⟩) : ℝ) : EReal) := by
  have h4 : t.val % 4 = 0 ∨ t.val % 4 = 1 ∨ t.val % 4 = 2 ∨ t.val % 4 = 3 := by omega
  have hq : ∀ e, iblk m c 0 t (ix3 (0 : Fin 1) r e) = ((fun e => x b T ⟨h.val * 128 + e.val, by omega⟩ : Fin 128 → ℝ) e : EReal) := fun e =>
    (rdQ m c t r e b T ⟨h.val * 128 + e.val, by omega⟩ hb hT (by show h.val * 128 + e.val = _; rw [hh])).trans (hX _ _ _)
  have hQ : ∀ e, k0_pay28 (iblk m c 0 t) (ix2 r e) = ((fun e => x b T ⟨h.val * 128 + e.val, by omega⟩ : Fin 128 → ℝ) e : EReal)
      * (((Real.sqrt 128)⁻¹ * (Real.log 2)⁻¹ : ℝ) : EReal) := fun e => by rw [q_at, hq]
  have hK : ∀ (k : Fin 2048) (e : Fin 128), k0_pay26 (iblk m c 1 t) (ix2 k e)
      = ((fun k e => x b k ⟨1024 + (h.val * 128 + e.val), by omega⟩ : Fin 2048 → Fin 128 → ℝ) k e : EReal) := fun k e =>
    (rdK m c t k e b ⟨1024 + (h.val * 128 + e.val), by omega⟩ hb (by show 1024 + (h.val * 128 + e.val) = _; rw [hh])).trans (hX _ _ _)
  have hV : ∀ (k : Fin 2048) (e : Fin 128), k0_pay27 (iblk m c 2 t) (ix2 k e)
      = ((fun k e => x b k ⟨2048 + (h.val * 128 + e.val), by omega⟩ : Fin 2048 → Fin 128 → ℝ) k e : EReal) := fun k e =>
    (rdV m c t k e b ⟨2048 + (h.val * 128 + e.val), by omega⟩ hb (by show 2048 + (h.val * 128 + e.val) = _; rw [hh])).trans (hX _ _ _)
  have hc : ∀ (a : Fin 4) (y : Fin 512), iblk m c 3 t (ix3 (0 : Fin 1) a y)
      = ((fun k => cr b k ⟨h.val, by omega⟩ : Fin 2048 → ℝ) (bk a y) : EReal) := fun a y =>
    (rdC m c t a y b (bk a y) ⟨h.val, by omega⟩ hb rfl hh).trans (hC _ _ _)
  have hoff : ∀ n : ℕ, t.val % 4 = n → Scalar.addi 0#32 (Scalar.muli (BitVec.ofNat 32 (grid0.coords t 2).val) 512#32) = BitVec.ofNat 32 (n * 512) := by
    intro n hn
    rw [offs t, hn]
    have : n < 4 := by omega
    interval_cases n <;> rfl
  have hn : t.val - 1 < cfg0.N := Nat.lt_of_le_of_lt (Nat.sub_le _ _) t.isLt
  rcases h4 with h0 | h0 | h0 | h0
  · have hT' : T.val = 0 * 512 + r.val := by rw [hT, h0]
    rw [outsAt0_A m c t h0 h0 (by rw [h0]; decide) (by rw [h0]; decide) (by rw [h0]; decide), hT']
    frame_out
    rw [View.readCov_eq_canon', View.readCov_eq_canon', View.canon_cons_unit_lit _ _ _ (by decide), View.canon_cons_unit_lit _ _ _ (by decide)]
    exact caseA (q := fun e => x b T ⟨h.val * 128 + e.val, by omega⟩) (K := fun k e => x b k ⟨1024 + (h.val * 128 + e.val), by omega⟩)
      (C := fun k => cr b k ⟨h.val, by omega⟩) (V := fun k e => x b k ⟨2048 + (h.val * 128 + e.val), by omega⟩)
      (grid0.coords t) (by rw [offs t, h0]) hq (fun y e => (ldK0 (k0_pay26 (iblk m c 1 t)) y e).trans (hK (bk 0 y) e)) (fun y => (ldC0 (iblk m c 3 t) y).trans (hc 0 y)) (fun y e => (ldK0 (k0_pay27 (iblk m c 2 t)) y e).trans (hV (bk 0 y) e))
      d
  · have hT' : T.val = 1 * 512 + r.val := by rw [hT, h0]
    rw [outsAt0_B m c t (by rw [h0]; decide) (by rw [h0]; decide) h0 (by rw [h0]; decide) (by rw [h0]; decide), hT']
    frame_out
    rw [scr_prev m c t (by rw [h0]; decide) hn, read_unread_whole, read_unread_whole]
    exact caseB (q := fun e => x b T ⟨h.val * 128 + e.val, by omega⟩) (K := fun k e => x b k ⟨1024 + (h.val * 128 + e.val), by omega⟩)
      (C := fun k => cr b k ⟨h.val, by omega⟩) (V := fun k e => x b k ⟨2048 + (h.val * 128 + e.val), by omega⟩)
      (hoff 1 h0) hQ (fun y e => (ldK0 (k0_pay26 (iblk m c 1 t)) y e).trans (hK (bk 0 y) e)) (fun y => (ldC0 (iblk m c 3 t) y).trans (hc 0 y)) (fun y e => (ldK0 (k0_pay27 (iblk m c 2 t)) y e).trans (hV (bk 0 y) e))
      (fun y e => (ldK1 (k0_pay26 (iblk m c 1 t)) y e).trans (hK (bk 1 y) e)) (fun y => (ldC1 (iblk m c 3 t) y).trans (hc 1 y)) (fun y e => (ldK1 (k0_pay27 (iblk m c 2 t)) y e).trans (hV (bk 1 y) e))
      d
  · have hT' : T.val = 2 * 512 + r.val := by rw [hT, h0]
    rw [outsAt0_C m c t (by rw [h0]; decide) (by rw [h0]; decide) (by rw [h0]; decide) h0 (by rw [h0]; decide), hT']
    frame_out
    rw [scr_prev m c t (by rw [h0]; decide) hn, read_unread_whole, read_unread_whole]
    exact caseC (q := fun e => x b T ⟨h.val * 128 + e.val, by omega⟩) (K := fun k e => x b k ⟨1024 + (h.val * 128 + e.val), by omega⟩)
      (C := fun k => cr b k ⟨h.val, by omega⟩) (V := fun k e => x b k ⟨2048 + (h.val * 128 + e.val), by omega⟩)
      (hoff 2 h0) hQ (fun y e => (ldK0 (k0_pay26 (iblk m c 1 t)) y e).trans (hK (bk 0 y) e)) (fun y => (ldC0 (iblk m c 3 t) y).trans (hc 0 y)) (fun y e => (ldK0 (k0_pay27 (iblk m c 2 t)) y e).trans (hV (bk 0 y) e))
      (fun y e => (ldK1 (k0_pay26 (iblk m c 1 t)) y e).trans (hK (bk 1 y) e)) (fun y => (ldC1 (iblk m c 3 t) y).trans (hc 1 y)) (fun y e => (ldK1 (k0_pay27 (iblk m c 2 t)) y e).trans (hV (bk 1 y) e))
      (fun y e => (ldK2 (k0_pay26 (iblk m c 1 t)) y e).trans (hK (bk 2 y) e)) (fun y => (ldC2 (iblk m c 3 t) y).trans (hc 2 y)) (fun y e => (ldK2 (k0_pay27 (iblk m c 2 t)) y e).trans (hV (bk 2 y) e))
      d
  · have hT' : T.val = 3 * 512 + r.val := by rw [hT, h0]
    rw [outsAt0_D m c t (by rw [h0]; decide) (by rw [h0]; decide) (by rw [h0]; decide) (by rw [h0]; decide) h0, hT']
    frame_out
    rw [scr_prev m c t (by rw [h0]; decide) hn, read_unread_whole, read_unread_whole]
    exact caseD (q := fun e => x b T ⟨h.val * 128 + e.val, by omega⟩) (K := fun k e => x b k ⟨1024 + (h.val * 128 + e.val), by omega⟩)
      (C := fun k => cr b k ⟨h.val, by omega⟩) (V := fun k e => x b k ⟨2048 + (h.val * 128 + e.val), by omega⟩)
      (hoff 3 h0) hQ (fun y e => (ldK0 (k0_pay26 (iblk m c 1 t)) y e).trans (hK (bk 0 y) e)) (fun y => (ldC0 (iblk m c 3 t) y).trans (hc 0 y)) (fun y e => (ldK0 (k0_pay27 (iblk m c 2 t)) y e).trans (hV (bk 0 y) e))
      (fun y e => (ldK1 (k0_pay26 (iblk m c 1 t)) y e).trans (hK (bk 1 y) e)) (fun y => (ldC1 (iblk m c 3 t) y).trans (hc 1 y)) (fun y e => (ldK1 (k0_pay27 (iblk m c 2 t)) y e).trans (hV (bk 1 y) e))
      (fun y e => (ldK2 (k0_pay26 (iblk m c 1 t)) y e).trans (hK (bk 2 y) e)) (fun y => (ldC2 (iblk m c 3 t) y).trans (hc 2 y)) (fun y e => (ldK2 (k0_pay27 (iblk m c 2 t)) y e).trans (hV (bk 2 y) e))
      (fun y e => (ldK3 (k0_pay26 (iblk m c 1 t)) y e).trans (hK (bk 3 y) e)) (fun y => (ldC3 (iblk m c 3 t) y).trans (hc 3 y)) (fun y e => (ldK3 (k0_pay27 (iblk m c 2 t)) y e).trans (hV (bk 3 y) e))
      d

/-- The result array, of real data: the reference's result of the two arguments. -/
theorem final (c : Dev nD) (x : Fin 4 → Fin 2048 → Fin 5632 → ℝ) (cr : Fin 4 → Fin 2048 → Fin 128 → ℝ)
    (hX : ∀ b t n, m ((c : Thread nD τ).loc main_arg0) (ix3 b t n) = (x b t n : EReal))
    (hC : ∀ b t n, m ((c : Thread nD τ).loc main_arg1) (ix3 b t n) = (cr b t n : EReal)) :
    (dats m 0 c).arrAt 4 cfg0.N
      = Cert.ReferenceIdeal.Val.REF (m ((c : Thread nD τ).loc main_arg0)) (m ((c : Thread nD τ).loc main_arg1)) := by
  refine (dats m 0 c).arrAt_eq_of_covers 4 _ (by decide +kernel) fun t hf y => ?_
  blk_simp
  rw [after0_4]
  have ht : t.val < 128 := t.isLt
  have hr : (y 1).val < 512 := (y 1).isLt
  have hd : (y 2).val < 128 := (y 2).isLt
  have hy : y = ix3 (0 : Fin 1) (⟨(y 1).val, hr⟩ : Fin 512) (⟨(y 2).val, hd⟩ : Fin 128) := by
    funext a
    apply Fin.ext
    fin_cases a
    · have h0 : (y 0).val < 1 := (y 0).isLt
      show (y 0).val = 0
      omega
    · rfl
    · rfl
  have hT : t.val % 4 * 512 + (y 1).val < 2048 := by omega
  have hh : t.val / 4 % 8 * 128 + (y 2).val < 1024 := by omega
  have he : (win0_4.blk t).view.emb y = (ix3 (⟨t.val / 32, by omega⟩ : Fin 4) (⟨t.val % 4 * 512 + (y 1).val, hT⟩ : Fin 2048)
      (⟨t.val / 4 % 8 * 128 + (y 2).val, hh⟩ : Fin 1024)) := by
    blk_ext [idx t]
  rw [he, Cert.ReferenceIdeal.Val.REF_real x cr _ _ hX hC ⟨t.val / 32, by omega⟩ ⟨t.val % 4 * 512 + (y 1).val, hT⟩ ⟨t.val / 4 % 8, by omega⟩ ⟨(y 2).val, hd⟩]
  refine (congrArg _ hy).trans ?_
  exact point m c x cr hX hC t ⟨t.val / 32, by omega⟩ ⟨t.val / 4 % 8, by omega⟩ rfl rfl ⟨(y 1).val, hr⟩ ⟨(y 2).val, hd⟩ ⟨t.val % 4 * 512 + (y 1).val, hT⟩ rfl

end Cert.KernelIdeal.Val

end
-- ==== Proof.Finite.lean ====
/- The precondition read: where it holds, every entry of both arguments is a real number. -/
module

public import proofs.«01_k».proof.Pre_finite_inputs
public import Idealize.ShloMosaic.Lib.ReduceAll
public import Idealize.ShloMosaic.Lib.Pipeline.ValueKit

@[expose] public section

set_option maxRecDepth 16384

noncomputable section

namespace Cert.Pre_finite_inputs.Val

open Idealize.ShloMosaic

/-- The side conditions the precondition's operations take. -/
instance facts : Cert.Pre_finite_inputs.Facts where
  bcast_S_S4x2048x5632 := by decide
  reducesTo_S4x2048x5632_S_d0_1_2 := by decide
  h_S_ := by decide
  bcast_S_S4x2048x128 := by decide
  reducesTo_S4x2048x128_S_d0_1_2 := by decide

/-- The word the arguments are compared with is plus infinity. -/
theorem inf_word : (FloatOps.ofBits .f32 0x7F800000#32 : Ideal .f32) = (⊤ : EReal) := by
  show Ideal.ofBits .f32 0x7F800000#32 = _
  simp [Ideal.ofBits, Ideal.ieee]

/-- An extended real whose absolute value is below plus infinity is a real number. -/
theorem real_of_abs (a : EReal) (h : (FloatOps.cmpf (F := Ideal) (φ := .f32) .olt (FloatOps.absf (F := Ideal) (φ := .f32) a) (⊤ : EReal)) = 1#1) :
    a = ((a.toReal : ℝ) : EReal) := by
  induction a with
  | bot => simp [FloatOps.cmpf, FloatOps.absf, Ideal.cmp] at h
  | top => simp [FloatOps.cmpf, FloatOps.absf, Ideal.cmp] at h
  | coe r => rfl

instance : Subsingleton S_.Idx := ⟨fun a b => funext fun i => i.elim0⟩

variable (X : FVec Ideal S4x2048x5632 .f32) (C : FVec Ideal S4x2048x128 .f32)

/-- Both reductions of the precondition are one. -/
theorem both (h : Cert.Pre_finite_inputs.fn (F := Ideal) X C = fun _ => 1#1) :
    (∀ i, X i = (((X i).toReal : ℝ) : EReal)) ∧ ∀ i, C i = (((C i).toReal : ℝ) : EReal) := by
  obtain ⟨h1, h2⟩ := IntOp.andi_eq_one.1 (congrFun h (fun i => i.elim0))
  refine ⟨fun i => ?_, fun i => ?_⟩
  · have := Host.reduce_andi_all _ _ _ _ _ h1 i
    refine real_of_abs _ ?_
    rw [← inf_word]
    exact this
  · have := Host.reduce_andi_all _ _ _ _ _ h2 i
    refine real_of_abs _ ?_
    rw [← inf_word]
    exact this

end Cert.Pre_finite_inputs.Val

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.FfnUp.Frame
public import proofs.«01_k».proof.Proof.Gen.FfnUpIdeal.Value
public import proofs.«01_k».proof.Proof.Gen.FfnUpRefIdeal.Run
public import proofs.«01_k».proof.Proof.FfnUp
public import proofs.«01_k».proof.Proof.Gen.FfnDown.Frame
public import proofs.«01_k».proof.Proof.Gen.FfnDownIdeal.Value
public import proofs.«01_k».proof.Proof.Gen.FfnDownRefIdeal.Run
public import proofs.«01_k».proof.Proof.FfnDown
public import proofs.«01_k».proof.Proof.Gen.OutProj.Frame
public import proofs.«01_k».proof.Proof.Gen.OutProjIdeal.Value
public import proofs.«01_k».proof.Proof.Gen.OutProjRefIdeal.Run
public import proofs.«01_k».proof.Proof.OutProj
public import proofs.«01_k».proof.Proof.Gen.FoxPrep.Frame
public import proofs.«01_k».proof.Proof.Gen.FoxPrepIdeal.Value
public import proofs.«01_k».proof.Proof.Gen.FoxPrepRefIdeal.Run
public import proofs.«01_k».proof.Proof.FoxPrep
public import proofs.«01_k».proof.Proof.Gen.EvenProj.Frame
public import proofs.«01_k».proof.Proof.Gen.EvenProj.Skeleton
public import proofs.«01_k».proof.Proof.Gen.EvenProjIdeal.Frame
public import proofs.«01_k».proof.Proof.Gen.EvenProjIdeal.Skeleton
public import proofs.«01_k».proof.Proof.Gen.EvenProjRefIdeal.Run
public import proofs.«01_k».proof.Proof.EvenWords
public import proofs.«01_k».proof.Proof.EvenVal
public import proofs.«01_k».proof.Proof.Gen.OddProj.Frame
public import proofs.«01_k».proof.Proof.Gen.OddProj.Skeleton
public import proofs.«01_k».proof.Proof.Gen.OddProjIdeal.Frame
public import proofs.«01_k».proof.Proof.Gen.OddProjIdeal.Skeleton
public import proofs.«01_k».proof.Proof.Gen.OddProjRefIdeal.Run
public import proofs.«01_k».proof.Proof.OddWords
public import proofs.«01_k».proof.Proof.OddVal
public import proofs.«01_k».proof.Proof.Gen.FfnDownS.Frame
public import proofs.«01_k».proof.Proof.Gen.FfnDownSIdeal.Value
public import proofs.«01_k».proof.Proof.Gen.FfnDownSRefIdeal.Run
public import proofs.«01_k».proof.Proof.FfnDownS
public import proofs.«01_k».proof.Proof.Gen.FoxPrepS.Frame
public import proofs.«01_k».proof.Proof.Gen.FoxPrepSIdeal.Value
public import proofs.«01_k».proof.Proof.Gen.FoxPrepSRefIdeal.Run
public import proofs.«01_k».proof.Proof.FoxPrepS
public import proofs.«01_k».proof.Proof.Flash
public import proofs.«01_k».proof.Proof.FoxRef
public import proofs.«01_k».proof.Proof.Finite
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-! ## The attention of the prompt -/

/-- The reference's run ends, its arguments kept and every semaphore at zero. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run Cert.ReferenceIdeal.defs _ _).mono
    (fun r h => ⟨fun c => ⟨(h c).2.1, (h c).2.2⟩, Idealize.ShloMosaic.sem_eq_zero_of_no_sems (by decide) r.2⟩)
    (Cert.ReferenceIdeal.Value.run (F := Ideal) m ρ)

/-- The three constants the kernel multiplies or masks by, as the real numbers they stand for. -/
theorem preserves_attention : Cert.preserves_Kernel_KernelIdeal :=
  ⟨IdealRules.named_const.statement Cert.KernelIdeal.κ "scale_log2e" .f32 0x3E0293EE#32 (((Real.sqrt 128)⁻¹ * (Real.log 2)⁻¹ : ℝ) : EReal) rfl,
    IdealRules.named_const.statement Cert.KernelIdeal.κ "log2e" .f32 0x3FB8AA3B#32 (((Real.log 2)⁻¹ : ℝ) : EReal) rfl,
    IdealRules.named_const.statement Cert.KernelIdeal.κ "neg" .f32 0xF149F2CA#32 ⊥ rfl⟩

/-- Of finite inputs the attention kernel and its reference end with the same array. -/
theorem algebraic_attention : Cert.algebraic_KernelIdeal_ReferenceIdeal_pre_finite_inputs
    (hKernelIdeal := Cert.KernelIdeal.Gen.facts) (hReferenceIdeal := Cert.ReferenceIdeal.Gen.facts) (hPre_finite_inputs := Cert.Pre_finite_inputs.Val.facts) := by
  intro m ρ m' ρ' hpre hagree
  refine ⟨fun c => Cert.ReferenceIdeal.Val.REF (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    (θ_run _ _ _).mono (fun r h c => ⟨(h c).1.trans ?_, (h c).2⟩) (Cert.KernelIdeal.Value.run_blocks (F := Ideal) m ρ),
    (θ_run _ _ _).mono (fun r h c => ⟨(h c).1.trans ?_, (h c).2⟩) (Cert.ReferenceIdeal.Value.run (F := Ideal) m' ρ')⟩
  · obtain ⟨hX, hC⟩ := Cert.Pre_finite_inputs.Val.both _ _ (hpre c)
    exact Cert.KernelIdeal.Val.final m c (fun b t n => (m ((c.tc : Thread Cert.KernelIdeal.nD Cert.KernelIdeal.τ).loc Cert.KernelIdeal.main_arg0) (ix3 b t n)).toReal)
      (fun b t n => (m ((c.tc : Thread Cert.KernelIdeal.nD Cert.KernelIdeal.τ).loc Cert.KernelIdeal.main_arg1) (ix3 b t n)).toReal)
      (fun b t n => hX (ix3 b t n)) (fun b t n => hC (ix3 b t n))
  · refine (Cert.ReferenceIdeal.Val.res_eq m' c).trans ?_
    rw [(hagree c).1, (hagree c).2]

/-! ## The up projection of the feed-forward layer -/

/-- The reference's run ends, its arguments kept and every semaphore at zero. -/
theorem frame_FfnUpRef : Cert.quiescent_FfnUpRefIdeal (hFfnUpRefIdeal := Cert.FfnUpRefIdeal.Gen.facts) :=
  fun m ρ _ => (θ_run Cert.FfnUpRefIdeal.defs _ _).mono
    (fun r h => ⟨fun c => (h c).2, Idealize.ShloMosaic.sem_eq_zero_of_no_sems (by decide) r.2⟩)
    (Cert.FfnUpRefIdeal.Value.run (F := Ideal) m ρ)

/-- The kernel and its reference end with the same array. -/
theorem algebraic_FfnUp : Cert.algebraic_FfnUpIdeal_FfnUpRefIdeal (hFfnUpIdeal := Cert.FfnUpIdeal.Gen.facts) (hFfnUpRefIdeal := Cert.FfnUpRefIdeal.Gen.facts) := by
  intro m ρ m' ρ' _ hagree
  refine ⟨fun c => Cert.FfnUpIdeal.Val.REF (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)) (m ((c.tc : Thread Cert.FfnUpIdeal.nD Cert.FfnUpIdeal.τ).loc Cert.FfnUpIdeal.main_arg2)) (m ((c.tc : Thread Cert.FfnUpIdeal.nD Cert.FfnUpIdeal.τ).loc Cert.FfnUpIdeal.main_arg3)),
    (θ_run _ _ _).mono (fun r h c => ⟨(h c).1.trans (Cert.FfnUpIdeal.Val.final m c), (h c).2⟩) (Cert.FfnUpIdeal.Value.run_blocks (F := Ideal) m ρ),
    (θ_run _ _ _).mono (fun r h c => ⟨(h c).1.trans ?_, (h c).2⟩) (Cert.FfnUpRefIdeal.Value.run (F := Ideal) m' ρ')⟩
  rw [(hagree c).1, (hagree c).2.1, (hagree c).2.2.1, (hagree c).2.2.2]
  rfl

/-! ## The down projection of the feed-forward layer -/

/-- The reference's run ends, its arguments kept and every semaphore at zero. -/
theorem frame_FfnDownRef : Cert.quiescent_FfnDownRefIdeal (hFfnDownRefIdeal := Cert.FfnDownRefIdeal.Gen.facts) :=
  fun m ρ _ => (θ_run Cert.FfnDownRefIdeal.defs _ _).mono
    (fun r h => ⟨fun c => (h c).2, Idealize.ShloMosaic.sem_eq_zero_of_no_sems (by decide) r.2⟩)
    (Cert.FfnDownRefIdeal.Value.run (F := Ideal) m ρ)

/-- The kernel and its reference end with the same array. -/
theorem algebraic_FfnDown : Cert.algebraic_FfnDownIdeal_FfnDownRefIdeal (hFfnDownIdeal := Cert.FfnDownIdeal.Gen.facts) (hFfnDownRefIdeal := Cert.FfnDownRefIdeal.Gen.facts) := by
  intro m ρ m' ρ' _ hagree
  refine ⟨fun c => Cert.FfnDownIdeal.Val.REF (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1)) (m ((c.tc : Thread Cert.FfnDownIdeal.nD Cert.FfnDownIdeal.τ).loc Cert.FfnDownIdeal.main_arg2)),
    (θ_run _ _ _).mono (fun r h c => ⟨(h c).1.trans (Cert.FfnDownIdeal.Val.final m c), (h c).2⟩) (Cert.FfnDownIdeal.Value.run_blocks (F := Ideal) m ρ),
    (θ_run _ _ _).mono (fun r h c => ⟨(h c).1.trans ?_, (h c).2⟩) (Cert.FfnDownRefIdeal.Value.run (F := Ideal) m' ρ')⟩
  rw [(hagree c).1, (hagree c).2.1, (hagree c).2.2]
  rfl

/-! ## The output projection -/

/-- The reference's run ends, its arguments kept and every semaphore at zero. -/
theorem frame_OutProjRef : Cert.quiescent_OutProjRefIdeal (hOutProjRefIdeal := Cert.OutProjRefIdeal.Gen.facts) :=
  fun m ρ _ => (θ_run Cert.OutProjRefIdeal.defs _ _).mono
    (fun r h => ⟨fun c => (h c).2, Idealize.ShloMosaic.sem_eq_zero_of_no_sems (by decide) r.2⟩)
    (Cert.OutProjRefIdeal.Value.run (F := Ideal) m ρ)

/-- The kernel and its reference end with the same array. -/
theorem algebraic_OutProj : Cert.algebraic_OutProjIdeal_OutProjRefIdeal (hOutProjIdeal := Cert.OutProjIdeal.Gen.facts) (hOutProjRefIdeal := Cert.OutProjRefIdeal.Gen.facts) := by
  intro m ρ m' ρ' _ hagree
  refine ⟨fun c => Cert.OutProjIdeal.Val.REF (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)),
    (θ_run _ _ _).mono (fun r h c => ⟨(h c).1.trans (Cert.OutProjIdeal.Val.final m c), (h c).2⟩) (Cert.OutProjIdeal.Value.run_blocks (F := Ideal) m ρ),
    (θ_run _ _ _).mono (fun r h c => ⟨(h c).1.trans ?_, (h c).2⟩) (Cert.OutProjRefIdeal.Value.run (F := Ideal) m' ρ')⟩
  rw [(hagree c).1, (hagree c).2.1, (hagree c).2.2.1, (hagree c).2.2.2]
  rfl

/-! ## The forget gates and their running sums -/

/-- The reference's run ends, its arguments kept and every semaphore at zero. -/
theorem frame_FoxPrepRef : Cert.quiescent_FoxPrepRefIdeal (hFoxPrepRefIdeal := Cert.FoxPrepRefIdeal.Gen.facts) :=
  fun m ρ _ => (θ_run Cert.FoxPrepRefIdeal.defs _ _).mono
    (fun r h => ⟨fun c => (h c).2.2, Idealize.ShloMosaic.sem_eq_zero_of_no_sems (by decide) r.2⟩)
    (Cert.FoxPrepRefIdeal.Value.run (F := Ideal) m ρ)

/-- The kernel and its reference end with the same two arrays. -/
theorem algebraic_FoxPrep : Cert.algebraic_FoxPrepIdeal_FoxPrepRefIdeal (hFoxPrepIdeal := Cert.FoxPrepIdeal.Gen.facts) (hFoxPrepRefIdeal := Cert.FoxPrepRefIdeal.Gen.facts) := by
  intro m ρ m' ρ' _ hagree
  refine ⟨fun c => Cert.FoxPrepIdeal.Val.REF2 (m ((c.tc : Thread Cert.FoxPrepIdeal.nD Cert.FoxPrepIdeal.τ).loc Cert.FoxPrepIdeal.main_arg0)) (m ((c.tc : Thread Cert.FoxPrepIdeal.nD Cert.FoxPrepIdeal.τ).loc Cert.FoxPrepIdeal.main_arg1)),
    fun c => Cert.FoxPrepIdeal.Val.REF3 (m ((c.tc : Thread Cert.FoxPrepIdeal.nD Cert.FoxPrepIdeal.τ).loc Cert.FoxPrepIdeal.main_arg0)) (m ((c.tc : Thread Cert.FoxPrepIdeal.nD Cert.FoxPrepIdeal.τ).loc Cert.FoxPrepIdeal.main_arg1)),
    (θ_run _ _ _).mono (fun r h c => ⟨(h c).1.trans (Cert.FoxPrepIdeal.Val.final2 m c), (h c).2.1.trans (Cert.FoxPrepIdeal.Val.final3 m c), (h c).2.2⟩) (Cert.FoxPrepIdeal.Value.run_blocks (F := Ideal) m ρ),
    (θ_run _ _ _).mono (fun r h c => ⟨(h c).1.trans ?_, (h c).2.1.trans ?_, (h c).2.2⟩) (Cert.FoxPrepRefIdeal.Value.run (F := Ideal) m' ρ')⟩
  · rw [(hagree c).1, (hagree c).2]
    rfl
  · rw [(hagree c).1, (hagree c).2]
    rfl

/-! ## The input projection of the even layer -/

/-- The reference's run ends, its arguments kept and every semaphore at zero. -/
theorem frame_EvenProjRef : Cert.quiescent_EvenProjRefIdeal (hEvenProjRefIdeal := Cert.EvenProjRefIdeal.Gen.facts) :=
  fun m ρ _ => (θ_run Cert.EvenProjRefIdeal.defs _ _).mono
    (fun r h => ⟨fun c => (h c).2.2, Idealize.ShloMosaic.sem_eq_zero_of_no_sems (by decide) r.2⟩)
    (Cert.EvenProjRefIdeal.Value.run (F := Ideal) m ρ)

/-- The kernel and its reference end with the same two arrays. -/
theorem algebraic_EvenProj : Cert.algebraic_EvenProjIdeal_EvenProjRefIdeal (hEvenProjIdeal := Cert.EvenProjIdeal.Gen.facts) (hEvenProjRefIdeal := Cert.EvenProjRefIdeal.Gen.facts) := by
  intro m ρ m' ρ' _ hagree
  refine ⟨fun c => Cert.EvenProjIdeal.Val.REF6 (m ((c.tc : Thread Cert.EvenProjIdeal.nD Cert.EvenProjIdeal.τ).loc Cert.EvenProjIdeal.main_arg0)) (m ((c.tc : Thread Cert.EvenProjIdeal.nD Cert.EvenProjIdeal.τ).loc Cert.EvenProjIdeal.main_arg1)) (m ((c.tc : Thread Cert.EvenProjIdeal.nD Cert.EvenProjIdeal.τ).loc Cert.EvenProjIdeal.main_arg2)) (m ((c.tc : Thread Cert.EvenProjIdeal.nD Cert.EvenProjIdeal.τ).loc Cert.EvenProjIdeal.main_arg3)) (m ((c.tc : Thread Cert.EvenProjIdeal.nD Cert.EvenProjIdeal.τ).loc Cert.EvenProjIdeal.main_arg4)) (m ((c.tc : Thread Cert.EvenProjIdeal.nD Cert.EvenProjIdeal.τ).loc Cert.EvenProjIdeal.main_arg5)) (m ((c.tc : Thread Cert.EvenProjIdeal.nD Cert.EvenProjIdeal.τ).loc Cert.EvenProjIdeal.main_arg6)),
    fun c => Cert.EvenProjIdeal.Val.REF7 (m ((c.tc : Thread Cert.EvenProjIdeal.nD Cert.EvenProjIdeal.τ).loc Cert.EvenProjIdeal.main_arg0)) (m ((c.tc : Thread Cert.EvenProjIdeal.nD Cert.EvenProjIdeal.τ).loc Cert.EvenProjIdeal.main_arg1)) (m ((c.tc : Thread Cert.EvenProjIdeal.nD Cert.EvenProjIdeal.τ).loc Cert.EvenProjIdeal.main_arg2)) (m ((c.tc : Thread Cert.EvenProjIdeal.nD Cert.EvenProjIdeal.τ).loc Cert.EvenProjIdeal.main_arg3)) (m ((c.tc : Thread Cert.EvenProjIdeal.nD Cert.EvenProjIdeal.τ).loc Cert.EvenProjIdeal.main_arg4)) (m ((c.tc : Thread Cert.EvenProjIdeal.nD Cert.EvenProjIdeal.τ).loc Cert.EvenProjIdeal.main_arg5)) (m ((c.tc : Thread Cert.EvenProjIdeal.nD Cert.EvenProjIdeal.τ).loc Cert.EvenProjIdeal.main_arg6)),
    (θ_run _ _ _).mono (fun r h c => ⟨(h c).1.trans (Cert.EvenProjIdeal.Val.final6 m c), (h c).2.1.trans (Cert.EvenProjIdeal.Val.final7 m c), (h c).2.2⟩) (Cert.EvenProjIdeal.Hand.run_blocks (F := Ideal) m ρ),
    (θ_run _ _ _).mono (fun r h c => ⟨(h c).1.trans ?_, (h c).2.1.trans ?_, (h c).2.2⟩) (Cert.EvenProjRefIdeal.Value.run (F := Ideal) m' ρ')⟩
  · refine (Cert.EvenProjIdeal.Val.ref6 m' c).trans ?_
    rw [(hagree c).1, (hagree c).2.1, (hagree c).2.2.1, (hagree c).2.2.2.1, (hagree c).2.2.2.2.1, (hagree c).2.2.2.2.2.1, (hagree c).2.2.2.2.2.2]
  · rw [(hagree c).1, (hagree c).2.1, (hagree c).2.2.1]
    rfl

/-! ## The input projection of the odd layer -/

/-- The reference's run ends, its arguments kept and every semaphore at zero. -/
theorem frame_OddProjRef : Cert.quiescent_OddProjRefIdeal (hOddProjRefIdeal := Cert.OddProjRefIdeal.Gen.facts) :=
  fun m ρ _ => (θ_run Cert.OddProjRefIdeal.defs _ _).mono
    (fun r h => ⟨fun c => (h c).2.2, Idealize.ShloMosaic.sem_eq_zero_of_no_sems (by decide) r.2⟩)
    (Cert.OddProjRefIdeal.Value.run (F := Ideal) m ρ)

/-- The kernel and its reference end with the same two arrays. -/
theorem algebraic_OddProj : Cert.algebraic_OddProjIdeal_OddProjRefIdeal (hOddProjIdeal := Cert.OddProjIdeal.Gen.facts) (hOddProjRefIdeal := Cert.OddProjRefIdeal.Gen.facts) := by
  intro m ρ m' ρ' _ hagree
  refine ⟨fun c => Cert.OddProjIdeal.Val.REF6 (m ((c.tc : Thread Cert.OddProjIdeal.nD Cert.OddProjIdeal.τ).loc Cert.OddProjIdeal.main_arg0)) (m ((c.tc : Thread Cert.OddProjIdeal.nD Cert.OddProjIdeal.τ).loc Cert.OddProjIdeal.main_arg1)) (m ((c.tc : Thread Cert.OddProjIdeal.nD Cert.OddProjIdeal.τ).loc Cert.OddProjIdeal.main_arg2)),
    fun c => Cert.OddProjIdeal.Val.REF7 (m ((c.tc : Thread Cert.OddProjIdeal.nD Cert.OddProjIdeal.τ).loc Cert.OddProjIdeal.main_arg0)) (m ((c.tc : Thread Cert.OddProjIdeal.nD Cert.OddProjIdeal.τ).loc Cert.OddProjIdeal.main_arg1)) (m ((c.tc : Thread Cert.OddProjIdeal.nD Cert.OddProjIdeal.τ).loc Cert.OddProjIdeal.main_arg2)),
    (θ_run _ _ _).mono (fun r h c => ⟨(h c).1.trans (Cert.OddProjIdeal.Val.final6 m c), (h c).2.1.trans (Cert.OddProjIdeal.Val.final7 m c), (h c).2.2⟩) (Cert.OddProjIdeal.Hand.run_blocks (F := Ideal) m ρ),
    (θ_run _ _ _).mono (fun r h c => ⟨(h c).1.trans ?_, (h c).2.1.trans ?_, (h c).2.2⟩) (Cert.OddProjRefIdeal.Value.run (F := Ideal) m' ρ')⟩
  · refine (Cert.OddProjIdeal.Val.ref6 m' c).trans ?_
    rw [(hagree c).1, (hagree c).2.1, (hagree c).2.2]
  · rw [(hagree c).1, (hagree c).2.1, (hagree c).2.2]
    rfl

/-! ## The forget gates of the sample -/

/-- The reference's run ends, its arguments kept and every semaphore at zero. -/
theorem frame_FoxPrepSRef : Cert.quiescent_FoxPrepSRefIdeal (hFoxPrepSRefIdeal := Cert.FoxPrepSRefIdeal.Gen.facts) :=
  fun m ρ _ => (θ_run Cert.FoxPrepSRefIdeal.defs _ _).mono
    (fun r h => ⟨fun c => (h c).2, Idealize.ShloMosaic.sem_eq_zero_of_no_sems (by decide) r.2⟩)
    (Cert.FoxPrepSRefIdeal.Value.run (F := Ideal) m ρ)

/-- The kernel and its reference end with the same gates. -/
theorem algebraic_FoxPrepS : Cert.algebraic_FoxPrepSIdeal_FoxPrepSRefIdeal (hFoxPrepSIdeal := Cert.FoxPrepSIdeal.Gen.facts) (hFoxPrepSRefIdeal := Cert.FoxPrepSRefIdeal.Gen.facts) := by
  intro m ρ m' ρ' _ hagree
  refine ⟨fun c => Cert.FoxPrepSIdeal.Val.REF (m ((c.tc : Thread Cert.FoxPrepSIdeal.nD Cert.FoxPrepSIdeal.τ).loc Cert.FoxPrepSIdeal.main_arg0)) (m ((c.tc : Thread Cert.FoxPrepSIdeal.nD Cert.FoxPrepSIdeal.τ).loc Cert.FoxPrepSIdeal.main_arg1)),
    (θ_run _ _ _).mono (fun r h c => ⟨(h c).1.trans (Cert.FoxPrepSIdeal.Val.final m c), (h c).2.2⟩) (Cert.FoxPrepSIdeal.Value.run_blocks (F := Ideal) m ρ),
    (θ_run _ _ _).mono (fun r h c => ⟨(h c).1.trans ?_, (h c).2⟩) (Cert.FoxPrepSRefIdeal.Value.run (F := Ideal) m' ρ')⟩
  rw [(hagree c).1, (hagree c).2]
  rfl

/-! ## The down projection of the sample's feed-forward layer -/

/-- The reference's run ends, its arguments kept and every semaphore at zero. -/
theorem frame_FfnDownSRef : Cert.quiescent_FfnDownSRefIdeal (hFfnDownSRefIdeal := Cert.FfnDownSRefIdeal.Gen.facts) :=
  fun m ρ _ => (θ_run Cert.FfnDownSRefIdeal.defs _ _).mono
    (fun r h => ⟨fun c => (h c).2, Idealize.ShloMosaic.sem_eq_zero_of_no_sems (by decide) r.2⟩)
    (Cert.FfnDownSRefIdeal.Value.run (F := Ideal) m ρ)

/-- The kernel and its reference end with the same array. -/
theorem algebraic_FfnDownS : Cert.algebraic_FfnDownSIdeal_FfnDownSRefIdeal (hFfnDownSIdeal := Cert.FfnDownSIdeal.Gen.facts) (hFfnDownSRefIdeal := Cert.FfnDownSRefIdeal.Gen.facts) := by
  intro m ρ m' ρ' _ hagree
  refine ⟨fun c => Cert.FfnDownSIdeal.Val.REF (m ((c.tc : Thread Cert.FfnDownSIdeal.nD Cert.FfnDownSIdeal.τ).loc Cert.FfnDownSIdeal.main_arg0)) (m ((c.tc : Thread Cert.FfnDownSIdeal.nD Cert.FfnDownSIdeal.τ).loc Cert.FfnDownSIdeal.main_arg1)) (m ((c.tc : Thread Cert.FfnDownSIdeal.nD Cert.FfnDownSIdeal.τ).loc Cert.FfnDownSIdeal.main_arg2)),
    (θ_run _ _ _).mono (fun r h c => ⟨(h c).1.trans (Cert.FfnDownSIdeal.Val.final m c), (h c).2⟩) (Cert.FfnDownSIdeal.Value.run_blocks (F := Ideal) m ρ),
    (θ_run _ _ _).mono (fun r h c => ⟨(h c).1.trans ?_, (h c).2⟩) (Cert.FfnDownSRefIdeal.Value.run (F := Ideal) m' ρ')⟩
  rw [(hagree c).1, (hagree c).2.1, (hagree c).2.2]
  rfl

/-! ## The certificate -/

/-- Everything the certificate claims. -/
theorem claim : Cert.Claim :=
  ⟨Cert.Kernel.Gen.facts, Cert.KernelIdeal.Gen.facts, Cert.ReferenceIdeal.Gen.facts, Cert.FoxPrep.Gen.facts, Cert.FoxPrepIdeal.Gen.facts, Cert.FoxPrepRefIdeal.Gen.facts, Cert.EvenProj.Gen.facts, Cert.EvenProjIdeal.Gen.facts, Cert.EvenProjRefIdeal.Gen.facts, Cert.OddProj.Gen.facts, Cert.OddProjIdeal.Gen.facts, Cert.OddProjRefIdeal.Gen.facts, Cert.FfnUp.Gen.facts, Cert.FfnUpIdeal.Gen.facts, Cert.FfnUpRefIdeal.Gen.facts, Cert.FfnDown.Gen.facts, Cert.FfnDownIdeal.Gen.facts, Cert.FfnDownRefIdeal.Gen.facts, Cert.OutProj.Gen.facts, Cert.OutProjIdeal.Gen.facts, Cert.OutProjRefIdeal.Gen.facts, Cert.FoxPrepS.Gen.facts, Cert.FoxPrepSIdeal.Gen.facts, Cert.FoxPrepSRefIdeal.Gen.facts, Cert.FfnDownS.Gen.facts, Cert.FfnDownSIdeal.Gen.facts, Cert.FfnDownSRefIdeal.Gen.facts, Cert.Pre_finite_inputs.Val.facts,
    fun m ρ _ => Cert.Kernel.Gen.frame m ρ,
    fun m ρ _ => Cert.KernelIdeal.Gen.frame m ρ,
    fun m ρ _ => Cert.KernelIdeal.Gen.frame m ρ,
    fun m ρ _ => frame_reference m ρ,
    fun m ρ _ => frame_reference m ρ,
    fun m ρ _ => Cert.FoxPrep.Gen.frame m ρ,
    fun m ρ _ => Cert.FoxPrepIdeal.Gen.frame m ρ,
    frame_FoxPrepRef,
    Cert.EvenProj.Hand.frame_words,
    fun m ρ _ => Cert.EvenProjIdeal.Hand.frame m ρ,
    frame_EvenProjRef,
    Cert.OddProj.Hand.frame_words,
    fun m ρ _ => Cert.OddProjIdeal.Hand.frame m ρ,
    frame_OddProjRef,
    fun m ρ _ => Cert.FfnUp.Gen.frame m ρ,
    fun m ρ _ => Cert.FfnUpIdeal.Gen.frame m ρ,
    frame_FfnUpRef,
    fun m ρ _ => Cert.FfnDown.Gen.frame m ρ,
    fun m ρ _ => Cert.FfnDownIdeal.Gen.frame m ρ,
    frame_FfnDownRef,
    fun m ρ _ => Cert.OutProj.Gen.frame m ρ,
    fun m ρ _ => Cert.OutProjIdeal.Gen.frame m ρ,
    frame_OutProjRef,
    fun m ρ _ => Cert.FoxPrepS.Gen.frame m ρ,
    fun m ρ _ => Cert.FoxPrepSIdeal.Gen.frame m ρ,
    frame_FoxPrepSRef,
    fun m ρ _ => Cert.FfnDownS.Gen.frame m ρ,
    fun m ρ _ => Cert.FfnDownSIdeal.Gen.frame m ρ,
    frame_FfnDownSRef,
    preserves_attention,
    algebraic_attention,
    trivial,
    algebraic_FoxPrep,
    trivial,
    algebraic_EvenProj,
    trivial,
    algebraic_OddProj,
    trivial,
    algebraic_FfnUp,
    trivial,
    algebraic_FfnDown,
    trivial,
    algebraic_OutProj,
    trivial,
    algebraic_FoxPrepS,
    trivial,
    algebraic_FfnDownS⟩

end Cert.Proof

end
